-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8x22536x4 : Shape := ⟨3, ![8, 22536, 4]⟩
abbrev S8x22536x81 : Shape := ⟨3, ![8, 22536, 81]⟩
abbrev S8x20x4 : Shape := ⟨3, ![8, 20, 4]⟩
abbrev S22536x4 : Shape := ⟨2, ![22536, 4]⟩
abbrev S8x20 : Shape := ⟨2, ![8, 20]⟩
abbrev S_ : Shape := ⟨0, ![]⟩
abbrev S22536x2 : Shape := ⟨2, ![22536, 2]⟩
abbrev S8x20x2 : Shape := ⟨3, ![8, 20, 2]⟩
abbrev S8x20x1x2 : Shape := ⟨4, ![8, 20, 1, 2]⟩
abbrev S1x1x22536x2 : Shape := ⟨4, ![1, 1, 22536, 2]⟩
abbrev S8x20x22536x2 : Shape := ⟨4, ![8, 20, 22536, 2]⟩
abbrev S8x20x22536x1 : Shape := ⟨4, ![8, 20, 22536, 1]⟩
abbrev S8x20x22536 : Shape := ⟨3, ![8, 20, 22536]⟩
abbrev S8x20x1 : Shape := ⟨3, ![8, 20, 1]⟩
abbrev S22536x1 : Shape := ⟨2, ![22536, 1]⟩
abbrev S22536 : Shape := ⟨1, ![22536]⟩
abbrev S1x1x22536 : Shape := ⟨3, ![1, 1, 22536]⟩

class Facts : Prop where
  bcast_S_S8x20 : S_.BroadcastsInDim S8x20 (![] : Fin 0 → Fin S8x20.rank)
  reducesTo_S8x20_S_d0_1 : S8x20.ReducesTo [0, 1] S_
  h_S_ : 0 < S_.numel
  slices_S22536x4_S22536x2_0_0 : S22536x4.Slices ![0, 0] S22536x2
  slices_S22536x4_S22536x2_0_2 : S22536x4.Slices ![0, 2] S22536x2
  bcast_S_S22536x2 : S_.BroadcastsInDim S22536x2 (![] : Fin 0 → Fin S22536x2.rank)
  slices_S8x20x4_S8x20x2_0_0_0 : S8x20x4.Slices ![0, 0, 0] S8x20x2
  bcast_S8x20x2_S8x20x1x2_0_1_3 : S8x20x2.BroadcastsInDim S8x20x1x2 (![0, 1, 3] : Fin 3 → Fin S8x20x1x2.rank)
  bcast_S22536x2_S1x1x22536x2_2_3 : S22536x2.BroadcastsInDim S1x1x22536x2 (![2, 3] : Fin 2 → Fin S1x1x22536x2.rank)
  bcast_S8x20x1x2_S8x20x22536x2_0_1_2_3 : S8x20x1x2.BroadcastsInDim S8x20x22536x2 (![0, 1, 2, 3] : Fin 4 → Fin S8x20x22536x2.rank)
  bcast_S1x1x22536x2_S8x20x22536x2_0_1_2_3 : S1x1x22536x2.BroadcastsInDim S8x20x22536x2 (![0, 1, 2, 3] : Fin 4 → Fin S8x20x22536x2.rank)
  slices_S8x20x4_S8x20x2_0_0_2 : S8x20x4.Slices ![0, 0, 2] S8x20x2
  bcast_S_S8x20x22536x2 : S_.BroadcastsInDim S8x20x22536x2 (![] : Fin 0 → Fin S8x20x22536x2.rank)
  slices_S8x20x22536x2_S8x20x22536x1_0_0_0_0 : S8x20x22536x2.Slices ![0, 0, 0, 0] S8x20x22536x1
  shapeCasts_S8x20x22536x1_S8x20x22536 : S8x20x22536x1.ShapeCasts S8x20x22536
  slices_S8x20x22536x2_S8x20x22536x1_0_0_0_1 : S8x20x22536x2.Slices ![0, 0, 0, 1] S8x20x22536x1
  slices_S8x20x4_S8x20x1_0_0_2 : S8x20x4.Slices ![0, 0, 2] S8x20x1
  shapeCasts_S8x20x1_S8x20 : S8x20x1.ShapeCasts S8x20
  slices_S8x20x4_S8x20x1_0_0_0 : S8x20x4.Slices ![0, 0, 0] S8x20x1
  slices_S8x20x4_S8x20x1_0_0_3 : S8x20x4.Slices ![0, 0, 3] S8x20x1
  slices_S8x20x4_S8x20x1_0_0_1 : S8x20x4.Slices ![0, 0, 1] S8x20x1
  slices_S22536x2_S22536x1_0_0 : S22536x2.Slices ![0, 0] S22536x1
  shapeCasts_S22536x1_S22536 : S22536x1.ShapeCasts S22536
  slices_S22536x2_S22536x1_0_1 : S22536x2.Slices ![0, 1] S22536x1
  bcast_S8x20_S8x20x1_0_1 : S8x20.BroadcastsInDim S8x20x1 (![0, 1] : Fin 2 → Fin S8x20x1.rank)
  bcast_S22536_S1x1x22536_2 : S22536.BroadcastsInDim S1x1x22536 (![2] : Fin 1 → Fin S1x1x22536.rank)
  bcast_S8x20x1_S8x20x22536_0_1_2 : S8x20x1.BroadcastsInDim S8x20x22536 (![0, 1, 2] : Fin 3 → Fin S8x20x22536.rank)
  bcast_S1x1x22536_S8x20x22536_0_1_2 : S1x1x22536.BroadcastsInDim S8x20x22536 (![0, 1, 2] : Fin 3 → Fin S8x20x22536.rank)
  bcast_S_S8x20x22536 : S_.BroadcastsInDim S8x20x22536 (![] : Fin 0 → Fin S8x20x22536.rank)
  reducesTo_S8x20x22536_S8x20_d2 : S8x20x22536.ReducesTo [2] S8x20

variable [Facts]

def fn_clip {F : FTy → Type} [FloatOps F] (arg0 : FVec F S8x20x22536x2 .f32) (arg1 : FVec F S_ .f32) : FVec F S8x20x22536x2 .f32 :=
  let v0 : FVec F S_ .f32 := id arg1
  let v1 : FVec F S8x20x22536x2 .f32 := broadcastInDim S8x20x22536x2 ![] bcast_S_S8x20x22536x2 v0
  let v2 : FVec F S8x20x22536x2 .f32 := maximumf v1 arg0
  v2

def fn_part3 {F : FTy → Type} [FloatOps F] (main_v5 : IVec S_ 1) (main_v63 : IVec S8x20x22536 1) (main_c_5 : IVec S_ 1) : IVec S_ 1 :=
  let main_v64 : IVec S8x20 1 := (fun x v => Host.reduce IntOp.ori x v reducesTo_S8x20x22536_S8x20_d2 h_S_) main_v63 main_c_5
  let main_c_6 : IVec S_ 1 := constantI S_ 1 1#1
  let main_v65 : IVec S_ 1 := (fun x v => Host.reduce IntOp.andi x v reducesTo_S8x20_S_d0_1 h_S_) main_v64 main_c_6
  let main_v66 : IVec S_ 1 := andi main_v5 main_v65
  main_v66

def fn_part2 {F : FTy → Type} [FloatOps F] (main_v5 : IVec S_ 1) (main_v10 : FVec F S22536x2 .f32) (main_v13 : FVec F S22536x2 .f32) (main_v32 : FVec F S8x20x22536 .f32) (main_v37 : FVec F S8x20 .f32) (main_v39 : FVec F S8x20 .f32) (main_v41 : FVec F S8x20 .f32) : IVec S_ 1 :=
  let main_v42 : FVec F S8x20 .f32 := subf main_v39 main_v41
  let main_v43 : FVec F S8x20 .f32 := mulf main_v37 main_v42
  let main_v44 : FVec F S22536x1 .f32 := (extractStridedSlice S22536x1 ![0, 0] · slices_S22536x2_S22536x1_0_0) main_v13
  let main_v45 : FVec F S22536 .f32 := shapeCast S22536 main_v44 shapeCasts_S22536x1_S22536
  let main_v46 : FVec F S22536x1 .f32 := (extractStridedSlice S22536x1 ![0, 0] · slices_S22536x2_S22536x1_0_0) main_v10
  let main_v47 : FVec F S22536 .f32 := shapeCast S22536 main_v46 shapeCasts_S22536x1_S22536
  let main_v48 : FVec F S22536 .f32 := subf main_v45 main_v47
  let main_v49 : FVec F S22536x1 .f32 := (extractStridedSlice S22536x1 ![0, 1] · slices_S22536x2_S22536x1_0_1) main_v13
  let main_v50 : FVec F S22536 .f32 := shapeCast S22536 main_v49 shapeCasts_S22536x1_S22536
  let main_v51 : FVec F S22536x1 .f32 := (extractStridedSlice S22536x1 ![0, 1] · slices_S22536x2_S22536x1_0_1) main_v10
  let main_v52 : FVec F S22536 .f32 := shapeCast S22536 main_v51 shapeCasts_S22536x1_S22536
  let main_v53 : FVec F S22536 .f32 := subf main_v50 main_v52
  let main_v54 : FVec F S22536 .f32 := mulf main_v48 main_v53
  let main_v55 : FVec F S8x20x1 .f32 := broadcastInDim S8x20x1 ![0, 1] bcast_S8x20_S8x20x1_0_1 main_v43
  let main_v56 : FVec F S1x1x22536 .f32 := broadcastInDim S1x1x22536 ![2] bcast_S22536_S1x1x22536_2 main_v54
  let main_v57 : FVec F S8x20x22536 .f32 := broadcastInDim S8x20x22536 ![0, 1, 2] bcast_S8x20x1_S8x20x22536_0_1_2 main_v55
  let main_v58 : FVec F S8x20x22536 .f32 := broadcastInDim S8x20x22536 ![0, 1, 2] bcast_S1x1x22536_S8x20x22536_0_1_2 main_v56
  let main_v59 : FVec F S8x20x22536 .f32 := addf main_v57 main_v58
  let main_v60 : FVec F S8x20x22536 .f32 := subf main_v59 main_v32
  let main_v61 : FVec F S8x20x22536 .f32 := Host.divf main_v32 main_v60
  let main_cst_4 : FVec F S_ .f32 := constant S_ .f32 0x00000000#32
  let main_v62 : FVec F S8x20x22536 .f32 := broadcastInDim S8x20x22536 ![] bcast_S_S8x20x22536 main_cst_4
  let main_v63 : IVec S8x20x22536 1 := cmpf .oge main_v61 main_v62
  let main_c_5 : IVec S_ 1 := constantI S_ 1 0#1
  fn_part3 (F := F) main_v5 main_v63 main_c_5

def fn_part1 {F : FTy → Type} [FloatOps F] (main_arg2 : FVec F S8x20x4 .f32) (main_v5 : IVec S_ 1) (main_v10 : FVec F S22536x2 .f32) (main_v13 : FVec F S22536x2 .f32) (main_v17 : FVec F S8x20x22536x2 .f32) (main_v18 : FVec F S8x20x22536x2 .f32) : IVec S_ 1 :=
  let main_v19 : FVec F S8x20x22536x2 .f32 := maximumf main_v17 main_v18
  let main_v20 : FVec F S8x20x2 .f32 := (extractStridedSlice S8x20x2 ![0, 0, 2] · slices_S8x20x4_S8x20x2_0_0_2) main_arg2
  let main_v21 : FVec F S8x20x1x2 .f32 := broadcastInDim S8x20x1x2 ![0, 1, 3] bcast_S8x20x2_S8x20x1x2_0_1_3 main_v20
  let main_v22 : FVec F S1x1x22536x2 .f32 := broadcastInDim S1x1x22536x2 ![2, 3] bcast_S22536x2_S1x1x22536x2_2_3 main_v13
  let main_v23 : FVec F S8x20x22536x2 .f32 := broadcastInDim S8x20x22536x2 ![0, 1, 2, 3] bcast_S8x20x1x2_S8x20x22536x2_0_1_2_3 main_v21
  let main_v24 : FVec F S8x20x22536x2 .f32 := broadcastInDim S8x20x22536x2 ![0, 1, 2, 3] bcast_S1x1x22536x2_S8x20x22536x2_0_1_2_3 main_v22
  let main_v25 : FVec F S8x20x22536x2 .f32 := minimumf main_v23 main_v24
  let main_v26 : FVec F S8x20x22536x2 .f32 := subf main_v25 main_v19
  let main_cst_3 : FVec F S_ .f32 := constant S_ .f32 0x00000000#32
  let main_v27 : FVec F S8x20x22536x2 .f32 := fn_clip (F := F) main_v26 main_cst_3
  let main_v28 : FVec F S8x20x22536x1 .f32 := (extractStridedSlice S8x20x22536x1 ![0, 0, 0, 0] · slices_S8x20x22536x2_S8x20x22536x1_0_0_0_0) main_v27
  let main_v29 : FVec F S8x20x22536 .f32 := shapeCast S8x20x22536 main_v28 shapeCasts_S8x20x22536x1_S8x20x22536
  let main_v30 : FVec F S8x20x22536x1 .f32 := (extractStridedSlice S8x20x22536x1 ![0, 0, 0, 1] · slices_S8x20x22536x2_S8x20x22536x1_0_0_0_1) main_v27
  let main_v31 : FVec F S8x20x22536 .f32 := shapeCast S8x20x22536 main_v30 shapeCasts_S8x20x22536x1_S8x20x22536
  let main_v32 : FVec F S8x20x22536 .f32 := mulf main_v29 main_v31
  let main_v33 : FVec F S8x20x1 .f32 := (extractStridedSlice S8x20x1 ![0, 0, 2] · slices_S8x20x4_S8x20x1_0_0_2) main_arg2
  let main_v34 : FVec F S8x20 .f32 := shapeCast S8x20 main_v33 shapeCasts_S8x20x1_S8x20
  let main_v35 : FVec F S8x20x1 .f32 := (extractStridedSlice S8x20x1 ![0, 0, 0] · slices_S8x20x4_S8x20x1_0_0_0) main_arg2
  let main_v36 : FVec F S8x20 .f32 := shapeCast S8x20 main_v35 shapeCasts_S8x20x1_S8x20
  let main_v37 : FVec F S8x20 .f32 := subf main_v34 main_v36
  let main_v38 : FVec F S8x20x1 .f32 := (extractStridedSlice S8x20x1 ![0, 0, 3] · slices_S8x20x4_S8x20x1_0_0_3) main_arg2
  let main_v39 : FVec F S8x20 .f32 := shapeCast S8x20 main_v38 shapeCasts_S8x20x1_S8x20
  let main_v40 : FVec F S8x20x1 .f32 := (extractStridedSlice S8x20x1 ![0, 0, 1] · slices_S8x20x4_S8x20x1_0_0_1) main_arg2
  let main_v41 : FVec F S8x20 .f32 := shapeCast S8x20 main_v40 shapeCasts_S8x20x1_S8x20
  fn_part2 (F := F) main_v5 main_v10 main_v13 main_v32 main_v37 main_v39 main_v41

def fn {F : FTy → Type} [FloatOps F] (main_arg0 : FVec F S8x22536x4 .f32) (main_arg1 : FVec F S8x22536x81 .f32) (main_arg2 : FVec F S8x20x4 .f32) (main_arg3 : FVec F S22536x4 .f32) (main_arg4 : IVec S8x20 32) : IVec S_ 1 :=
  let main_c : IVec S_ 32 := constantI S_ 32 1#32
  let main_v0 : IVec S8x20 32 := broadcastInDim S8x20 ![] bcast_S_S8x20 main_c
  let main_v1 : IVec S8x20 1 := cmpi .sge main_arg4 main_v0
  let main_c_0 : IVec S_ 32 := constantI S_ 32 81#32
  let main_v2 : IVec S8x20 32 := broadcastInDim S8x20 ![] bcast_S_S8x20 main_c_0
  let main_v3 : IVec S8x20 1 := cmpi .slt main_arg4 main_v2
  let main_v4 : IVec S8x20 1 := andi main_v1 main_v3
  let main_c_1 : IVec S_ 1 := constantI S_ 1 1#1
  let main_v5 : IVec S_ 1 := (fun x v => Host.reduce IntOp.andi x v reducesTo_S8x20_S_d0_1 h_S_) main_v4 main_c_1
  let main_v6 : FVec F S22536x2 .f32 := (extractStridedSlice S22536x2 ![0, 0] · slices_S22536x4_S22536x2_0_0) main_arg3
  let main_v7 : FVec F S22536x2 .f32 := (extractStridedSlice S22536x2 ![0, 2] · slices_S22536x4_S22536x2_0_2) main_arg3
  let main_cst : FVec F S_ .f32 := constant S_ .f32 0x40000000#32
  let main_v8 : FVec F S22536x2 .f32 := broadcastInDim S22536x2 ![] bcast_S_S22536x2 main_cst
  let main_v9 : FVec F S22536x2 .f32 := Host.divf main_v7 main_v8
  let main_v10 : FVec F S22536x2 .f32 := subf main_v6 main_v9
  let main_cst_2 : FVec F S_ .f32 := constant S_ .f32 0x40000000#32
  let main_v11 : FVec F S22536x2 .f32 := broadcastInDim S22536x2 ![] bcast_S_S22536x2 main_cst_2
  let main_v12 : FVec F S22536x2 .f32 := Host.divf main_v7 main_v11
  let main_v13 : FVec F S22536x2 .f32 := addf main_v6 main_v12
  let main_v14 : FVec F S8x20x2 .f32 := (extractStridedSlice S8x20x2 ![0, 0, 0] · slices_S8x20x4_S8x20x2_0_0_0) main_arg2
  let main_v15 : FVec F S8x20x1x2 .f32 := broadcastInDim S8x20x1x2 ![0, 1, 3] bcast_S8x20x2_S8x20x1x2_0_1_3 main_v14
  let main_v16 : FVec F S1x1x22536x2 .f32 := broadcastInDim S1x1x22536x2 ![2, 3] bcast_S22536x2_S1x1x22536x2_2_3 main_v10
  let main_v17 : FVec F S8x20x22536x2 .f32 := broadcastInDim S8x20x22536x2 ![0, 1, 2, 3] bcast_S8x20x1x2_S8x20x22536x2_0_1_2_3 main_v15
  let main_v18 : FVec F S8x20x22536x2 .f32 := broadcastInDim S8x20x22536x2 ![0, 1, 2, 3] bcast_S1x1x22536x2_S8x20x22536x2_0_1_2_3 main_v16
  fn_part1 (F := F) main_arg2 main_v5 main_v10 main_v13 main_v17 main_v18
-- ==== Kernel.lean ====
abbrev S8x22536x4 : Shape := ⟨3, ![8, 22536, 4]⟩
abbrev S8x22536x81 : Shape := ⟨3, ![8, 22536, 81]⟩
abbrev S8x20x4 : Shape := ⟨3, ![8, 20, 4]⟩
abbrev S22536x4 : Shape := ⟨2, ![22536, 4]⟩
abbrev S8x20 : Shape := ⟨2, ![8, 20]⟩
abbrev S4x22536 : Shape := ⟨2, ![4, 22536]⟩
abbrev S8x20x1 : Shape := ⟨3, ![8, 20, 1]⟩
abbrev S8x4x22536 : Shape := ⟨3, ![8, 4, 22536]⟩
abbrev S8x8x24576 : Shape := ⟨3, ![8, 8, 24576]⟩
abbrev S1x1 : Shape := ⟨2, ![1, 1]⟩
abbrev S4x8192 : Shape := ⟨2, ![4, 8192]⟩
abbrev S1x20x4 : Shape := ⟨3, ![1, 20, 4]⟩
abbrev S1x20x1 : Shape := ⟨3, ![1, 20, 1]⟩
abbrev S1x4x8192 : Shape := ⟨3, ![1, 4, 8192]⟩
abbrev S1x8x8192 : Shape := ⟨3, ![1, 8, 8192]⟩
abbrev S20x1 : Shape := ⟨2, ![20, 1]⟩
abbrev S1x24576 : Shape := ⟨2, ![1, 24576]⟩
abbrev S1x8192 : Shape := ⟨2, ![1, 8192]⟩
abbrev S20x4 : Shape := ⟨2, ![20, 4]⟩
abbrev S20x8192 : Shape := ⟨2, ![20, 8192]⟩
abbrev S8192 : Shape := ⟨1, ![8192]⟩
abbrev S20 : Shape := ⟨1, ![20]⟩
abbrev S8x8192 : Shape := ⟨2, ![8, 8192]⟩
abbrev S1x1x8192 : Shape := ⟨3, ![1, 1, 8192]⟩
abbrev S1 : Shape := ⟨1, ![1]⟩
abbrev S1x1x1 : Shape := ⟨3, ![1, 1, 1]⟩
abbrev S1x8192x81 : Shape := ⟨3, ![1, 8192, 81]⟩
abbrev S8192x81 : Shape := ⟨2, ![8192, 81]⟩
abbrev S8192x1 : Shape := ⟨2, ![8192, 1]⟩
abbrev S1x8192x1 : Shape := ⟨3, ![1, 8192, 1]⟩
abbrev S_ : Shape := ⟨0, ![]⟩

abbrev nBuf : Space → Nat
  | .hbm => 14
  | .vmem => 29
  | .smem => 0
  | _ => 0

abbrev bufTy : (tb : Table) → Fin (tcTables nBuf tb) → BufTy
  | .hbm, ⟨0, _⟩ => ⟨S8x22536x4, .f32⟩
  | .hbm, ⟨1, _⟩ => ⟨S8x22536x81, .f32⟩
  | .hbm, ⟨2, _⟩ => ⟨S8x20x4, .f32⟩
  | .hbm, ⟨3, _⟩ => ⟨S22536x4, .f32⟩
  | .hbm, ⟨4, _⟩ => ⟨S8x20, .i32⟩
  | .hbm, ⟨5, _⟩ => ⟨S4x22536, .f32⟩
  | .hbm, ⟨6, _⟩ => ⟨S8x20x1, .i32⟩
  | .hbm, ⟨7, _⟩ => ⟨S8x4x22536, .f32⟩
  | .hbm, ⟨8, _⟩ => ⟨S8x8x24576, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S_, .f32⟩
  | .local _ .vmem, ⟨0, _⟩ => ⟨S4x8192, .f32⟩
  | .local _ .vmem, ⟨1, _⟩ => ⟨S4x8192, .f32⟩
  | .local _ .vmem, ⟨2, _⟩ => ⟨S1x20x4, .f32⟩
  | .local _ .vmem, ⟨3, _⟩ => ⟨S1x20x4, .f32⟩
  | .local _ .vmem, ⟨4, _⟩ => ⟨S1x20x1, .i32⟩
  | .local _ .vmem, ⟨5, _⟩ => ⟨S1x20x1, .i32⟩
  | .local _ .vmem, ⟨6, _⟩ => ⟨S1x4x8192, .f32⟩
  | .local _ .vmem, ⟨7, _⟩ => ⟨S1x4x8192, .f32⟩
  | .local _ .vmem, ⟨8, _⟩ => ⟨S1x8x8192, .f32⟩
  | .local _ .vmem, ⟨9, _⟩ => ⟨S1x8x8192, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S20x1, .f32⟩
  | .local _ .vmem, ⟨14, _⟩ => ⟨S20x1, .i32⟩
  | .local _ .vmem, ⟨15, _⟩ => ⟨S1x24576, .f32⟩
  | .local _ .vmem, ⟨16, _⟩ => ⟨S1x24576, .i32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S1x8192x81, .f32⟩
  | .local _ .vmem, ⟨21, _⟩ => ⟨S1x8192x81, .f32⟩
  | .local _ .vmem, ⟨22, _⟩ => ⟨S1x8x8192, .f32⟩
  | .local _ .vmem, ⟨23, _⟩ => ⟨S1x8x8192, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | _, _ => ⟨S8x22536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c3_i32 : BitVec 32 := 3#32
  let v5 : BitVec 1 := Scalar.cmpi .slt arg1 c3_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let c0_19 : Index := 0#32
  let arg1 : BitVec 32 := BitVec.ofNat 32 (i 1).val
  let c8192_i32_18 : BitVec 32 := 8192#32
  let v87 : BitVec 32 := Scalar.muli arg1 c8192_i32_18
  let v88 : Index := Scalar.indexCast v87
  ![0, v88.toNat]
def k0_cond5 (i : grid0.Coords) : BitVec 1 :=
  let arg1 : BitVec 32 := BitVec.ofNat 32 (i 1).val
  let c3_i32_3 : BitVec 32 := 3#32
  let v8 : BitVec 1 := Scalar.cmpi .sge arg1 c3_i32_3
  let v9 : BitVec 32 := Scalar.extui v8
  let c0_i32_4 : BitVec 32 := 0#32
  let v10 : BitVec 1 := Scalar.cmpi .ne v9 c0_i32_4
  v10

def k0_off2 (i : grid0.Coords) : Fin 2 → Nat :=
  let c0_11 : Index := 0#32
  let arg1 : BitVec 32 := BitVec.ofNat 32 (i 1).val
  let c3_i32_6 : BitVec 32 := 3#32
  let v16 : BitVec 32 := Scalar.subi arg1 c3_i32_6
  let c8192_i32 : BitVec 32 := 8192#32
  let v29 : BitVec 32 := Scalar.muli v16 c8192_i32
  let v30 : Index := Scalar.indexCast v29
  ![0, v30.toNat]
def k0_cond6 (i : grid0.Coords) : BitVec 1 :=
  let arg0 : BitVec 32 := BitVec.ofNat 32 (i 0).val
  let c7_i32 : BitVec 32 := 7#32
  let v11 : BitVec 1 := Scalar.cmpi .eq arg0 c7_i32
  let arg1 : BitVec 32 := BitVec.ofNat 32 (i 1).val
  let c5_i32 : BitVec 32 := 5#32
  let v12 : BitVec 1 := Scalar.cmpi .eq arg1 c5_i32
  let v13 : BitVec 1 := Scalar.andi v11 v12
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.remsi arg1 c3_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x20x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![8, 3], ![false, false]⟩

def k1_cond2 (i : grid1.Coords) : BitVec 1 :=
  let arg0 : BitVec 32 := BitVec.ofNat 32 (i 0).val
  let c7_i32 : BitVec 32 := 7#32
  let v55 : BitVec 1 := Scalar.cmpi .eq arg0 c7_i32
  let arg1 : BitVec 32 := BitVec.ofNat 32 (i 1).val
  let c2_i32 : BitVec 32 := 2#32
  let v56 : BitVec 1 := Scalar.cmpi .eq arg1 c2_i32
  let v57 : BitVec 1 := Scalar.andi v55 v56
  let v58 : BitVec 32 := Scalar.extui v57
  let c0_i32_21 : BitVec 32 := 0#32
  let v59 : BitVec 1 := Scalar.cmpi .ne v58 c0_i32_21
  v59

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x8192x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]
-- ==== KernelIdeal.lean ====
variable {F : FTy → Type} [FloatOps F] [Named F]
def κ : String → Option EReal := fun
  | "tenth" => some ((1 / 10 : ℝ) : EReal)
  | _ => none
-- ==== ReferenceIdeal.lean ====
abbrev S8x22536x4 : Shape := ⟨3, ![8, 22536, 4]⟩
abbrev S8x22536x81 : Shape := ⟨3, ![8, 22536, 81]⟩
abbrev S8x20x4 : Shape := ⟨3, ![8, 20, 4]⟩
abbrev S22536x4 : Shape := ⟨2, ![22536, 4]⟩
abbrev S8x20 : Shape := ⟨2, ![8, 20]⟩
abbrev S22536x2 : Shape := ⟨2, ![22536, 2]⟩
abbrev S_ : Shape := ⟨0, ![]⟩
abbrev S8x20x2 : Shape := ⟨3, ![8, 20, 2]⟩
abbrev S8x20x1x2 : Shape := ⟨4, ![8, 20, 1, 2]⟩
abbrev S1x1x22536x2 : Shape := ⟨4, ![1, 1, 22536, 2]⟩
abbrev S8x20x22536x2 : Shape := ⟨4, ![8, 20, 22536, 2]⟩
abbrev S8x20x22536x1 : Shape := ⟨4, ![8, 20, 22536, 1]⟩
abbrev S8x20x22536 : Shape := ⟨3, ![8, 20, 22536]⟩
abbrev S8x20x1 : Shape := ⟨3, ![8, 20, 1]⟩
abbrev S22536x1 : Shape := ⟨2, ![22536, 1]⟩
abbrev S22536 : Shape := ⟨1, ![22536]⟩
abbrev S1x1x22536 : Shape := ⟨3, ![1, 1, 22536]⟩
abbrev S8x22536 : Shape := ⟨2, ![8, 22536]⟩
abbrev S8x1x22536 : Shape := ⟨3, ![8, 1, 22536]⟩
abbrev S8 : Shape := ⟨1, ![8]⟩
abbrev S8x1 : Shape := ⟨2, ![8, 1]⟩
abbrev S20 : Shape := ⟨1, ![20]⟩
abbrev S1x20 : Shape := ⟨2, ![1, 20]⟩
abbrev S8x22536x1 : Shape := ⟨3, ![8, 22536, 1]⟩
abbrev S8x22536x2 : Shape := ⟨3, ![8, 22536, 2]⟩
abbrev S1x22536x2 : Shape := ⟨3, ![1, 22536, 2]⟩
abbrev S8x22536x1x1 : Shape := ⟨4, ![8, 22536, 1, 1]⟩
abbrev S1 : Shape := ⟨1, ![1]⟩
abbrev S1x1x1x1 : Shape := ⟨4, ![1, 1, 1, 1]⟩

abbrev nBuf : Space → Nat
  | .hbm => 306
  | .vmem => 0
  | .smem => 0
  | _ => 0

abbrev hbmTy0_0 (i : Nat) : BufTy := match i % 128 with
  | 0 => ⟨S8x22536x4, .f32⟩
  | 1 => ⟨S8x22536x81, .f32⟩
  | 2 => ⟨S8x20x4, .f32⟩
  | 3 => ⟨S22536x4, .f32⟩
  | 4 => ⟨S8x20, .i32⟩
  | 5 => ⟨S22536x2, .f32⟩
  | 6 => ⟨S22536x2, .f32⟩
  | 7 => ⟨S22536x2, .f32⟩
  | 8 => ⟨S22536x2, .f32⟩
  | 9 => ⟨S_, .f32⟩
  | 10 => ⟨S22536x2, .f32⟩
  | 11 => ⟨S22536x2, .f32⟩
  | 12 => ⟨S22536x2, .f32⟩
  | 13 => ⟨S_, .f32⟩
  | 14 => ⟨S22536x2, .f32⟩
  | 15 => ⟨S22536x2, .f32⟩
  | 16 => ⟨S22536x2, .f32⟩
  | 17 => ⟨S8x20x2, .f32⟩
  | 18 => ⟨S8x20x1x2, .f32⟩
  | 19 => ⟨S1x1x22536x2, .f32⟩
  | 20 => ⟨S8x20x22536x2, .f32⟩
  | 21 => ⟨S8x20x22536x2, .f32⟩
  | 22 => ⟨S8x20x22536x2, .f32⟩
  | 23 => ⟨S8x20x2, .f32⟩
  | 24 => ⟨S8x20x1x2, .f32⟩
  | 25 => ⟨S1x1x22536x2, .f32⟩
  | 26 => ⟨S8x20x22536x2, .f32⟩
  | 27 => ⟨S8x20x22536x2, .f32⟩
  | 28 => ⟨S8x20x22536x2, .f32⟩
  | 29 => ⟨S8x20x22536x2, .f32⟩
  | 30 => ⟨S_, .f32⟩
  | 31 => ⟨S_, .f32⟩
  | 32 => ⟨S8x20x22536x2, .f32⟩
  | 33 => ⟨S8x20x22536x2, .f32⟩
  | 34 => ⟨S8x20x22536x1, .f32⟩
  | 35 => ⟨S8x20x22536, .f32⟩
  | 36 => ⟨S8x20x22536x1, .f32⟩
  | 37 => ⟨S8x20x22536, .f32⟩
  | 38 => ⟨S8x20x22536, .f32⟩
  | 39 => ⟨S8x20x1, .f32⟩
  | 40 => ⟨S8x20, .f32⟩
  | 41 => ⟨S8x20x1, .f32⟩
  | 42 => ⟨S8x20, .f32⟩
  | 43 => ⟨S8x20, .f32⟩
  | 44 => ⟨S8x20x1, .f32⟩
  | 45 => ⟨S8x20, .f32⟩
  | 46 => ⟨S8x20x1, .f32⟩
  | 47 => ⟨S8x20, .f32⟩
  | 48 => ⟨S8x20, .f32⟩
  | 49 => ⟨S8x20, .f32⟩
  | 50 => ⟨S22536x1, .f32⟩
  | 51 => ⟨S22536, .f32⟩
  | 52 => ⟨S22536x1, .f32⟩
  | 53 => ⟨S22536, .f32⟩
  | 54 => ⟨S22536, .f32⟩
  | 55 => ⟨S22536x1, .f32⟩
  | 56 => ⟨S22536, .f32⟩
  | 57 => ⟨S22536x1, .f32⟩
  | 58 => ⟨S22536, .f32⟩
  | 59 => ⟨S22536, .f32⟩
  | 60 => ⟨S22536, .f32⟩
  | 61 => ⟨S8x20x1, .f32⟩
  | 62 => ⟨S1x1x22536, .f32⟩
  | 63 => ⟨S8x20x22536, .f32⟩
  | 64 => ⟨S8x20x22536, .f32⟩
  | 65 => ⟨S8x20x22536, .f32⟩
  | 66 => ⟨S8x20x22536, .f32⟩
  | 67 => ⟨S8x20x22536, .f32⟩
  | 68 => ⟨S_, .f32⟩
  | 69 => ⟨S8x22536, .f32⟩
  | 70 => ⟨S8x20x22536, .i32⟩
  | 71 => ⟨S_, .f32⟩
  | 72 => ⟨S8x22536, .f32⟩
  | 73 => ⟨S8x1x22536, .f32⟩
  | 74 => ⟨S8x20x22536, .f32⟩
  | 75 => ⟨S8x20x22536, .i1⟩
  | 76 => ⟨S_, .i32⟩
  | 77 => ⟨S_, .i32⟩
  | 78 => ⟨S8x20x22536, .i32⟩
  | 79 => ⟨S8x20x22536, .i32⟩
  | 80 => ⟨S_, .i32⟩
  | 81 => ⟨S8x22536, .i32⟩
  | 82 => ⟨S8x20x22536, .i32⟩
  | 83 => ⟨S_, .f32⟩
  | 84 => ⟨S8x20, .f32⟩
  | 85 => ⟨S8x20x1, .f32⟩
  | 86 => ⟨S8x20x22536, .f32⟩
  | 87 => ⟨S8x20x22536, .i1⟩
  | 88 => ⟨S_, .i32⟩
  | 89 => ⟨S_, .i32⟩
  | 90 => ⟨S8x20x22536, .i32⟩
  | 91 => ⟨S8x20x22536, .i32⟩
  | 92 => ⟨S_, .i32⟩
  | 93 => ⟨S8x20, .i32⟩
  | 94 => ⟨S8, .i32⟩
  | 95 => ⟨S8x1, .i32⟩
  | 96 => ⟨S20, .i32⟩
  | 97 => ⟨S1x20, .i32⟩
  | 98 => ⟨S_, .i32⟩
  | 99 => ⟨S8x1, .i32⟩
  | 100 => ⟨S8x1, .i1⟩
  | 101 => ⟨S_, .i32⟩
  | 102 => ⟨S8x1, .i32⟩
  | 103 => ⟨S8x1, .i32⟩
  | 104 => ⟨S8x1, .i32⟩
  | 105 => ⟨S_, .i32⟩
  | 106 => ⟨S8x20, .i32⟩
  | 107 => ⟨S8x20, .i1⟩
  | 108 => ⟨S_, .i32⟩
  | 109 => ⟨S8x20, .i32⟩
  | 110 => ⟨S8x20, .i32⟩
  | 111 => ⟨S8x20, .i32⟩
  | 112 => ⟨S8x20, .i32⟩
  | 113 => ⟨S8x20x1, .i32⟩
  | 114 => ⟨S8x20x1, .i32⟩
  | 115 => ⟨S8x20x2, .i32⟩
  | 116 => ⟨S8x20, .i32⟩
  | 117 => ⟨S8x22536, .i32⟩
  | 118 => ⟨S_, .i32⟩
  | 119 => ⟨S8x1, .i32⟩
  | 120 => ⟨S8x1, .i1⟩
  | 121 => ⟨S_, .i32⟩
  | 122 => ⟨S8x1, .i32⟩
  | 123 => ⟨S8x1, .i32⟩
  | 124 => ⟨S8x1, .i32⟩
  | 125 => ⟨S_, .i32⟩
  | 126 => ⟨S8x20, .i32⟩
  | 127 => ⟨S8x20, .i1⟩
  | _ => ⟨S8x22536x4, .f32⟩

abbrev hbmTy0_1 (i : Nat) : BufTy := match i % 128 with
  | 0 => ⟨S_, .i32⟩
  | 1 => ⟨S8x20, .i32⟩
  | 2 => ⟨S8x20, .i32⟩
  | 3 => ⟨S8x20, .i32⟩
  | 4 => ⟨S8x20, .i32⟩
  | 5 => ⟨S8x20x1, .i32⟩
  | 6 => ⟨S8x20x1, .i32⟩
  | 7 => ⟨S8x20x2, .i32⟩
  | 8 => ⟨S_, .f32⟩
  | 9 => ⟨S8x20, .f32⟩
  | 10 => ⟨S8x22536, .f32⟩
  | 11 => ⟨S_, .i32⟩
  | 12 => ⟨S8x1, .i32⟩
  | 13 => ⟨S8x1, .i1⟩
  | 14 => ⟨S_, .i32⟩
  | 15 => ⟨S8x1, .i32⟩
  | 16 => ⟨S8x1, .i32⟩
  | 17 => ⟨S8x1, .i32⟩
  | 18 => ⟨S_, .i32⟩
  | 19 => ⟨S8x22536, .i32⟩
  | 20 => ⟨S8x22536, .i1⟩
  | 21 => ⟨S_, .i32⟩
  | 22 => ⟨S8x22536, .i32⟩
  | 23 => ⟨S8x22536, .i32⟩
  | 24 => ⟨S8x22536, .i32⟩
  | 25 => ⟨S8x22536, .i32⟩
  | 26 => ⟨S8x22536x1, .i32⟩
  | 27 => ⟨S8x22536x1, .i32⟩
  | 28 => ⟨S8x22536x2, .i32⟩
  | 29 => ⟨S8x22536, .i32⟩
  | 30 => ⟨S_, .f32⟩
  | 31 => ⟨S8x22536, .f32⟩
  | 32 => ⟨S8x22536, .i1⟩
  | 33 => ⟨S_, .i32⟩
  | 34 => ⟨S_, .i32⟩
  | 35 => ⟨S8x22536, .i32⟩
  | 36 => ⟨S8x22536, .i32⟩
  | 37 => ⟨S_, .f32⟩
  | 38 => ⟨S8x22536, .f32⟩
  | 39 => ⟨S8x22536, .i1⟩
  | 40 => ⟨S_, .i32⟩
  | 41 => ⟨S_, .i32⟩
  | 42 => ⟨S8x22536, .i32⟩
  | 43 => ⟨S8x22536, .i32⟩
  | 44 => ⟨S_, .i32⟩
  | 45 => ⟨S8x1, .i32⟩
  | 46 => ⟨S8x1, .i1⟩
  | 47 => ⟨S_, .i32⟩
  | 48 => ⟨S8x1, .i32⟩
  | 49 => ⟨S8x1, .i32⟩
  | 50 => ⟨S8x1, .i32⟩
  | 51 => ⟨S_, .i32⟩
  | 52 => ⟨S8x22536, .i32⟩
  | 53 => ⟨S8x22536, .i1⟩
  | 54 => ⟨S_, .i32⟩
  | 55 => ⟨S8x22536, .i32⟩
  | 56 => ⟨S8x22536, .i32⟩
  | 57 => ⟨S8x22536, .i32⟩
  | 58 => ⟨S8x22536, .i32⟩
  | 59 => ⟨S8x22536x1, .i32⟩
  | 60 => ⟨S8x22536x1, .i32⟩
  | 61 => ⟨S8x22536x2, .i32⟩
  | 62 => ⟨S8x22536x4, .f32⟩
  | 63 => ⟨S8x22536x2, .f32⟩
  | 64 => ⟨S8x22536x2, .f32⟩
  | 65 => ⟨S8x22536x2, .f32⟩
  | 66 => ⟨S_, .f32⟩
  | 67 => ⟨S8x22536x2, .f32⟩
  | 68 => ⟨S8x22536x2, .f32⟩
  | 69 => ⟨S8x22536x2, .f32⟩
  | 70 => ⟨S8x22536x2, .f32⟩
  | 71 => ⟨S8x22536x2, .f32⟩
  | 72 => ⟨S1x22536x2, .f32⟩
  | 73 => ⟨S8x22536x2, .f32⟩
  | 74 => ⟨S8x22536x2, .f32⟩
  | 75 => ⟨S_, .f32⟩
  | 76 => ⟨S22536x2, .f32⟩
  | 77 => ⟨S22536x2, .f32⟩
  | 78 => ⟨S1x22536x2, .f32⟩
  | 79 => ⟨S8x22536x2, .f32⟩
  | 80 => ⟨S8x22536x2, .f32⟩
  | 81 => ⟨S1x22536x2, .f32⟩
  | 82 => ⟨S8x22536x2, .f32⟩
  | 83 => ⟨S8x22536x2, .f32⟩
  | 84 => ⟨S8x22536x2, .f32⟩
  | 85 => ⟨S_, .f32⟩
  | 86 => ⟨S8x22536x2, .f32⟩
  | 87 => ⟨S8x22536x2, .f32⟩
  | 88 => ⟨S8x22536x4, .f32⟩
  | 89 => ⟨S_, .i32⟩
  | 90 => ⟨S8x22536, .i32⟩
  | 91 => ⟨S8x22536, .i1⟩
  | 92 => ⟨S_, .i32⟩
  | 93 => ⟨S8x22536, .i32⟩
  | 94 => ⟨S8x22536, .i1⟩
  | 95 => ⟨S8x22536, .f32⟩
  | 96 => ⟨S8x22536x4, .f32⟩
  | 97 => ⟨S8x22536x4, .f32⟩
  | 98 => ⟨S8x22536x1, .f32⟩
  | 99 => ⟨S8x22536x4, .f32⟩
  | 100 => ⟨S8x22536x4, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8x22536, .f32⟩
  | 112 => ⟨S_, .f32⟩
  | 113 => ⟨S8x22536, .f32⟩
  | 114 => ⟨S8x22536, .f32⟩
  | 115 => ⟨S8x22536x1, .f32⟩
  | 116 => ⟨S8x22536x81, .f32⟩
  | 117 => ⟨S8x22536x81, .f32⟩
  | 118 => ⟨S8x22536x81, .f32⟩
  | 119 => ⟨S_, .f32⟩
  | 120 => ⟨S8x22536, .f32⟩
  | 121 => ⟨S8x22536x1, .f32⟩
  | 122 => ⟨S8x22536x1, .f32⟩
  | 123 => ⟨S8x22536x81, .f32⟩
  | 124 => ⟨S8x22536x81, .f32⟩
  | 125 => ⟨S8x22536x1, .i32⟩
  | 126 => ⟨S_, .i32⟩
  | 127 => ⟨S8x22536x1, .i32⟩
  | _ => ⟨S8x22536x4, .f32⟩

abbrev hbmTy0_2 (i : Nat) : BufTy := match i % 128 with
  | 0 => ⟨S8x22536x1, .i1⟩
  | 1 => ⟨S_, .i32⟩
  | 2 => ⟨S8x22536x1, .i32⟩
  | 3 => ⟨S8x22536x1, .i32⟩
  | 4 => ⟨S8x22536x1, .i32⟩
  | 5 => ⟨S8x22536x1x1, .i32⟩
  | 6 => ⟨S1, .i32⟩
  | 7 => ⟨S_, .i32⟩
  | 8 => ⟨S8x22536x1x1, .i32⟩
  | 9 => ⟨S8x22536x1x1, .i1⟩
  | 10 => ⟨S1x1x1x1, .i32⟩
  | 11 => ⟨S8x22536x1x1, .i32⟩
  | 12 => ⟨S8x22536x1x1, .i1⟩
  | 13 => ⟨S8x22536x1x1, .i1⟩
  | 14 => ⟨S_, .i1⟩
  | 15 => ⟨S8x22536x1, .i1⟩
  | 16 => ⟨S8x22536x1, .f32⟩
  | 17 => ⟨S_, .f32⟩
  | 18 => ⟨S8x22536x1, .f32⟩
  | 19 => ⟨S8x22536x1, .f32⟩
  | 20 => ⟨S8x22536, .f32⟩
  | 21 => ⟨S8x22536, .f32⟩
  | 22 => ⟨S_, .f32⟩
  | 23 => ⟨S_, .f32⟩
  | 24 => ⟨S8x22536, .f32⟩
  | 25 => ⟨S8x22536, .f32⟩
  | 26 => ⟨S8x22536, .f32⟩
  | 27 => ⟨S8x22536, .f32⟩
  | 28 => ⟨S_, .f32⟩
  | 29 => ⟨S8x22536, .f32⟩
  | 30 => ⟨S8x22536, .f32⟩
  | 31 => ⟨S_, .f32⟩
  | 32 => ⟨S8x22536, .f32⟩
  | 33 => ⟨S8x22536, .f32⟩
  | 34 => ⟨S8x22536, .f32⟩
  | 35 => ⟨S8x22536, .f32⟩
  | 36 => ⟨S8x22536, .f32⟩
  | 37 => ⟨S8x22536, .i1⟩
  | 38 => ⟨S8x22536, .f32⟩
  | 39 => ⟨S8x22536, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S8x22536x4, .f32⟩

abbrev hbmTy (i : Nat) : BufTy := match i / 128 with
  | 0 => hbmTy0_0 i
  | 1 => hbmTy0_1 i
  | 2 => hbmTy0_2 i
  | _ => ⟨S8x22536x4, .f32⟩

abbrev bufTy : (tb : Table) → Fin (tcTables nBuf tb) → BufTy
  | .hbm, ⟨i, _⟩ => hbmTy i
  | _, _ => ⟨S8x22536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_2 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c : Ref sig .tc := ⟨.hbm, 76, rfl⟩
abbrev main_call1_v0 : Ref sig .tc := ⟨.hbm, 77, rfl⟩
abbrev main_call1_v1 : Ref sig .tc := ⟨.hbm, 78, rfl⟩
abbrev main_v64 : Ref sig .tc := ⟨.hbm, 79, rfl⟩
abbrev main_c_4 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_6 : Ref sig .tc := ⟨.hbm, 88, rfl⟩
abbrev main_call2_v0 : Ref sig .tc := ⟨.hbm, 89, rfl⟩
abbrev main_call2_v1 : Ref sig .tc := ⟨.hbm, 90, rfl⟩
abbrev main_v71 : Ref sig .tc := ⟨.hbm, 91, rfl⟩
abbrev main_c_7 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_8 : Ref sig .tc := ⟨.hbm, 98, rfl⟩
abbrev main_v77 : Ref sig .tc := ⟨.hbm, 99, rfl⟩
abbrev main_v78 : Ref sig .tc := ⟨.hbm, 100, rfl⟩
abbrev main_c_9 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_10 : Ref sig .tc := ⟨.hbm, 105, rfl⟩
abbrev main_v82 : Ref sig .tc := ⟨.hbm, 106, rfl⟩
abbrev main_v83 : Ref sig .tc := ⟨.hbm, 107, rfl⟩
abbrev main_c_11 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_c_12 : Ref sig .tc := ⟨.hbm, 118, rfl⟩
abbrev main_v93 : Ref sig .tc := ⟨.hbm, 119, rfl⟩
abbrev main_v94 : Ref sig .tc := ⟨.hbm, 120, rfl⟩
abbrev main_c_13 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_14 : Ref sig .tc := ⟨.hbm, 125, rfl⟩
abbrev main_v98 : Ref sig .tc := ⟨.hbm, 126, rfl⟩
abbrev main_v99 : Ref sig .tc := ⟨.hbm, 127, rfl⟩
abbrev main_c_15 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_c_17 : Ref sig .tc := ⟨.hbm, 139, rfl⟩
abbrev main_v109 : Ref sig .tc := ⟨.hbm, 140, rfl⟩
abbrev main_v110 : Ref sig .tc := ⟨.hbm, 141, rfl⟩
abbrev main_c_18 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_19 : Ref sig .tc := ⟨.hbm, 146, rfl⟩
abbrev main_v114 : Ref sig .tc := ⟨.hbm, 147, rfl⟩
abbrev main_v115 : Ref sig .tc := ⟨.hbm, 148, rfl⟩
abbrev main_c_20 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_21 : Ref sig .tc := ⟨.hbm, 158, rfl⟩
abbrev main_v124 : Ref sig .tc := ⟨.hbm, 159, rfl⟩
abbrev main_v125 : Ref sig .tc := ⟨.hbm, 160, rfl⟩
abbrev main_c_22 : Ref sig .tc := ⟨.hbm, 161, rfl⟩
abbrev main_call3_v0 : Ref sig .tc := ⟨.hbm, 162, rfl⟩
abbrev main_call3_v1 : Ref sig .tc := ⟨.hbm, 163, rfl⟩
abbrev main_v126 : Ref sig .tc := ⟨.hbm, 164, rfl⟩
abbrev main_cst_23 : Ref sig .tc := ⟨.hbm, 165, rfl⟩
abbrev main_v127 : Ref sig .tc := ⟨.hbm, 166, rfl⟩
abbrev main_v128 : Ref sig .tc := ⟨.hbm, 167, rfl⟩
abbrev main_c_24 : Ref sig .tc := ⟨.hbm, 168, rfl⟩
abbrev main_call4_v0 : Ref sig .tc := ⟨.hbm, 169, rfl⟩
abbrev main_call4_v1 : Ref sig .tc := ⟨.hbm, 170, rfl⟩
abbrev main_v129 : Ref sig .tc := ⟨.hbm, 171, rfl⟩
abbrev main_c_25 : Ref sig .tc := ⟨.hbm, 172, rfl⟩
abbrev main_v130 : Ref sig .tc := ⟨.hbm, 173, rfl⟩
abbrev main_v131 : Ref sig .tc := ⟨.hbm, 174, rfl⟩
abbrev main_c_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_27 : Ref sig .tc := ⟨.hbm, 179, rfl⟩
abbrev main_v135 : Ref sig .tc := ⟨.hbm, 180, rfl⟩
abbrev main_v136 : Ref sig .tc := ⟨.hbm, 181, rfl⟩
abbrev main_c_28 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_29 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_30 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_31 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_c_32 : Ref sig .tc := ⟨.hbm, 217, rfl⟩
abbrev main_v168 : Ref sig .tc := ⟨.hbm, 218, rfl⟩
abbrev main_v169 : Ref sig .tc := ⟨.hbm, 219, rfl⟩
abbrev main_c_33 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_34 : Ref sig .tc := ⟨.hbm, 229, rfl⟩
abbrev main_v178 : Ref sig .tc := ⟨.hbm, 230, rfl⟩
abbrev main_cst_35 : Ref sig .tc := ⟨.hbm, 231, rfl⟩
abbrev main_v179 : Ref sig .tc := ⟨.hbm, 232, rfl⟩
abbrev main_cst_36 : Ref sig .tc := ⟨.hbm, 233, rfl⟩
abbrev main_v180 : Ref sig .tc := ⟨.hbm, 234, rfl⟩
abbrev main_cst_37 : Ref sig .tc := ⟨.hbm, 235, rfl⟩
abbrev main_v181 : Ref sig .tc := ⟨.hbm, 236, rfl⟩
abbrev main_v182 : Ref sig .tc := ⟨.hbm, 237, rfl⟩
abbrev main_call5_cst : Ref sig .tc := ⟨.hbm, 238, rfl⟩
abbrev main_call5_v0 : Ref sig .tc := ⟨.hbm, 239, rfl⟩
abbrev main_call5_cst_0 : Ref sig .tc := ⟨.hbm, 240, rfl⟩
abbrev main_call5_v1 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_call5_v5 : Ref sig .tc := ⟨.hbm, 245, rfl⟩
abbrev main_call5_v6 : Ref sig .tc := ⟨.hbm, 246, rfl⟩
abbrev main_call5_cst_1 : Ref sig .tc := ⟨.hbm, 247, rfl⟩
abbrev main_call5_v7 : Ref sig .tc := ⟨.hbm, 248, rfl⟩
abbrev main_call5_v8 : Ref sig .tc := ⟨.hbm, 249, rfl⟩
abbrev main_call5_v9 : Ref sig .tc := ⟨.hbm, 250, rfl⟩
abbrev main_call5_v10 : Ref sig .tc := ⟨.hbm, 251, rfl⟩
abbrev main_v183 : Ref sig .tc := ⟨.hbm, 252, rfl⟩
abbrev main_v184 : Ref sig .tc := ⟨.hbm, 253, rfl⟩
abbrev main_call6_c : Ref sig .tc := ⟨.hbm, 254, rfl⟩
abbrev main_call6_v0 : Ref sig .tc := ⟨.hbm, 255, rfl⟩
abbrev main_call6_v1 : Ref sig .tc := ⟨.hbm, 256, rfl⟩
abbrev main_call6_c_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_c_1 : Ref sig .tc := ⟨.hbm, 262, rfl⟩
abbrev main_call6_c_2 : Ref sig .tc := ⟨.hbm, 263, rfl⟩
abbrev main_call6_v6 : Ref sig .tc := ⟨.hbm, 264, rfl⟩
abbrev main_call6_v7 : Ref sig .tc := ⟨.hbm, 265, rfl⟩
abbrev main_call6_v8 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_c_3 : Ref sig .tc := ⟨.hbm, 270, rfl⟩
abbrev main_call6_v12 : Ref sig .tc := ⟨.hbm, 271, rfl⟩
abbrev main_call6_v13 : Ref sig .tc := ⟨.hbm, 272, rfl⟩
abbrev main_call6_cst : Ref sig .tc := ⟨.hbm, 273, rfl⟩
abbrev main_call6_v14 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_cst_38 : Ref sig .tc := ⟨.hbm, 278, rfl⟩
abbrev main_cst_39 : Ref sig .tc := ⟨.hbm, 279, rfl⟩
abbrev main_call7_v0 : Ref sig .tc := ⟨.hbm, 280, rfl⟩
abbrev main_call7_v1 : Ref sig .tc := ⟨.hbm, 281, rfl⟩
abbrev main_v188 : Ref sig .tc := ⟨.hbm, 282, rfl⟩
abbrev main_v189 : Ref sig .tc := ⟨.hbm, 283, rfl⟩
abbrev main_cst_40 : Ref sig .tc := ⟨.hbm, 284, rfl⟩
abbrev main_v190 : Ref sig .tc := ⟨.hbm, 285, rfl⟩
abbrev main_v191 : Ref sig .tc := ⟨.hbm, 286, rfl⟩
abbrev main_cst_41 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_cst_42 : Ref sig .tc := ⟨.hbm, 296, rfl⟩
abbrev main_v200 : Ref sig .tc := ⟨.hbm, 297, rfl⟩
abbrev main_cst_43 : Ref sig .tc := ⟨.hbm, 298, rfl⟩
abbrev main_v201 : Ref sig .tc := ⟨.hbm, 299, rfl⟩
abbrev main_cst_44 : Ref sig .tc := ⟨.hbm, 300, rfl⟩
abbrev main_v202 : Ref sig .tc := ⟨.hbm, 301, rfl⟩
abbrev main_v203 : Ref sig .tc := ⟨.hbm, 302, rfl⟩
abbrev main_cst_45 : Ref sig .tc := ⟨.hbm, 303, rfl⟩
abbrev main_v204 : Ref sig .tc := ⟨.hbm, 304, rfl⟩
abbrev main_v205 : Ref sig .tc := ⟨.hbm, 305, rfl⟩

abbrev nD : Nat := 1
abbrev τ : Topo := Topo.v7x

variable {F : FTy → Type} [FloatOps F]
-- ==== Proof.Common.lean ====
/-
  What every module on the two Pallas calls shares: the proof's resource algebra, the local notation of assertions,
  and the two facts by which a body's run is read back — a load of a whole buffer reads its contents, and a store over
  the whole buffer leaves its payload.
-/
module

public import proofs.«01_k».proof.Defs
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Tactic
public import Idealize.ShloMosaic.Lib.VecWindow
public import Idealize.ShloMosaic.Lib.Pipeline.TableIdle
public import Idealize.ShloMosaic.Lib.Pipeline.DatRel

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's resource algebra: the pipelines' staging cells and one counter component. -/
abbrev UU : Type := UR sig nD τ × Counters

/-- The pipelines' component of it. -/
abbrev EP : Emb (UR sig nD τ) (MT nD τ sig Unit (Elt F) ℕ UU ℕ) := embL

/-- No variants: no loop of the program needs one. -/
abbrev 𝒱₀ : Variants := Variants.none

/-- A load of a view's own sizes, over a list of stores the last of which is of those sizes too, is that store's payload. -/
theorem readCov_full {κ : Kind} {sp : Space} {s : Shape} {e : EltTy} (v : View sig κ sp s e) {off off' : Fin s.rank → ℕ}
    (inb : ∀ a, off a + s.size a ≤ s.size a) (inb' : ∀ a, off' a + s.size a ≤ s.size a)
    (w : (Rect.unit off s.size inb).shape.Idx → Elt F e) (L : List (View.Piece (Elt F) s e)) :
    v.readCov (⟨Rect.unit off s.size inb, w⟩ :: L) (Rect.unit off' s.size inb').toLoadRect = w := by
  unfold View.readCov
  rw [View.readAt_full, View.read_writes_full]

end Cert.Proof

end
-- ==== Proof.R0Body.lean ====
/-
  The matching kernel's body, run once on symbolic whole staging buffers in each of its five kinds of point, with what
  it leaves written by the payloads of the printed program.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What a point computes, by the payloads of the body -/

/-- The tile number of a point, as the body's word. -/
abbrev tile (i : grid0.Coords) : BitVec 32 := BitVec.ofNat 32 (i 1).val

/-- The first point's condition; a first tile's; a later tile's. -/
def k0_condA (i : grid0.Coords) : BitVec 1 :=
  Scalar.cmpi .ne (Scalar.extui (Scalar.andi (Scalar.cmpi .eq (BitVec.ofNat 32 (i 0).val) 0#32)
    (Scalar.cmpi .eq (tile i) 0#32)) : BitVec 32) 0#32
def k0_condB (i : grid0.Coords) : BitVec 1 :=
  Scalar.cmpi .ne (Scalar.extui (Scalar.cmpi .eq (tile i) 0#32) : BitVec 32) 0#32
def k0_condC (i : grid0.Coords) : BitVec 1 :=
  Scalar.cmpi .ne (Scalar.extui (Scalar.cmpi .sgt (tile i) 0#32) : BitVec 32) 0#32

/-- A tile's best overlap of each prior, the object it is with, each object's best overlap in the tile, and its prior. -/
def ov1 (w : BitVec 32) (p : Vec F S4x8192 .f32) (b : Vec F S1x20x4 .f32) : FVec F S1x8192 .f32 :=
  k0_pay31 w (k0_pay25 p b) (k0_pay26 p) (k0_pay27 b)
def ob1 (w : BitVec 32) (p : Vec F S4x8192 .f32) (b : Vec F S1x20x4 .f32) : IVec S1x8192 32 :=
  k0_pay32 w (k0_pay25 p b) (k0_pay26 p) (k0_pay27 b)
def rm1 (w : BitVec 32) (p : Vec F S4x8192 .f32) (b : Vec F S1x20x4 .f32) : FVec F S20x1 .f32 :=
  k0_pay33 w (k0_pay25 p b) (k0_pay26 p) (k0_pay27 b)
def ri1 (w : BitVec 32) (p : Vec F S4x8192 .f32) (b : Vec F S1x20x4 .f32) : IVec S20x1 32 :=
  k0_pay34 w (k0_pay25 p b) (k0_pay26 p) (k0_pay27 b)

/-- The running best overlap and prior of each object after a further tile. -/
def va1 (rm va : FVec F S20x1 .f32) : FVec F S20x1 .f32 := k0_pay9 rm va va
def ia1 (rm va : FVec F S20x1 .f32) (ri ia : IVec S20x1 32) : IVec S20x1 32 := k0_pay8 rm ri va ia

/-- The second phase's masks of a tile: positive, ignored, and the one counted. -/
def pos1 (w : BitVec 32) (ov : Vec F S1x8192 .f32) (ia : Vec F S20x1 .i32) : IVec S1x8192 1 :=
  k0_pay55 (k0_pay46 w) (k0_pay49 w ov ia)
def ign1 (w : BitVec 32) (ov : Vec F S1x8192 .f32) (ia : Vec F S20x1 .i32) : IVec S1x8192 1 :=
  k0_pay56 (k0_pay46 w) (k0_pay49 w ov ia)
def mat1 (w : BitVec 32) (ov : Vec F S1x8192 .f32) (ia : Vec F S20x1 .i32) : IVec S1x8192 1 :=
  k0_pay57 (k0_pay46 w) (k0_pay49 w ov ia)

/-- The code block a tile writes. -/
def code1 (w : BitVec 32) (ov : Vec F S1x8192 .f32) (ob : Vec F S1x8192 .i32) (ia : Vec F S20x1 .i32)
    (l : Vec F S1x20x1 .i32) : FVec F S1x8x8192 .f32 :=
  k0_pay59 (pos1 w ov ia) (ign1 w ov ia) (k0_pay58 (k0_pay50 w ob ia) l)

/-- The three totals after a further tile. -/
def am1 (w : BitVec 32) (ov : Vec F S1x8192 .f32) (ia : Vec F S20x1 .i32) (a : Vec F S1x1 .f32) : FVec F S1x1 .f32 :=
  k0_pay64 (mat1 w ov ia) a
def ap1 (w : BitVec 32) (ov : Vec F S1x8192 .f32) (ia : Vec F S20x1 .i32) (a : Vec F S1x1 .f32) : FVec F S1x1 .f32 :=
  k0_pay65 (pos1 w ov ia) a
def ad1 (w : BitVec 32) (p : Vec F S4x8192 .f32) (b : Vec F S1x20x4 .f32) (d : Vec F S1x4x8192 .f32)
    (ov : Vec F S1x8192 .f32) (ob : Vec F S1x8192 .i32) (ia : Vec F S20x1 .i32) (a : Vec F S1x1 .f32) : FVec F S1x1 .f32 :=
  let h := k0_pay50 w ob ia
  let c0 := k0_pay51 (k0_pay41 b) h
  let c1 := k0_pay52 (k0_pay42 b) h
  let c2 := k0_pay53 (k0_pay43 b) h
  let c3 := k0_pay54 (k0_pay44 b) h
  k0_pay10 (k0_pay66 (pos1 w ov ia) (k0_pay60 (k0_pay39 p) c1 c3) (k0_pay61 d)
    (k0_pay62 (k0_pay36 p) (k0_pay37 p) (k0_pay38 p) (k0_pay39 p) c0 c1 c2 c3 d) (k0_pay63 (k0_pay38 p) c0 c2 d) a)

/-- The first point: the totals start from zero, the running best is the first tile's. -/
theorem body0_first (c : Dev nD) (E : Set ℕ) (i : grid0.Coords)
    (M2 : Memref sig .tc .vmem S4x8192 .f32) (h2 : M2.IsWhole)
    (M3 : Memref sig .tc .vmem S1x20x4 .f32) (h3 : M3.IsWhole)
    (M4 : Memref sig .tc .vmem S1x20x1 .i32) (h4 : M4.IsWhole)
    (M5 : Memref sig .tc .vmem S1x4x8192 .f32) (h5 : M5.IsWhole)
    (M6 : Memref sig .tc .vmem S1x8x8192 .f32) (h6 : M6.IsWhole)
    (M7 : Memref sig .tc .vmem S1x1 .f32) (h7 : M7.IsWhole)
    (M8 : Memref sig .tc .vmem S1x1 .f32) (h8 : M8.IsWhole)
    (M9 : Memref sig .tc .vmem S1x1 .f32) (h9 : M9.IsWhole)
    (M10 : Memref sig .tc .vmem S20x1 .f32) (h10 : M10.IsWhole)
    (M11 : Memref sig .tc .vmem S20x1 .i32) (h11 : M11.IsWhole)
    (M12 : Memref sig .tc .vmem S1x24576 .f32) (h12 : M12.IsWhole)
    (M13 : Memref sig .tc .vmem S1x24576 .i32) (h13 : M13.IsWhole)
    (M14 : Memref sig .tc .vmem S1x1 .f32) (h14 : M14.IsWhole)
    (M15 : Memref sig .tc .vmem S1x1 .f32) (h15 : M15.IsWhole)
    (M16 : Memref sig .tc .vmem S1x1 .f32) (h16 : M16.IsWhole)
    (p : Vec F S4x8192 .f32) (b : Vec F S1x20x4 .f32) (va : Vec F S20x1 .f32) (ia : Vec F S20x1 .i32) (ov : Vec F S1x24576 .f32) (ob : Vec F S1x24576 .i32) (am : Vec F S1x1 .f32) (ap : Vec F S1x1 .f32) (ad : Vec F S1x1 .f32)
    (hA : k0_condA i = 1#1) (hE2 : k0_cond2 i = 1#1) (hB : k0_condB i = 1#1) (hC : ¬ k0_condC i = 1#1) (hE : ¬ k0_cond5 i = 1#1) (hZ : ¬ k0_cond6 i = 1#1) (K : PUnit → sProp 𝕄) :
    iprop(owns (c : Thread nD τ) M2 fullShare p
          ∗ owns (c : Thread nD τ) M3 fullShare b
          ∗ owns (c : Thread nD τ) M10 fullShare va
          ∗ owns (c : Thread nD τ) M11 fullShare ia
          ∗ owns (c : Thread nD τ) M12 fullShare ov
          ∗ owns (c : Thread nD τ) M13 fullShare ob
          ∗ owns (c : Thread nD τ) M14 fullShare am
          ∗ owns (c : Thread nD τ) M15 fullShare ap
          ∗ owns (c : Thread nD τ) M16 fullShare ad
          ∗ (iprop(owns (c : Thread nD τ) M2 fullShare p
          ∗ owns (c : Thread nD τ) M3 fullShare b
          ∗ owns (c : Thread nD τ) M10 fullShare (k0_pay5 (rm1 (tile i) p b))
          ∗ owns (c : Thread nD τ) M11 fullShare (k0_pay6 (ri1 (tile i) p b))
          ∗ owns (c : Thread nD τ) M12 fullShare (VecWindow.put ov (k0_off1 i) S1x8192.size (ov1 (tile i) p b))
          ∗ owns (c : Thread nD τ) M13 fullShare (VecWindow.put ob (k0_off1 i) S1x8192.size (ob1 (tile i) p b))
          ∗ owns (c : Thread nD τ) M14 fullShare (k0_pay2 (F := F))
          ∗ owns (c : Thread nD τ) M15 fullShare (k0_pay3 (F := F))
          ∗ owns (c : Thread nD τ) M16 fullShare (k0_pay4 (F := F))) -∗ K ⟨⟩))
      ⊢ wp frame (wpE (defs₀ (F := F)) 𝒱₀ c none) E (cc0__lambda_ i M2 h2 M3 h3 M4 h4 M5 h5 M6 h6 M7 h7 M8 h8 M9 h9 M10 h10 M11 h11 M12 h12 M13 h13 M14 h14 M15 h15 M16 h16) K := by
  unfold k0_condA at hA
  unfold k0_condB at hB
  unfold k0_condC at hC
  rw [cc0__lambda__eq_skeleton]
  iintro ⟨H2, H3, H10, H11, H12, H13, H14, H15, H16, Hk⟩
  ihave H2 := (rep_of_owns (c : Thread nD τ) M2 _ p) $$ H2
  ihave H3 := (rep_of_owns (c : Thread nD τ) M3 _ b) $$ H3
  ihave H10 := (rep_of_owns (c : Thread nD τ) M10 _ va) $$ H10
  ihave H11 := (rep_of_owns (c : Thread nD τ) M11 _ ia) $$ H11
  ihave H12 := (rep_of_owns (c : Thread nD τ) M12 _ ov) $$ H12
  ihave H13 := (rep_of_owns (c : Thread nD τ) M13 _ ob) $$ H13
  ihave H14 := (rep_of_owns (c : Thread nD τ) M14 _ am) $$ H14
  ihave H15 := (rep_of_owns (c : Thread nD τ) M15 _ ap) $$ H15
  ihave H16 := (rep_of_owns (c : Thread nD τ) M16 _ ad) $$ H16
  unfold cc0__lambda__skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  have e2 : ∀ x inb, M2.view.readAt (Elt F) (Rect.unit (s := S4x8192) ![0, 0] S4x8192.size inb).toLoadRect (M2.view.rep x) = x :=
    fun _ _ => View.readAt_rep_full _ _ _
  have e3 : ∀ x inb, M3.view.readAt (Elt F) (Rect.unit (s := S1x20x4) ![0, 0, 0] S1x20x4.size inb).toLoadRect (M3.view.rep x) = x :=
    fun _ _ => View.readAt_rep_full _ _ _
  have e4 : ∀ x inb, M4.view.readAt (Elt F) (Rect.unit (s := S1x20x1) ![0, 0, 0] S1x20x1.size inb).toLoadRect (M4.view.rep x) = x :=
    fun _ _ => View.readAt_rep_full _ _ _
  have e5 : ∀ x inb, M5.view.readAt (Elt F) (Rect.unit (s := S1x4x8192) ![0, 0, 0] S1x4x8192.size inb).toLoadRect (M5.view.rep x) = x :=
    fun _ _ => View.readAt_rep_full _ _ _
  have e6 : ∀ x inb, M6.view.readAt (Elt F) (Rect.unit (s := S1x8x8192) ![0, 0, 0] S1x8x8192.size inb).toLoadRect (M6.view.rep x) = x :=
    fun _ _ => View.readAt_rep_full _ _ _
  have e7 : ∀ x inb, M7.view.readAt (Elt F) (Rect.unit (s := S1x1) ![0, 0] S1x1.size inb).toLoadRect (M7.view.rep x) = x :=
    fun _ _ => View.readAt_rep_full _ _ _
  have e8 : ∀ x inb, M8.view.readAt (Elt F) (Rect.unit (s := S1x1) ![0, 0] S1x1.size inb).toLoadRect (M8.view.rep x) = x :=
    fun _ _ => View.readAt_rep_full _ _ _
  have e9 : ∀ x inb, M9.view.readAt (Elt F) (Rect.unit (s := S1x1) ![0, 0] S1x1.size inb).toLoadRect (M9.view.rep x) = x :=
    fun _ _ => View.readAt_rep_full _ _ _
  have e10 : ∀ x inb, M10.view.readAt (Elt F) (Rect.unit (s := S20x1) ![0, 0] S20x1.size inb).toLoadRect (M10.view.rep x) = x :=
    fun _ _ => View.readAt_rep_full _ _ _
  have e11 : ∀ x inb, M11.view.readAt (Elt F) (Rect.unit (s := S20x1) ![0, 0] S20x1.size inb).toLoadRect (M11.view.rep x) = x :=
    fun _ _ => View.readAt_rep_full _ _ _
  have e14 : ∀ x inb, M14.view.readAt (Elt F) (Rect.unit (s := S1x1) ![0, 0] S1x1.size inb).toLoadRect (M14.view.rep x) = x :=
    fun _ _ => View.readAt_rep_full _ _ _
  have e15 : ∀ x inb, M15.view.readAt (Elt F) (Rect.unit (s := S1x1) ![0, 0] S1x1.size inb).toLoadRect (M15.view.rep x) = x :=
    fun _ _ => View.readAt_rep_full _ _ _
  have e16 : ∀ x inb, M16.view.readAt (Elt F) (Rect.unit (s := S1x1) ![0, 0] S1x1.size inb).toLoadRect (M16.view.rep x) = x :=
    fun _ _ => View.readAt_rep_full _ _ _
  have c10 : ∀ (w : S20x1.Idx → Elt F .f32) (L : List (View.Piece (Elt F) S20x1 .f32)) inb inb',
      M10.view.readCov (⟨Rect.unit (s := S20x1) ![0, 0] S20x1.size inb, w⟩ :: L)
        (Rect.unit (s := S20x1) ![0, 0] S20x1.size inb').toLoadRect = w := fun w L i j => readCov_full (s := S20x1) M10.view i j w L
  have c11 : ∀ (w : S20x1.Idx → Elt F .i32) (L : List (View.Piece (Elt F) S20x1 .i32)) inb inb',
      M11.view.readCov (⟨Rect.unit (s := S20x1) ![0, 0] S20x1.size inb, w⟩ :: L)
        (Rect.unit (s := S20x1) ![0, 0] S20x1.size inb').toLoadRect = w := fun w L i j => readCov_full (s := S20x1) M11.view i j w L
  have c14 : ∀ (w : S1x1.Idx → Elt F .f32) (L : List (View.Piece (Elt F) S1x1 .f32)) inb inb',
      M14.view.readCov (⟨Rect.unit (s := S1x1) ![0, 0] S1x1.size inb, w⟩ :: L)
        (Rect.unit (s := S1x1) ![0, 0] S1x1.size inb').toLoadRect = w := fun w L i j => readCov_full (s := S1x1) M14.view i j w L
  have c15 : ∀ (w : S1x1.Idx → Elt F .f32) (L : List (View.Piece (Elt F) S1x1 .f32)) inb inb',
      M15.view.readCov (⟨Rect.unit (s := S1x1) ![0, 0] S1x1.size inb, w⟩ :: L)
        (Rect.unit (s := S1x1) ![0, 0] S1x1.size inb').toLoadRect = w := fun w L i j => readCov_full (s := S1x1) M15.view i j w L
  have c16 : ∀ (w : S1x1.Idx → Elt F .f32) (L : List (View.Piece (Elt F) S1x1 .f32)) inb inb',
      M16.view.readCov (⟨Rect.unit (s := S1x1) ![0, 0] S1x1.size inb, w⟩ :: L)
        (Rect.unit (s := S1x1) ![0, 0] S1x1.size inb').toLoadRect = w := fun w L i j => readCov_full (s := S1x1) M16.view i j w L
  have e12 : ∀ x o inb, M12.view.readAt (Elt F) (Rect.unit (s := S1x24576) o S1x8192.size inb).toLoadRect (M12.view.rep x)
      = VecWindow.window x o S1x8192.size inb := fun _ _ _ => View.readAt_rep_unit _ _ _ rfl _
  have e13 : ∀ x o inb, M13.view.readAt (Elt F) (Rect.unit (s := S1x24576) o S1x8192.size inb).toLoadRect (M13.view.rep x)
      = VecWindow.window x o S1x8192.size inb := fun _ _ _ => View.readAt_rep_unit _ _ _ rfl _
  sl_exec!
  sl_step
  iapply Hk
  isplitl [H2]
  · iapply (owns_of_rep (c : Thread nD τ) M2 _ _); iexact H2
  isplitl [H3]
  · iapply (owns_of_rep (c : Thread nD τ) M3 _ _); iexact H3
  isplitl [H10]
  · unfold owns; iexists _; isplitr; swap; (· iexact H10)
    ipureintro
    refine (View.read_writes_full _ _ _ _ _).trans ?_
    dsimp only [tile, ov1, ob1, rm1, ri1, va1, ia1, pos1, ign1, mat1, code1, am1, ap1, ad1]
  isplitl [H11]
  · unfold owns; iexists _; isplitr; swap; (· iexact H11)
    ipureintro
    refine (View.read_writes_full _ _ _ _ _).trans ?_
    dsimp only [tile, ov1, ob1, rm1, ri1, va1, ia1, pos1, ign1, mat1, code1, am1, ap1, ad1]
  isplitl [H12]
  · unfold owns; iexists _; isplitr; swap; (· iexact H12)
    ipureintro
    refine (View.read_writes_rep_unit _ _ _ _ rfl).trans ?_
    dsimp only [tile, ov1, ob1, rm1, ri1, va1, ia1, pos1, ign1, mat1, code1, am1, ap1, ad1]
  isplitl [H13]
  · unfold owns; iexists _; isplitr; swap; (· iexact H13)
    ipureintro
    refine (View.read_writes_rep_unit _ _ _ _ rfl).trans ?_
    dsimp only [tile, ov1, ob1, rm1, ri1, va1, ia1, pos1, ign1, mat1, code1, am1, ap1, ad1]
  isplitl [H14]
  · unfold owns; iexists _; isplitr; swap; (· iexact H14)
    ipureintro
    refine (View.read_writes_full _ _ _ _ _).trans ?_
    dsimp only [tile, ov1, ob1, rm1, ri1, va1, ia1, pos1, ign1, mat1, code1, am1, ap1, ad1]
  isplitl [H15]
  · unfold owns; iexists _; isplitr; swap; (· iexact H15)
    ipureintro
    refine (View.read_writes_full _ _ _ _ _).trans ?_
    dsimp only [tile, ov1, ob1, rm1, ri1, va1, ia1, pos1, ign1, mat1, code1, am1, ap1, ad1]
  unfold owns; iexists _; isplitr; swap; (· iexact H16)
  ipureintro
  refine (View.read_writes_full _ _ _ _ _).trans ?_
  dsimp only [tile, ov1, ob1, rm1, ri1, va1, ia1, pos1, ign1, mat1, code1, am1, ap1, ad1]

/-- The first tile of a later image: the running best is this tile's. -/
theorem body0_tile0 (c : Dev nD) (E : Set ℕ) (i : grid0.Coords)
    (M2 : Memref sig .tc .vmem S4x8192 .f32) (h2 : M2.IsWhole)
    (M3 : Memref sig .tc .vmem S1x20x4 .f32) (h3 : M3.IsWhole)
    (M4 : Memref sig .tc .vmem S1x20x1 .i32) (h4 : M4.IsWhole)
    (M5 : Memref sig .tc .vmem S1x4x8192 .f32) (h5 : M5.IsWhole)
    (M6 : Memref sig .tc .vmem S1x8x8192 .f32) (h6 : M6.IsWhole)
    (M7 : Memref sig .tc .vmem S1x1 .f32) (h7 : M7.IsWhole)
    (M8 : Memref sig .tc .vmem S1x1 .f32) (h8 : M8.IsWhole)
    (M9 : Memref sig .tc .vmem S1x1 .f32) (h9 : M9.IsWhole)
    (M10 : Memref sig .tc .vmem S20x1 .f32) (h10 : M10.IsWhole)
    (M11 : Memref sig .tc .vmem S20x1 .i32) (h11 : M11.IsWhole)
    (M12 : Memref sig .tc .vmem S1x24576 .f32) (h12 : M12.IsWhole)
    (M13 : Memref sig .tc .vmem S1x24576 .i32) (h13 : M13.IsWhole)
    (M14 : Memref sig .tc .vmem S1x1 .f32) (h14 : M14.IsWhole)
    (M15 : Memref sig .tc .vmem S1x1 .f32) (h15 : M15.IsWhole)
    (M16 : Memref sig .tc .vmem S1x1 .f32) (h16 : M16.IsWhole)
    (p : Vec F S4x8192 .f32) (b : Vec F S1x20x4 .f32) (va : Vec F S20x1 .f32) (ia : Vec F S20x1 .i32) (ov : Vec F S1x24576 .f32) (ob : Vec F S1x24576 .i32)
    (hA : ¬ k0_condA i = 1#1) (hE2 : k0_cond2 i = 1#1) (hB : k0_condB i = 1#1) (hC : ¬ k0_condC i = 1#1) (hE : ¬ k0_cond5 i = 1#1) (hZ : ¬ k0_cond6 i = 1#1) (K : PUnit → sProp 𝕄) :
    iprop(owns (c : Thread nD τ) M2 fullShare p
          ∗ owns (c : Thread nD τ) M3 fullShare b
          ∗ owns (c : Thread nD τ) M10 fullShare va
          ∗ owns (c : Thread nD τ) M11 fullShare ia
          ∗ owns (c : Thread nD τ) M12 fullShare ov
          ∗ owns (c : Thread nD τ) M13 fullShare ob
          ∗ (iprop(owns (c : Thread nD τ) M2 fullShare p
          ∗ owns (c : Thread nD τ) M3 fullShare b
          ∗ owns (c : Thread nD τ) M10 fullShare (k0_pay5 (rm1 (tile i) p b))
          ∗ owns (c : Thread nD τ) M11 fullShare (k0_pay6 (ri1 (tile i) p b))
          ∗ owns (c : Thread nD τ) M12 fullShare (VecWindow.put ov (k0_off1 i) S1x8192.size (ov1 (tile i) p b))
          ∗ owns (c : Thread nD τ) M13 fullShare (VecWindow.put ob (k0_off1 i) S1x8192.size (ob1 (tile i) p b))) -∗ K ⟨⟩))
      ⊢ wp frame (wpE (defs₀ (F := F)) 𝒱₀ c none) E (cc0__lambda_ i M2 h2 M3 h3 M4 h4 M5 h5 M6 h6 M7 h7 M8 h8 M9 h9 M10 h10 M11 h11 M12 h12 M13 h13 M14 h14 M15 h15 M16 h16) K := by
  unfold k0_condA at hA
  unfold k0_condB at hB
  unfold k0_condC at hC
  rw [cc0__lambda__eq_skeleton]
  iintro ⟨H2, H3, H10, H11, H12, H13, Hk⟩
  ihave H2 := (rep_of_owns (c : Thread nD τ) M2 _ p) $$ H2
  ihave H3 := (rep_of_owns (c : Thread nD τ) M3 _ b) $$ H3
  ihave H10 := (rep_of_owns (c : Thread nD τ) M10 _ va) $$ H10
  ihave H11 := (rep_of_owns (c : Thread nD τ) M11 _ ia) $$ H11
  ihave H12 := (rep_of_owns (c : Thread nD τ) M12 _ ov) $$ H12
  ihave H13 := (rep_of_owns (c : Thread nD τ) M13 _ ob) $$ H13
  unfold cc0__lambda__skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  have e2 : ∀ x inb, M2.view.readAt (Elt F) (Rect.unit (s := S4x8192) ![0, 0] S4x8192.size inb).toLoadRect (M2.view.rep x) = x :=
    fun _ _ => View.readAt_rep_full _ _ _
  have e3 : ∀ x inb, M3.view.readAt (Elt F) (Rect.unit (s := S1x20x4) ![0, 0, 0] S1x20x4.size inb).toLoadRect (M3.view.rep x) = x :=
    fun _ _ => View.readAt_rep_full _ _ _
  have e4 : ∀ x inb, M4.view.readAt (Elt F) (Rect.unit (s := S1x20x1) ![0, 0, 0] S1x20x1.size inb).toLoadRect (M4.view.rep x) = x :=
    fun _ _ => View.readAt_rep_full _ _ _
  have e5 : ∀ x inb, M5.view.readAt (Elt F) (Rect.unit (s := S1x4x8192) ![0, 0, 0] S1x4x8192.size inb).toLoadRect (M5.view.rep x) = x :=
    fun _ _ => View.readAt_rep_full _ _ _
  have e6 : ∀ x inb, M6.view.readAt (Elt F) (Rect.unit (s := S1x8x8192) ![0, 0, 0] S1x8x8192.size inb).toLoadRect (M6.view.rep x) = x :=
    fun _ _ => View.readAt_rep_full _ _ _
  have e7 : ∀ x inb, M7.view.readAt (Elt F) (Rect.unit (s := S1x1) ![0, 0] S1x1.size inb).toLoadRect (M7.view.rep x) = x :=
    fun _ _ => View.readAt_rep_full _ _ _
  have e8 : ∀ x inb, M8.view.readAt (Elt F) (Rect.unit (s := S1x1) ![0, 0] S1x1.size inb).toLoadRect (M8.view.rep x) = x :=
    fun _ _ => View.readAt_rep_full _ _ _
  have e9 : ∀ x inb, M9.view.readAt (Elt F) (Rect.unit (s := S1x1) ![0, 0] S1x1.size inb).toLoadRect (M9.view.rep x) = x :=
    fun _ _ => View.readAt_rep_full _ _ _
  have e10 : ∀ x inb, M10.view.readAt (Elt F) (Rect.unit (s := S20x1) ![0, 0] S20x1.size inb).toLoadRect (M10.view.rep x) = x :=
    fun _ _ => View.readAt_rep_full _ _ _
  have e11 : ∀ x inb, M11.view.readAt (Elt F) (Rect.unit (s := S20x1) ![0, 0] S20x1.size inb).toLoadRect (M11.view.rep x) = x :=
    fun _ _ => View.readAt_rep_full _ _ _
  have e14 : ∀ x inb, M14.view.readAt (Elt F) (Rect.unit (s := S1x1) ![0, 0] S1x1.size inb).toLoadRect (M14.view.rep x) = x :=
    fun _ _ => View.readAt_rep_full _ _ _
  have e15 : ∀ x inb, M15.view.readAt (Elt F) (Rect.unit (s := S1x1) ![0, 0] S1x1.size inb).toLoadRect (M15.view.rep x) = x :=
    fun _ _ => View.readAt_rep_full _ _ _
  have e16 : ∀ x inb, M16.view.readAt (Elt F) (Rect.unit (s := S1x1) ![0, 0] S1x1.size inb).toLoadRect (M16.view.rep x) = x :=
    fun _ _ => View.readAt_rep_full _ _ _
  have c10 : ∀ (w : S20x1.Idx → Elt F .f32) (L : List (View.Piece (Elt F) S20x1 .f32)) inb inb',
      M10.view.readCov (⟨Rect.unit (s := S20x1) ![0, 0] S20x1.size inb, w⟩ :: L)
        (Rect.unit (s := S20x1) ![0, 0] S20x1.size inb').toLoadRect = w := fun w L i j => readCov_full (s := S20x1) M10.view i j w L
  have c11 : ∀ (w : S20x1.Idx → Elt F .i32) (L : List (View.Piece (Elt F) S20x1 .i32)) inb inb',
      M11.view.readCov (⟨Rect.unit (s := S20x1) ![0, 0] S20x1.size inb, w⟩ :: L)
        (Rect.unit (s := S20x1) ![0, 0] S20x1.size inb').toLoadRect = w := fun w L i j => readCov_full (s := S20x1) M11.view i j w L
  have c14 : ∀ (w : S1x1.Idx → Elt F .f32) (L : List (View.Piece (Elt F) S1x1 .f32)) inb inb',
      M14.view.readCov (⟨Rect.unit (s := S1x1) ![0, 0] S1x1.size inb, w⟩ :: L)
        (Rect.unit (s := S1x1) ![0, 0] S1x1.size inb').toLoadRect = w := fun w L i j => readCov_full (s := S1x1) M14.view i j w L
  have c15 : ∀ (w : S1x1.Idx → Elt F .f32) (L : List (View.Piece (Elt F) S1x1 .f32)) inb inb',
      M15.view.readCov (⟨Rect.unit (s := S1x1) ![0, 0] S1x1.size inb, w⟩ :: L)
        (Rect.unit (s := S1x1) ![0, 0] S1x1.size inb').toLoadRect = w := fun w L i j => readCov_full (s := S1x1) M15.view i j w L
  have c16 : ∀ (w : S1x1.Idx → Elt F .f32) (L : List (View.Piece (Elt F) S1x1 .f32)) inb inb',
      M16.view.readCov (⟨Rect.unit (s := S1x1) ![0, 0] S1x1.size inb, w⟩ :: L)
        (Rect.unit (s := S1x1) ![0, 0] S1x1.size inb').toLoadRect = w := fun w L i j => readCov_full (s := S1x1) M16.view i j w L
  have e12 : ∀ x o inb, M12.view.readAt (Elt F) (Rect.unit (s := S1x24576) o S1x8192.size inb).toLoadRect (M12.view.rep x)
      = VecWindow.window x o S1x8192.size inb := fun _ _ _ => View.readAt_rep_unit _ _ _ rfl _
  have e13 : ∀ x o inb, M13.view.readAt (Elt F) (Rect.unit (s := S1x24576) o S1x8192.size inb).toLoadRect (M13.view.rep x)
      = VecWindow.window x o S1x8192.size inb := fun _ _ _ => View.readAt_rep_unit _ _ _ rfl _
  sl_exec!
  sl_step
  iapply Hk
  isplitl [H2]
  · iapply (owns_of_rep (c : Thread nD τ) M2 _ _); iexact H2
  isplitl [H3]
  · iapply (owns_of_rep (c : Thread nD τ) M3 _ _); iexact H3
  isplitl [H10]
  · unfold owns; iexists _; isplitr; swap; (· iexact H10)
    ipureintro
    refine (View.read_writes_full _ _ _ _ _).trans ?_
    dsimp only [tile, ov1, ob1, rm1, ri1, va1, ia1, pos1, ign1, mat1, code1, am1, ap1, ad1]
  isplitl [H11]
  · unfold owns; iexists _; isplitr; swap; (· iexact H11)
    ipureintro
    refine (View.read_writes_full _ _ _ _ _).trans ?_
    dsimp only [tile, ov1, ob1, rm1, ri1, va1, ia1, pos1, ign1, mat1, code1, am1, ap1, ad1]
  isplitl [H12]
  · unfold owns; iexists _; isplitr; swap; (· iexact H12)
    ipureintro
    refine (View.read_writes_rep_unit _ _ _ _ rfl).trans ?_
    dsimp only [tile, ov1, ob1, rm1, ri1, va1, ia1, pos1, ign1, mat1, code1, am1, ap1, ad1]
  unfold owns; iexists _; isplitr; swap; (· iexact H13)
  ipureintro
  refine (View.read_writes_rep_unit _ _ _ _ rfl).trans ?_
  dsimp only [tile, ov1, ob1, rm1, ri1, va1, ia1, pos1, ign1, mat1, code1, am1, ap1, ad1]

/-- A later tile of the first phase: the running best takes this tile's where it is greater. -/
theorem body0_tile12 (c : Dev nD) (E : Set ℕ) (i : grid0.Coords)
    (M2 : Memref sig .tc .vmem S4x8192 .f32) (h2 : M2.IsWhole)
    (M3 : Memref sig .tc .vmem S1x20x4 .f32) (h3 : M3.IsWhole)
    (M4 : Memref sig .tc .vmem S1x20x1 .i32) (h4 : M4.IsWhole)
    (M5 : Memref sig .tc .vmem S1x4x8192 .f32) (h5 : M5.IsWhole)
    (M6 : Memref sig .tc .vmem S1x8x8192 .f32) (h6 : M6.IsWhole)
    (M7 : Memref sig .tc .vmem S1x1 .f32) (h7 : M7.IsWhole)
    (M8 : Memref sig .tc .vmem S1x1 .f32) (h8 : M8.IsWhole)
    (M9 : Memref sig .tc .vmem S1x1 .f32) (h9 : M9.IsWhole)
    (M10 : Memref sig .tc .vmem S20x1 .f32) (h10 : M10.IsWhole)
    (M11 : Memref sig .tc .vmem S20x1 .i32) (h11 : M11.IsWhole)
    (M12 : Memref sig .tc .vmem S1x24576 .f32) (h12 : M12.IsWhole)
    (M13 : Memref sig .tc .vmem S1x24576 .i32) (h13 : M13.IsWhole)
    (M14 : Memref sig .tc .vmem S1x1 .f32) (h14 : M14.IsWhole)
    (M15 : Memref sig .tc .vmem S1x1 .f32) (h15 : M15.IsWhole)
    (M16 : Memref sig .tc .vmem S1x1 .f32) (h16 : M16.IsWhole)
    (p : Vec F S4x8192 .f32) (b : Vec F S1x20x4 .f32) (va : Vec F S20x1 .f32) (ia : Vec F S20x1 .i32) (ov : Vec F S1x24576 .f32) (ob : Vec F S1x24576 .i32)
    (hA : ¬ k0_condA i = 1#1) (hE2 : k0_cond2 i = 1#1) (hB : ¬ k0_condB i = 1#1) (hC : k0_condC i = 1#1) (hE : ¬ k0_cond5 i = 1#1) (hZ : ¬ k0_cond6 i = 1#1) (K : PUnit → sProp 𝕄) :
    iprop(owns (c : Thread nD τ) M2 fullShare p
          ∗ owns (c : Thread nD τ) M3 fullShare b
          ∗ owns (c : Thread nD τ) M10 fullShare va
          ∗ owns (c : Thread nD τ) M11 fullShare ia
          ∗ owns (c : Thread nD τ) M12 fullShare ov
          ∗ owns (c : Thread nD τ) M13 fullShare ob
          ∗ (iprop(owns (c : Thread nD τ) M2 fullShare p
          ∗ owns (c : Thread nD τ) M3 fullShare b
          ∗ owns (c : Thread nD τ) M10 fullShare (va1 (rm1 (tile i) p b) va)
          ∗ owns (c : Thread nD τ) M11 fullShare (ia1 (rm1 (tile i) p b) va (ri1 (tile i) p b) ia)
          ∗ owns (c : Thread nD τ) M12 fullShare (VecWindow.put ov (k0_off1 i) S1x8192.size (ov1 (tile i) p b))
          ∗ owns (c : Thread nD τ) M13 fullShare (VecWindow.put ob (k0_off1 i) S1x8192.size (ob1 (tile i) p b))) -∗ K ⟨⟩))
      ⊢ wp frame (wpE (defs₀ (F := F)) 𝒱₀ c none) E (cc0__lambda_ i M2 h2 M3 h3 M4 h4 M5 h5 M6 h6 M7 h7 M8 h8 M9 h9 M10 h10 M11 h11 M12 h12 M13 h13 M14 h14 M15 h15 M16 h16) K := by
  unfold k0_condA at hA
  unfold k0_condB at hB
  unfold k0_condC at hC
  rw [cc0__lambda__eq_skeleton]
  iintro ⟨H2, H3, H10, H11, H12, H13, Hk⟩
  ihave H2 := (rep_of_owns (c : Thread nD τ) M2 _ p) $$ H2
  ihave H3 := (rep_of_owns (c : Thread nD τ) M3 _ b) $$ H3
  ihave H10 := (rep_of_owns (c : Thread nD τ) M10 _ va) $$ H10
  ihave H11 := (rep_of_owns (c : Thread nD τ) M11 _ ia) $$ H11
  ihave H12 := (rep_of_owns (c : Thread nD τ) M12 _ ov) $$ H12
  ihave H13 := (rep_of_owns (c : Thread nD τ) M13 _ ob) $$ H13
  unfold cc0__lambda__skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  have e2 : ∀ x inb, M2.view.readAt (Elt F) (Rect.unit (s := S4x8192) ![0, 0] S4x8192.size inb).toLoadRect (M2.view.rep x) = x :=
    fun _ _ => View.readAt_rep_full _ _ _
  have e3 : ∀ x inb, M3.view.readAt (Elt F) (Rect.unit (s := S1x20x4) ![0, 0, 0] S1x20x4.size inb).toLoadRect (M3.view.rep x) = x :=
    fun _ _ => View.readAt_rep_full _ _ _
  have e4 : ∀ x inb, M4.view.readAt (Elt F) (Rect.unit (s := S1x20x1) ![0, 0, 0] S1x20x1.size inb).toLoadRect (M4.view.rep x) = x :=
    fun _ _ => View.readAt_rep_full _ _ _
  have e5 : ∀ x inb, M5.view.readAt (Elt F) (Rect.unit (s := S1x4x8192) ![0, 0, 0] S1x4x8192.size inb).toLoadRect (M5.view.rep x) = x :=
    fun _ _ => View.readAt_rep_full _ _ _
  have e6 : ∀ x inb, M6.view.readAt (Elt F) (Rect.unit (s := S1x8x8192) ![0, 0, 0] S1x8x8192.size inb).toLoadRect (M6.view.rep x) = x :=
    fun _ _ => View.readAt_rep_full _ _ _
  have e7 : ∀ x inb, M7.view.readAt (Elt F) (Rect.unit (s := S1x1) ![0, 0] S1x1.size inb).toLoadRect (M7.view.rep x) = x :=
    fun _ _ => View.readAt_rep_full _ _ _
  have e8 : ∀ x inb, M8.view.readAt (Elt F) (Rect.unit (s := S1x1) ![0, 0] S1x1.size inb).toLoadRect (M8.view.rep x) = x :=
    fun _ _ => View.readAt_rep_full _ _ _
  have e9 : ∀ x inb, M9.view.readAt (Elt F) (Rect.unit (s := S1x1) ![0, 0] S1x1.size inb).toLoadRect (M9.view.rep x) = x :=
    fun _ _ => View.readAt_rep_full _ _ _
  have e10 : ∀ x inb, M10.view.readAt (Elt F) (Rect.unit (s := S20x1) ![0, 0] S20x1.size inb).toLoadRect (M10.view.rep x) = x :=
    fun _ _ => View.readAt_rep_full _ _ _
  have e11 : ∀ x inb, M11.view.readAt (Elt F) (Rect.unit (s := S20x1) ![0, 0] S20x1.size inb).toLoadRect (M11.view.rep x) = x :=
    fun _ _ => View.readAt_rep_full _ _ _
  have e14 : ∀ x inb, M14.view.readAt (Elt F) (Rect.unit (s := S1x1) ![0, 0] S1x1.size inb).toLoadRect (M14.view.rep x) = x :=
    fun _ _ => View.readAt_rep_full _ _ _
  have e15 : ∀ x inb, M15.view.readAt (Elt F) (Rect.unit (s := S1x1) ![0, 0] S1x1.size inb).toLoadRect (M15.view.rep x) = x :=
    fun _ _ => View.readAt_rep_full _ _ _
  have e16 : ∀ x inb, M16.view.readAt (Elt F) (Rect.unit (s := S1x1) ![0, 0] S1x1.size inb).toLoadRect (M16.view.rep x) = x :=
    fun _ _ => View.readAt_rep_full _ _ _
  have c10 : ∀ (w : S20x1.Idx → Elt F .f32) (L : List (View.Piece (Elt F) S20x1 .f32)) inb inb',
      M10.view.readCov (⟨Rect.unit (s := S20x1) ![0, 0] S20x1.size inb, w⟩ :: L)
        (Rect.unit (s := S20x1) ![0, 0] S20x1.size inb').toLoadRect = w := fun w L i j => readCov_full (s := S20x1) M10.view i j w L
  have c11 : ∀ (w : S20x1.Idx → Elt F .i32) (L : List (View.Piece (Elt F) S20x1 .i32)) inb inb',
      M11.view.readCov (⟨Rect.unit (s := S20x1) ![0, 0] S20x1.size inb, w⟩ :: L)
        (Rect.unit (s := S20x1) ![0, 0] S20x1.size inb').toLoadRect = w := fun w L i j => readCov_full (s := S20x1) M11.view i j w L
  have c14 : ∀ (w : S1x1.Idx → Elt F .f32) (L : List (View.Piece (Elt F) S1x1 .f32)) inb inb',
      M14.view.readCov (⟨Rect.unit (s := S1x1) ![0, 0] S1x1.size inb, w⟩ :: L)
        (Rect.unit (s := S1x1) ![0, 0] S1x1.size inb').toLoadRect = w := fun w L i j => readCov_full (s := S1x1) M14.view i j w L
  have c15 : ∀ (w : S1x1.Idx → Elt F .f32) (L : List (View.Piece (Elt F) S1x1 .f32)) inb inb',
      M15.view.readCov (⟨Rect.unit (s := S1x1) ![0, 0] S1x1.size inb, w⟩ :: L)
        (Rect.unit (s := S1x1) ![0, 0] S1x1.size inb').toLoadRect = w := fun w L i j => readCov_full (s := S1x1) M15.view i j w L
  have c16 : ∀ (w : S1x1.Idx → Elt F .f32) (L : List (View.Piece (Elt F) S1x1 .f32)) inb inb',
      M16.view.readCov (⟨Rect.unit (s := S1x1) ![0, 0] S1x1.size inb, w⟩ :: L)
        (Rect.unit (s := S1x1) ![0, 0] S1x1.size inb').toLoadRect = w := fun w L i j => readCov_full (s := S1x1) M16.view i j w L
  have e12 : ∀ x o inb, M12.view.readAt (Elt F) (Rect.unit (s := S1x24576) o S1x8192.size inb).toLoadRect (M12.view.rep x)
      = VecWindow.window x o S1x8192.size inb := fun _ _ _ => View.readAt_rep_unit _ _ _ rfl _
  have e13 : ∀ x o inb, M13.view.readAt (Elt F) (Rect.unit (s := S1x24576) o S1x8192.size inb).toLoadRect (M13.view.rep x)
      = VecWindow.window x o S1x8192.size inb := fun _ _ _ => View.readAt_rep_unit _ _ _ rfl _
  sl_exec!
  sl_step
  iapply Hk
  isplitl [H2]
  · iapply (owns_of_rep (c : Thread nD τ) M2 _ _); iexact H2
  isplitl [H3]
  · iapply (owns_of_rep (c : Thread nD τ) M3 _ _); iexact H3
  isplitl [H10]
  · unfold owns; iexists _; isplitr; swap; (· iexact H10)
    ipureintro
    refine (View.read_writes_full _ _ _ _ _).trans ?_
    dsimp only [tile, ov1, ob1, rm1, ri1, va1, ia1, pos1, ign1, mat1, code1, am1, ap1, ad1]
  isplitl [H11]
  · unfold owns; iexists _; isplitr; swap; (· iexact H11)
    ipureintro
    refine (View.read_writes_full _ _ _ _ _).trans ?_
    dsimp only [tile, ov1, ob1, rm1, ri1, va1, ia1, pos1, ign1, mat1, code1, am1, ap1, ad1]
  isplitl [H12]
  · unfold owns; iexists _; isplitr; swap; (· iexact H12)
    ipureintro
    refine (View.read_writes_rep_unit _ _ _ _ rfl).trans ?_
    dsimp only [tile, ov1, ob1, rm1, ri1, va1, ia1, pos1, ign1, mat1, code1, am1, ap1, ad1]
  unfold owns; iexists _; isplitr; swap; (· iexact H13)
  ipureintro
  refine (View.read_writes_rep_unit _ _ _ _ rfl).trans ?_
  dsimp only [tile, ov1, ob1, rm1, ri1, va1, ia1, pos1, ign1, mat1, code1, am1, ap1, ad1]

/-- A tile of the second phase: its codes are written and the three totals go on. -/
theorem body0_code (c : Dev nD) (E : Set ℕ) (i : grid0.Coords)
    (M2 : Memref sig .tc .vmem S4x8192 .f32) (h2 : M2.IsWhole)
    (M3 : Memref sig .tc .vmem S1x20x4 .f32) (h3 : M3.IsWhole)
    (M4 : Memref sig .tc .vmem S1x20x1 .i32) (h4 : M4.IsWhole)
    (M5 : Memref sig .tc .vmem S1x4x8192 .f32) (h5 : M5.IsWhole)
    (M6 : Memref sig .tc .vmem S1x8x8192 .f32) (h6 : M6.IsWhole)
    (M7 : Memref sig .tc .vmem S1x1 .f32) (h7 : M7.IsWhole)
    (M8 : Memref sig .tc .vmem S1x1 .f32) (h8 : M8.IsWhole)
    (M9 : Memref sig .tc .vmem S1x1 .f32) (h9 : M9.IsWhole)
    (M10 : Memref sig .tc .vmem S20x1 .f32) (h10 : M10.IsWhole)
    (M11 : Memref sig .tc .vmem S20x1 .i32) (h11 : M11.IsWhole)
    (M12 : Memref sig .tc .vmem S1x24576 .f32) (h12 : M12.IsWhole)
    (M13 : Memref sig .tc .vmem S1x24576 .i32) (h13 : M13.IsWhole)
    (M14 : Memref sig .tc .vmem S1x1 .f32) (h14 : M14.IsWhole)
    (M15 : Memref sig .tc .vmem S1x1 .f32) (h15 : M15.IsWhole)
    (M16 : Memref sig .tc .vmem S1x1 .f32) (h16 : M16.IsWhole)
    (p : Vec F S4x8192 .f32) (b : Vec F S1x20x4 .f32) (l : Vec F S1x20x1 .i32) (d : Vec F S1x4x8192 .f32) (x6 : Vec F S1x8x8192 .f32) (ia : Vec F S20x1 .i32) (ov : Vec F S1x24576 .f32) (ob : Vec F S1x24576 .i32) (am : Vec F S1x1 .f32) (ap : Vec F S1x1 .f32) (ad : Vec F S1x1 .f32)
    (hA : ¬ k0_condA i = 1#1) (hE2 : ¬ k0_cond2 i = 1#1) (hE : k0_cond5 i = 1#1) (hZ : ¬ k0_cond6 i = 1#1) (K : PUnit → sProp 𝕄) :
    iprop(owns (c : Thread nD τ) M2 fullShare p
          ∗ owns (c : Thread nD τ) M3 fullShare b
          ∗ owns (c : Thread nD τ) M4 fullShare l
          ∗ owns (c : Thread nD τ) M5 fullShare d
          ∗ owns (c : Thread nD τ) M6 fullShare x6
          ∗ owns (c : Thread nD τ) M11 fullShare ia
          ∗ owns (c : Thread nD τ) M12 fullShare ov
          ∗ owns (c : Thread nD τ) M13 fullShare ob
          ∗ owns (c : Thread nD τ) M14 fullShare am
          ∗ owns (c : Thread nD τ) M15 fullShare ap
          ∗ owns (c : Thread nD τ) M16 fullShare ad
          ∗ (iprop(owns (c : Thread nD τ) M2 fullShare p
          ∗ owns (c : Thread nD τ) M3 fullShare b
          ∗ owns (c : Thread nD τ) M4 fullShare l
          ∗ owns (c : Thread nD τ) M5 fullShare d
          ∗ owns (c : Thread nD τ) M6 fullShare (code1 (tile i) (VecWindow.window ov (k0_off2 i) S1x8192.size (k0_off2_inb i hE)) (VecWindow.window ob (k0_off2 i) S1x8192.size (k0_off2_inb i hE)) ia l)
          ∗ owns (c : Thread nD τ) M11 fullShare ia
          ∗ owns (c : Thread nD τ) M12 fullShare ov
          ∗ owns (c : Thread nD τ) M13 fullShare ob
          ∗ owns (c : Thread nD τ) M14 fullShare (am1 (tile i) (VecWindow.window ov (k0_off2 i) S1x8192.size (k0_off2_inb i hE)) ia am)
          ∗ owns (c : Thread nD τ) M15 fullShare (ap1 (tile i) (VecWindow.window ov (k0_off2 i) S1x8192.size (k0_off2_inb i hE)) ia ap)
          ∗ owns (c : Thread nD τ) M16 fullShare (ad1 (tile i) p b d (VecWindow.window ov (k0_off2 i) S1x8192.size (k0_off2_inb i hE)) (VecWindow.window ob (k0_off2 i) S1x8192.size (k0_off2_inb i hE)) ia ad)) -∗ K ⟨⟩))
      ⊢ wp frame (wpE (defs₀ (F := F)) 𝒱₀ c none) E (cc0__lambda_ i M2 h2 M3 h3 M4 h4 M5 h5 M6 h6 M7 h7 M8 h8 M9 h9 M10 h10 M11 h11 M12 h12 M13 h13 M14 h14 M15 h15 M16 h16) K := by
  unfold k0_condA at hA
  rw [cc0__lambda__eq_skeleton]
  iintro ⟨H2, H3, H4, H5, H6, H11, H12, H13, H14, H15, H16, Hk⟩
  ihave H2 := (rep_of_owns (c : Thread nD τ) M2 _ p) $$ H2
  ihave H3 := (rep_of_owns (c : Thread nD τ) M3 _ b) $$ H3
  ihave H4 := (rep_of_owns (c : Thread nD τ) M4 _ l) $$ H4
  ihave H5 := (rep_of_owns (c : Thread nD τ) M5 _ d) $$ H5
  ihave H6 := (rep_of_owns (c : Thread nD τ) M6 _ x6) $$ H6
  ihave H11 := (rep_of_owns (c : Thread nD τ) M11 _ ia) $$ H11
  ihave H12 := (rep_of_owns (c : Thread nD τ) M12 _ ov) $$ H12
  ihave H13 := (rep_of_owns (c : Thread nD τ) M13 _ ob) $$ H13
  ihave H14 := (rep_of_owns (c : Thread nD τ) M14 _ am) $$ H14
  ihave H15 := (rep_of_owns (c : Thread nD τ) M15 _ ap) $$ H15
  ihave H16 := (rep_of_owns (c : Thread nD τ) M16 _ ad) $$ H16
  unfold cc0__lambda__skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  have e2 : ∀ x inb, M2.view.readAt (Elt F) (Rect.unit (s := S4x8192) ![0, 0] S4x8192.size inb).toLoadRect (M2.view.rep x) = x :=
    fun _ _ => View.readAt_rep_full _ _ _
  have e3 : ∀ x inb, M3.view.readAt (Elt F) (Rect.unit (s := S1x20x4) ![0, 0, 0] S1x20x4.size inb).toLoadRect (M3.view.rep x) = x :=
    fun _ _ => View.readAt_rep_full _ _ _
  have e4 : ∀ x inb, M4.view.readAt (Elt F) (Rect.unit (s := S1x20x1) ![0, 0, 0] S1x20x1.size inb).toLoadRect (M4.view.rep x) = x :=
    fun _ _ => View.readAt_rep_full _ _ _
  have e5 : ∀ x inb, M5.view.readAt (Elt F) (Rect.unit (s := S1x4x8192) ![0, 0, 0] S1x4x8192.size inb).toLoadRect (M5.view.rep x) = x :=
    fun _ _ => View.readAt_rep_full _ _ _
  have e6 : ∀ x inb, M6.view.readAt (Elt F) (Rect.unit (s := S1x8x8192) ![0, 0, 0] S1x8x8192.size inb).toLoadRect (M6.view.rep x) = x :=
    fun _ _ => View.readAt_rep_full _ _ _
  have e7 : ∀ x inb, M7.view.readAt (Elt F) (Rect.unit (s := S1x1) ![0, 0] S1x1.size inb).toLoadRect (M7.view.rep x) = x :=
    fun _ _ => View.readAt_rep_full _ _ _
  have e8 : ∀ x inb, M8.view.readAt (Elt F) (Rect.unit (s := S1x1) ![0, 0] S1x1.size inb).toLoadRect (M8.view.rep x) = x :=
    fun _ _ => View.readAt_rep_full _ _ _
  have e9 : ∀ x inb, M9.view.readAt (Elt F) (Rect.unit (s := S1x1) ![0, 0] S1x1.size inb).toLoadRect (M9.view.rep x) = x :=
    fun _ _ => View.readAt_rep_full _ _ _
  have e10 : ∀ x inb, M10.view.readAt (Elt F) (Rect.unit (s := S20x1) ![0, 0] S20x1.size inb).toLoadRect (M10.view.rep x) = x :=
    fun _ _ => View.readAt_rep_full _ _ _
  have e11 : ∀ x inb, M11.view.readAt (Elt F) (Rect.unit (s := S20x1) ![0, 0] S20x1.size inb).toLoadRect (M11.view.rep x) = x :=
    fun _ _ => View.readAt_rep_full _ _ _
  have e14 : ∀ x inb, M14.view.readAt (Elt F) (Rect.unit (s := S1x1) ![0, 0] S1x1.size inb).toLoadRect (M14.view.rep x) = x :=
    fun _ _ => View.readAt_rep_full _ _ _
  have e15 : ∀ x inb, M15.view.readAt (Elt F) (Rect.unit (s := S1x1) ![0, 0] S1x1.size inb).toLoadRect (M15.view.rep x) = x :=
    fun _ _ => View.readAt_rep_full _ _ _
  have e16 : ∀ x inb, M16.view.readAt (Elt F) (Rect.unit (s := S1x1) ![0, 0] S1x1.size inb).toLoadRect (M16.view.rep x) = x :=
    fun _ _ => View.readAt_rep_full _ _ _
  have c10 : ∀ (w : S20x1.Idx → Elt F .f32) (L : List (View.Piece (Elt F) S20x1 .f32)) inb inb',
      M10.view.readCov (⟨Rect.unit (s := S20x1) ![0, 0] S20x1.size inb, w⟩ :: L)
        (Rect.unit (s := S20x1) ![0, 0] S20x1.size inb').toLoadRect = w := fun w L i j => readCov_full (s := S20x1) M10.view i j w L
  have c11 : ∀ (w : S20x1.Idx → Elt F .i32) (L : List (View.Piece (Elt F) S20x1 .i32)) inb inb',
      M11.view.readCov (⟨Rect.unit (s := S20x1) ![0, 0] S20x1.size inb, w⟩ :: L)
        (Rect.unit (s := S20x1) ![0, 0] S20x1.size inb').toLoadRect = w := fun w L i j => readCov_full (s := S20x1) M11.view i j w L
  have c14 : ∀ (w : S1x1.Idx → Elt F .f32) (L : List (View.Piece (Elt F) S1x1 .f32)) inb inb',
      M14.view.readCov (⟨Rect.unit (s := S1x1) ![0, 0] S1x1.size inb, w⟩ :: L)
        (Rect.unit (s := S1x1) ![0, 0] S1x1.size inb').toLoadRect = w := fun w L i j => readCov_full (s := S1x1) M14.view i j w L
  have c15 : ∀ (w : S1x1.Idx → Elt F .f32) (L : List (View.Piece (Elt F) S1x1 .f32)) inb inb',
      M15.view.readCov (⟨Rect.unit (s := S1x1) ![0, 0] S1x1.size inb, w⟩ :: L)
        (Rect.unit (s := S1x1) ![0, 0] S1x1.size inb').toLoadRect = w := fun w L i j => readCov_full (s := S1x1) M15.view i j w L
  have c16 : ∀ (w : S1x1.Idx → Elt F .f32) (L : List (View.Piece (Elt F) S1x1 .f32)) inb inb',
      M16.view.readCov (⟨Rect.unit (s := S1x1) ![0, 0] S1x1.size inb, w⟩ :: L)
        (Rect.unit (s := S1x1) ![0, 0] S1x1.size inb').toLoadRect = w := fun w L i j => readCov_full (s := S1x1) M16.view i j w L
  have e12 : ∀ x o inb, M12.view.readAt (Elt F) (Rect.unit (s := S1x24576) o S1x8192.size inb).toLoadRect (M12.view.rep x)
      = VecWindow.window x o S1x8192.size inb := fun _ _ _ => View.readAt_rep_unit _ _ _ rfl _
  have e13 : ∀ x o inb, M13.view.readAt (Elt F) (Rect.unit (s := S1x24576) o S1x8192.size inb).toLoadRect (M13.view.rep x)
      = VecWindow.window x o S1x8192.size inb := fun _ _ _ => View.readAt_rep_unit _ _ _ rfl _
  sl_exec!
  sl_step
  iapply Hk
  isplitl [H2]
  · iapply (owns_of_rep (c : Thread nD τ) M2 _ _); iexact H2
  isplitl [H3]
  · iapply (owns_of_rep (c : Thread nD τ) M3 _ _); iexact H3
  isplitl [H4]
  · iapply (owns_of_rep (c : Thread nD τ) M4 _ _); iexact H4
  isplitl [H5]
  · iapply (owns_of_rep (c : Thread nD τ) M5 _ _); iexact H5
  isplitl [H6]
  · unfold owns; iexists _; isplitr; swap; (· iexact H6)
    ipureintro
    refine (View.read_writes_full _ _ _ _ _).trans ?_
    dsimp only [tile, ov1, ob1, rm1, ri1, va1, ia1, pos1, ign1, mat1, code1, am1, ap1, ad1]
  isplitl [H11]
  · iapply (owns_of_rep (c : Thread nD τ) M11 _ _); iexact H11
  isplitl [H12]
  · iapply (owns_of_rep (c : Thread nD τ) M12 _ _); iexact H12
  isplitl [H13]
  · iapply (owns_of_rep (c : Thread nD τ) M13 _ _); iexact H13
  isplitl [H14]
  · unfold owns; iexists _; isplitr; swap; (· iexact H14)
    ipureintro
    refine (View.read_writes_full _ _ _ _ _).trans ?_
    dsimp only [tile, ov1, ob1, rm1, ri1, va1, ia1, pos1, ign1, mat1, code1, am1, ap1, ad1]
  isplitl [H15]
  · unfold owns; iexists _; isplitr; swap; (· iexact H15)
    ipureintro
    refine (View.read_writes_full _ _ _ _ _).trans ?_
    dsimp only [tile, ov1, ob1, rm1, ri1, va1, ia1, pos1, ign1, mat1, code1, am1, ap1, ad1]
  unfold owns; iexists _; isplitr; swap; (· iexact H16)
  ipureintro
  refine (View.read_writes_full _ _ _ _ _).trans ?_
  dsimp only [tile, ov1, ob1, rm1, ri1, va1, ia1, pos1, ign1, mat1, code1, am1, ap1, ad1]

/-- The last point: besides, the three totals are written out. -/
theorem body0_last (c : Dev nD) (E : Set ℕ) (i : grid0.Coords)
    (M2 : Memref sig .tc .vmem S4x8192 .f32) (h2 : M2.IsWhole)
    (M3 : Memref sig .tc .vmem S1x20x4 .f32) (h3 : M3.IsWhole)
    (M4 : Memref sig .tc .vmem S1x20x1 .i32) (h4 : M4.IsWhole)
    (M5 : Memref sig .tc .vmem S1x4x8192 .f32) (h5 : M5.IsWhole)
    (M6 : Memref sig .tc .vmem S1x8x8192 .f32) (h6 : M6.IsWhole)
    (M7 : Memref sig .tc .vmem S1x1 .f32) (h7 : M7.IsWhole)
    (M8 : Memref sig .tc .vmem S1x1 .f32) (h8 : M8.IsWhole)
    (M9 : Memref sig .tc .vmem S1x1 .f32) (h9 : M9.IsWhole)
    (M10 : Memref sig .tc .vmem S20x1 .f32) (h10 : M10.IsWhole)
    (M11 : Memref sig .tc .vmem S20x1 .i32) (h11 : M11.IsWhole)
    (M12 : Memref sig .tc .vmem S1x24576 .f32) (h12 : M12.IsWhole)
    (M13 : Memref sig .tc .vmem S1x24576 .i32) (h13 : M13.IsWhole)
    (M14 : Memref sig .tc .vmem S1x1 .f32) (h14 : M14.IsWhole)
    (M15 : Memref sig .tc .vmem S1x1 .f32) (h15 : M15.IsWhole)
    (M16 : Memref sig .tc .vmem S1x1 .f32) (h16 : M16.IsWhole)
    (p : Vec F S4x8192 .f32) (b : Vec F S1x20x4 .f32) (l : Vec F S1x20x1 .i32) (d : Vec F S1x4x8192 .f32) (x6 : Vec F S1x8x8192 .f32) (x7 : Vec F S1x1 .f32) (x8 : Vec F S1x1 .f32) (x9 : Vec F S1x1 .f32) (ia : Vec F S20x1 .i32) (ov : Vec F S1x24576 .f32) (ob : Vec F S1x24576 .i32) (am : Vec F S1x1 .f32) (ap : Vec F S1x1 .f32) (ad : Vec F S1x1 .f32)
    (hA : ¬ k0_condA i = 1#1) (hE2 : ¬ k0_cond2 i = 1#1) (hE : k0_cond5 i = 1#1) (hZ : k0_cond6 i = 1#1) (K : PUnit → sProp 𝕄) :
    iprop(owns (c : Thread nD τ) M2 fullShare p
          ∗ owns (c : Thread nD τ) M3 fullShare b
          ∗ owns (c : Thread nD τ) M4 fullShare l
          ∗ owns (c : Thread nD τ) M5 fullShare d
          ∗ owns (c : Thread nD τ) M6 fullShare x6
          ∗ owns (c : Thread nD τ) M7 fullShare x7
          ∗ owns (c : Thread nD τ) M8 fullShare x8
          ∗ owns (c : Thread nD τ) M9 fullShare x9
          ∗ owns (c : Thread nD τ) M11 fullShare ia
          ∗ owns (c : Thread nD τ) M12 fullShare ov
          ∗ owns (c : Thread nD τ) M13 fullShare ob
          ∗ owns (c : Thread nD τ) M14 fullShare am
          ∗ owns (c : Thread nD τ) M15 fullShare ap
          ∗ owns (c : Thread nD τ) M16 fullShare ad
          ∗ (iprop(owns (c : Thread nD τ) M2 fullShare p
          ∗ owns (c : Thread nD τ) M3 fullShare b
          ∗ owns (c : Thread nD τ) M4 fullShare l
          ∗ owns (c : Thread nD τ) M5 fullShare d
          ∗ owns (c : Thread nD τ) M6 fullShare (code1 (tile i) (VecWindow.window ov (k0_off2 i) S1x8192.size (k0_off2_inb i hE)) (VecWindow.window ob (k0_off2 i) S1x8192.size (k0_off2_inb i hE)) ia l)
          ∗ owns (c : Thread nD τ) M7 fullShare (am1 (tile i) (VecWindow.window ov (k0_off2 i) S1x8192.size (k0_off2_inb i hE)) ia am)
          ∗ owns (c : Thread nD τ) M8 fullShare (ap1 (tile i) (VecWindow.window ov (k0_off2 i) S1x8192.size (k0_off2_inb i hE)) ia ap)
          ∗ owns (c : Thread nD τ) M9 fullShare (ad1 (tile i) p b d (VecWindow.window ov (k0_off2 i) S1x8192.size (k0_off2_inb i hE)) (VecWindow.window ob (k0_off2 i) S1x8192.size (k0_off2_inb i hE)) ia ad)
          ∗ owns (c : Thread nD τ) M11 fullShare ia
          ∗ owns (c : Thread nD τ) M12 fullShare ov
          ∗ owns (c : Thread nD τ) M13 fullShare ob
          ∗ owns (c : Thread nD τ) M14 fullShare (am1 (tile i) (VecWindow.window ov (k0_off2 i) S1x8192.size (k0_off2_inb i hE)) ia am)
          ∗ owns (c : Thread nD τ) M15 fullShare (ap1 (tile i) (VecWindow.window ov (k0_off2 i) S1x8192.size (k0_off2_inb i hE)) ia ap)
          ∗ owns (c : Thread nD τ) M16 fullShare (ad1 (tile i) p b d (VecWindow.window ov (k0_off2 i) S1x8192.size (k0_off2_inb i hE)) (VecWindow.window ob (k0_off2 i) S1x8192.size (k0_off2_inb i hE)) ia ad)) -∗ K ⟨⟩))
      ⊢ wp frame (wpE (defs₀ (F := F)) 𝒱₀ c none) E (cc0__lambda_ i M2 h2 M3 h3 M4 h4 M5 h5 M6 h6 M7 h7 M8 h8 M9 h9 M10 h10 M11 h11 M12 h12 M13 h13 M14 h14 M15 h15 M16 h16) K := by
  unfold k0_condA at hA
  rw [cc0__lambda__eq_skeleton]
  iintro ⟨H2, H3, H4, H5, H6, H7, H8, H9, H11, H12, H13, H14, H15, H16, Hk⟩
  ihave H2 := (rep_of_owns (c : Thread nD τ) M2 _ p) $$ H2
  ihave H3 := (rep_of_owns (c : Thread nD τ) M3 _ b) $$ H3
  ihave H4 := (rep_of_owns (c : Thread nD τ) M4 _ l) $$ H4
  ihave H5 := (rep_of_owns (c : Thread nD τ) M5 _ d) $$ H5
  ihave H6 := (rep_of_owns (c : Thread nD τ) M6 _ x6) $$ H6
  ihave H7 := (rep_of_owns (c : Thread nD τ) M7 _ x7) $$ H7
  ihave H8 := (rep_of_owns (c : Thread nD τ) M8 _ x8) $$ H8
  ihave H9 := (rep_of_owns (c : Thread nD τ) M9 _ x9) $$ H9
  ihave H11 := (rep_of_owns (c : Thread nD τ) M11 _ ia) $$ H11
  ihave H12 := (rep_of_owns (c : Thread nD τ) M12 _ ov) $$ H12
  ihave H13 := (rep_of_owns (c : Thread nD τ) M13 _ ob) $$ H13
  ihave H14 := (rep_of_owns (c : Thread nD τ) M14 _ am) $$ H14
  ihave H15 := (rep_of_owns (c : Thread nD τ) M15 _ ap) $$ H15
  ihave H16 := (rep_of_owns (c : Thread nD τ) M16 _ ad) $$ H16
  unfold cc0__lambda__skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  have e2 : ∀ x inb, M2.view.readAt (Elt F) (Rect.unit (s := S4x8192) ![0, 0] S4x8192.size inb).toLoadRect (M2.view.rep x) = x :=
    fun _ _ => View.readAt_rep_full _ _ _
  have e3 : ∀ x inb, M3.view.readAt (Elt F) (Rect.unit (s := S1x20x4) ![0, 0, 0] S1x20x4.size inb).toLoadRect (M3.view.rep x) = x :=
    fun _ _ => View.readAt_rep_full _ _ _
  have e4 : ∀ x inb, M4.view.readAt (Elt F) (Rect.unit (s := S1x20x1) ![0, 0, 0] S1x20x1.size inb).toLoadRect (M4.view.rep x) = x :=
    fun _ _ => View.readAt_rep_full _ _ _
  have e5 : ∀ x inb, M5.view.readAt (Elt F) (Rect.unit (s := S1x4x8192) ![0, 0, 0] S1x4x8192.size inb).toLoadRect (M5.view.rep x) = x :=
    fun _ _ => View.readAt_rep_full _ _ _
  have e6 : ∀ x inb, M6.view.readAt (Elt F) (Rect.unit (s := S1x8x8192) ![0, 0, 0] S1x8x8192.size inb).toLoadRect (M6.view.rep x) = x :=
    fun _ _ => View.readAt_rep_full _ _ _
  have e7 : ∀ x inb, M7.view.readAt (Elt F) (Rect.unit (s := S1x1) ![0, 0] S1x1.size inb).toLoadRect (M7.view.rep x) = x :=
    fun _ _ => View.readAt_rep_full _ _ _
  have e8 : ∀ x inb, M8.view.readAt (Elt F) (Rect.unit (s := S1x1) ![0, 0] S1x1.size inb).toLoadRect (M8.view.rep x) = x :=
    fun _ _ => View.readAt_rep_full _ _ _
  have e9 : ∀ x inb, M9.view.readAt (Elt F) (Rect.unit (s := S1x1) ![0, 0] S1x1.size inb).toLoadRect (M9.view.rep x) = x :=
    fun _ _ => View.readAt_rep_full _ _ _
  have e10 : ∀ x inb, M10.view.readAt (Elt F) (Rect.unit (s := S20x1) ![0, 0] S20x1.size inb).toLoadRect (M10.view.rep x) = x :=
    fun _ _ => View.readAt_rep_full _ _ _
  have e11 : ∀ x inb, M11.view.readAt (Elt F) (Rect.unit (s := S20x1) ![0, 0] S20x1.size inb).toLoadRect (M11.view.rep x) = x :=
    fun _ _ => View.readAt_rep_full _ _ _
  have e14 : ∀ x inb, M14.view.readAt (Elt F) (Rect.unit (s := S1x1) ![0, 0] S1x1.size inb).toLoadRect (M14.view.rep x) = x :=
    fun _ _ => View.readAt_rep_full _ _ _
  have e15 : ∀ x inb, M15.view.readAt (Elt F) (Rect.unit (s := S1x1) ![0, 0] S1x1.size inb).toLoadRect (M15.view.rep x) = x :=
    fun _ _ => View.readAt_rep_full _ _ _
  have e16 : ∀ x inb, M16.view.readAt (Elt F) (Rect.unit (s := S1x1) ![0, 0] S1x1.size inb).toLoadRect (M16.view.rep x) = x :=
    fun _ _ => View.readAt_rep_full _ _ _
  have c10 : ∀ (w : S20x1.Idx → Elt F .f32) (L : List (View.Piece (Elt F) S20x1 .f32)) inb inb',
      M10.view.readCov (⟨Rect.unit (s := S20x1) ![0, 0] S20x1.size inb, w⟩ :: L)
        (Rect.unit (s := S20x1) ![0, 0] S20x1.size inb').toLoadRect = w := fun w L i j => readCov_full (s := S20x1) M10.view i j w L
  have c11 : ∀ (w : S20x1.Idx → Elt F .i32) (L : List (View.Piece (Elt F) S20x1 .i32)) inb inb',
      M11.view.readCov (⟨Rect.unit (s := S20x1) ![0, 0] S20x1.size inb, w⟩ :: L)
        (Rect.unit (s := S20x1) ![0, 0] S20x1.size inb').toLoadRect = w := fun w L i j => readCov_full (s := S20x1) M11.view i j w L
  have c14 : ∀ (w : S1x1.Idx → Elt F .f32) (L : List (View.Piece (Elt F) S1x1 .f32)) inb inb',
      M14.view.readCov (⟨Rect.unit (s := S1x1) ![0, 0] S1x1.size inb, w⟩ :: L)
        (Rect.unit (s := S1x1) ![0, 0] S1x1.size inb').toLoadRect = w := fun w L i j => readCov_full (s := S1x1) M14.view i j w L
  have c15 : ∀ (w : S1x1.Idx → Elt F .f32) (L : List (View.Piece (Elt F) S1x1 .f32)) inb inb',
      M15.view.readCov (⟨Rect.unit (s := S1x1) ![0, 0] S1x1.size inb, w⟩ :: L)
        (Rect.unit (s := S1x1) ![0, 0] S1x1.size inb').toLoadRect = w := fun w L i j => readCov_full (s := S1x1) M15.view i j w L
  have c16 : ∀ (w : S1x1.Idx → Elt F .f32) (L : List (View.Piece (Elt F) S1x1 .f32)) inb inb',
      M16.view.readCov (⟨Rect.unit (s := S1x1) ![0, 0] S1x1.size inb, w⟩ :: L)
        (Rect.unit (s := S1x1) ![0, 0] S1x1.size inb').toLoadRect = w := fun w L i j => readCov_full (s := S1x1) M16.view i j w L
  have e12 : ∀ x o inb, M12.view.readAt (Elt F) (Rect.unit (s := S1x24576) o S1x8192.size inb).toLoadRect (M12.view.rep x)
      = VecWindow.window x o S1x8192.size inb := fun _ _ _ => View.readAt_rep_unit _ _ _ rfl _
  have e13 : ∀ x o inb, M13.view.readAt (Elt F) (Rect.unit (s := S1x24576) o S1x8192.size inb).toLoadRect (M13.view.rep x)
      = VecWindow.window x o S1x8192.size inb := fun _ _ _ => View.readAt_rep_unit _ _ _ rfl _
  sl_exec!
  sl_step
  iapply Hk
  isplitl [H2]
  · iapply (owns_of_rep (c : Thread nD τ) M2 _ _); iexact H2
  isplitl [H3]
  · iapply (owns_of_rep (c : Thread nD τ) M3 _ _); iexact H3
  isplitl [H4]
  · iapply (owns_of_rep (c : Thread nD τ) M4 _ _); iexact H4
  isplitl [H5]
  · iapply (owns_of_rep (c : Thread nD τ) M5 _ _); iexact H5
  isplitl [H6]
  · unfold owns; iexists _; isplitr; swap; (· iexact H6)
    ipureintro
    refine (View.read_writes_full _ _ _ _ _).trans ?_
    dsimp only [tile, ov1, ob1, rm1, ri1, va1, ia1, pos1, ign1, mat1, code1, am1, ap1, ad1]
  isplitl [H7]
  · unfold owns; iexists _; isplitr; swap; (· iexact H7)
    ipureintro
    refine (View.read_writes_full _ _ _ _ _).trans ?_
    dsimp only [tile, ov1, ob1, rm1, ri1, va1, ia1, pos1, ign1, mat1, code1, am1, ap1, ad1]
  isplitl [H8]
  · unfold owns; iexists _; isplitr; swap; (· iexact H8)
    ipureintro
    refine (View.read_writes_full _ _ _ _ _).trans ?_
    dsimp only [tile, ov1, ob1, rm1, ri1, va1, ia1, pos1, ign1, mat1, code1, am1, ap1, ad1]
  isplitl [H9]
  · unfold owns; iexists _; isplitr; swap; (· iexact H9)
    ipureintro
    refine (View.read_writes_full _ _ _ _ _).trans ?_
    dsimp only [tile, ov1, ob1, rm1, ri1, va1, ia1, pos1, ign1, mat1, code1, am1, ap1, ad1]
  isplitl [H11]
  · iapply (owns_of_rep (c : Thread nD τ) M11 _ _); iexact H11
  isplitl [H12]
  · iapply (owns_of_rep (c : Thread nD τ) M12 _ _); iexact H12
  isplitl [H13]
  · iapply (owns_of_rep (c : Thread nD τ) M13 _ _); iexact H13
  isplitl [H14]
  · unfold owns; iexists _; isplitr; swap; (· iexact H14)
    ipureintro
    refine (View.read_writes_full _ _ _ _ _).trans ?_
    dsimp only [tile, ov1, ob1, rm1, ri1, va1, ia1, pos1, ign1, mat1, code1, am1, ap1, ad1]
  isplitl [H15]
  · unfold owns; iexists _; isplitr; swap; (· iexact H15)
    ipureintro
    refine (View.read_writes_full _ _ _ _ _).trans ?_
    dsimp only [tile, ov1, ob1, rm1, ri1, va1, ia1, pos1, ign1, mat1, code1, am1, ap1, ad1]
  unfold owns; iexists _; isplitr; swap; (· iexact H16)
  ipureintro
  refine (View.read_writes_full _ _ _ _ _).trans ?_
  dsimp only [tile, ov1, ob1, rm1, ri1, va1, ia1, pos1, ign1, mat1, code1, am1, ap1, ad1]

end Cert.Proof

end
-- ==== Proof.Entry.lean ====
/-
  The matching kernel's overlaps and box distances read at an index, and that neither depends on what lies past the
  priors' end in the last tile's staging buffers.
-/
module

public import proofs.«01_k».proof.Proof.R0Body
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem sel_neg {α : Type} {c : BitVec 1} (h : ¬ c = 1#1) (a b : α) : Scalar.select c a b = b := if_neg h
theorem sel_pos {α : Type} {c : BitVec 1} (h : c = 1#1) (a b : α) : Scalar.select c a b = a := if_pos h

/-- A tile's lane `j` is a prior's. -/
def lane (k : BitVec 32) (j : Fin 8192) : BitVec 1 :=
  IntOp.cmpi .slt (IntOp.addi (BitVec.ofNat 32 j.val) (Scalar.muli k 8192#32)) 22536#32

theorem lane_iff (k : ℕ) (hk : k < 3) (j : Fin 8192) : lane (BitVec.ofNat 32 k) j = 1#1 ↔ 8192 * k + j.val < 22536 := by
  have hj := j.isLt
  have e : IntOp.addi (BitVec.ofNat 32 j.val) (Scalar.muli (BitVec.ofNat 32 k) 8192#32) = BitVec.ofNat 32 (8192 * k + j.val) := by
    apply BitVec.eq_of_toNat_eq
    simp [IntOp.addi, Scalar.muli, IntOp.muli]
    omega
  unfold lane
  rw [e]
  simp only [IntOp.cmpi, BitVec.slt]
  rw [BitVec.toInt_eq_toNat_of_lt (by simp; omega)]
  have h2 : (BitVec.ofNat 32 (8192 * k + j.val)).toNat = 8192 * k + j.val := by simp; omega
  rw [h2]
  by_cases h : 8192 * k + j.val < 22536
  · have : decide (((8192 * k + j.val : ℕ) : ℤ) < (22536#32 : BitVec 32).toInt) = true := by
      rw [decide_eq_true_iff, show (22536#32 : BitVec 32).toInt = 22536 from by decide]; omega
    rw [this]; exact ⟨fun _ => h, fun _ => rfl⟩
  · have : decide (((8192 * k + j.val : ℕ) : ℤ) < (22536#32 : BitVec 32).toInt) = false := by
      rw [decide_eq_false_iff_not, show (22536#32 : BitVec 32).toInt = 22536 from by decide]; omega
    rw [this]; exact ⟨fun h' => absurd h' (by decide), fun h' => absurd h' h⟩

/-- The overlaps of a tile: every object against every prior. -/
def iou1 (w : BitVec 32) (p : Vec F S4x8192 .f32) (b : Vec F S1x20x4 .f32) : FVec F S20x8192 .f32 :=
  k0_pay29 w (k0_pay25 p b) (k0_pay26 p) (k0_pay27 b)

/-- The corners of a prior along an axis, from its centre and its size. -/
def loS (x s : F .f32) : F .f32 := FloatOps.subf x (FloatOps.mulf s (FloatOps.ofBits .f32 0x3F000000#32))
def hiS (x s : F .f32) : F .f32 := FloatOps.addf x (FloatOps.mulf s (FloatOps.ofBits .f32 0x3F000000#32))

/-- The intersection, and the overlap, of a prior and a box. -/
def interS (p0 p1 p2 p3 b0 b1 b2 b3 : F .f32) : F .f32 :=
  FloatOps.mulf
    (FloatOps.maximumf (FloatOps.subf (FloatOps.minimumf (hiS p0 p2) b2) (FloatOps.maximumf (loS p0 p2) b0)) (FloatOps.ofBits .f32 0#32))
    (FloatOps.maximumf (FloatOps.subf (FloatOps.minimumf (hiS p1 p3) b3) (FloatOps.maximumf (loS p1 p3) b1)) (FloatOps.ofBits .f32 0#32))
def iouS (p0 p1 p2 p3 b0 b1 b2 b3 : F .f32) : F .f32 :=
  FloatOps.divf (interS p0 p1 p2 p3 b0 b1 b2 b3)
    (FloatOps.subf (FloatOps.addf (FloatOps.mulf (FloatOps.subf (hiS p0 p2) (loS p0 p2)) (FloatOps.subf (hiS p1 p3) (loS p1 p3)))
        (FloatOps.mulf (FloatOps.subf b2 b0) (FloatOps.subf b3 b1)))
      (interS p0 p1 p2 p3 b0 b1 b2 b3))

theorem iou1_apply (w : BitVec 32) (p : Vec F S4x8192 .f32) (b : Vec F S1x20x4 .f32) (r : Fin 20) (j : Fin 8192) :
    iou1 w p b (ix2 r j) = Scalar.select (lane w j)
      (iouS (p (ix2 0 j)) (p (ix2 1 j)) (p (ix2 2 j)) (p (ix2 3 j)) (b (ix3 0 r 0)) (b (ix3 0 r 1)) (b (ix3 0 r 2)) (b (ix3 0 r 3)))
      (FloatOps.ofBits .f32 0xBF800000#32) := by
  unfold iou1
  pointwise [k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11]
  rfl

theorem iou1_congr {w : BitVec 32} {p p' : Vec F S4x8192 .f32} {b : Vec F S1x20x4 .f32}
    (h : ∀ (k : Fin 4) (j : Fin 8192), lane w j = 1#1 → p (ix2 k j) = p' (ix2 k j)) : iou1 w p b = iou1 w p' b := by
  funext i
  obtain ⟨r, j, rfl⟩ : ∃ (r : Fin 20) (j : Fin 8192), i = ix2 r j := ⟨i 0, i 1, eq_ix2 i⟩
  rw [iou1_apply, iou1_apply]
  by_cases hl : lane w j = 1#1
  · rw [h 0 j hl, h 1 j hl, h 2 j hl, h 3 j hl]
  · rw [sel_neg hl, sel_neg hl]

theorem ov1_congr {w : BitVec 32} {p p' : Vec F S4x8192 .f32} {b : Vec F S1x20x4 .f32} (h : iou1 w p b = iou1 w p' b) :
    ov1 w p b = ov1 w p' b := by
  unfold iou1 at h; unfold ov1 k0_pay31 k0_pay30; rw [h]
theorem ob1_congr {w : BitVec 32} {p p' : Vec F S4x8192 .f32} {b : Vec F S1x20x4 .f32} (h : iou1 w p b = iou1 w p' b) :
    ob1 w p b = ob1 w p' b := by
  unfold iou1 at h; unfold ob1 k0_pay32 k0_pay30; rw [h]
theorem rm1_congr {w : BitVec 32} {p p' : Vec F S4x8192 .f32} {b : Vec F S1x20x4 .f32} (h : iou1 w p b = iou1 w p' b) :
    rm1 w p b = rm1 w p' b := by
  unfold iou1 at h; unfold rm1 k0_pay33; rw [h]
theorem ri1_congr {w : BitVec 32} {p p' : Vec F S4x8192 .f32} {b : Vec F S1x20x4 .f32} (h : iou1 w p b = iou1 w p' b) :
    ri1 w p b = ri1 w p' b := by
  unfold iou1 at h; unfold ri1 k0_pay34 k0_pay33; rw [h]

/-- The box distance of a prior: its locations against the offsets of the box `c0 … c3` it is matched with. -/
def distS (p0 p1 p2 p3 d0 d1 d2 d3 c0 c1 c2 c3 : F .f32) : F .f32 :=
  FloatOps.addf (FloatOps.addf (FloatOps.addf
    (FloatOps.absf (FloatOps.subf d0 (FloatOps.divf (FloatOps.subf (FloatOps.mulf (FloatOps.addf c0 c2) (FloatOps.ofBits .f32 0x3F000000#32)) p0)
      (FloatOps.mulf p2 (Named.named κ "tenth" 0x3DCCCCCD#32)))))
    (FloatOps.absf (FloatOps.subf d1 (FloatOps.divf (FloatOps.subf (FloatOps.mulf (FloatOps.addf c1 c3) (FloatOps.ofBits .f32 0x3F000000#32)) p1)
      (FloatOps.mulf p3 (Named.named κ "tenth" 0x3DCCCCCD#32))))))
    (FloatOps.absf (FloatOps.subf d2 (FloatOps.mulf (FloatOps.log (FloatOps.divf (FloatOps.subf c2 c0) p2)) (FloatOps.ofBits .f32 0x40A00000#32)))))
    (FloatOps.absf (FloatOps.subf d3 (FloatOps.mulf (FloatOps.log (FloatOps.divf (FloatOps.subf c3 c1) p3)) (FloatOps.ofBits .f32 0x40A00000#32))))

/-- The box distances of a tile, zero where the mask `m` is off. -/
def dist1 (m : IVec S1x8192 1) (p : Vec F S4x8192 .f32) (d : Vec F S1x4x8192 .f32) (c0 c1 c2 c3 : FVec F S1x8192 .f32) : FVec F S1x8192 .f32 :=
  select m (addf (addf (k0_pay62 (k0_pay36 p) (k0_pay37 p) (k0_pay38 p) (k0_pay39 p) c0 c1 c2 c3 d) (k0_pay63 (k0_pay38 p) c0 c2 d))
    (absf (subf (extractStridedSlice S1x8192 ![3, 0] (k0_pay61 d) slices_S4x8192_o3_0_S1x8192) (k0_pay60 (k0_pay39 p) c1 c3))))
    (broadcast S1x8192 (Scalar.ofBits .f32 0x00000000#32 : F .f32))

theorem dist1_apply (m : IVec S1x8192 1) (p : Vec F S4x8192 .f32) (d : Vec F S1x4x8192 .f32) (c0 c1 c2 c3 : FVec F S1x8192 .f32) (j : Fin 8192) :
    dist1 m p d c0 c1 c2 c3 (ix2 0 j) = Scalar.select (m (ix2 0 j))
      (distS (p (ix2 0 j)) (p (ix2 1 j)) (p (ix2 2 j)) (p (ix2 3 j)) (d (ix3 0 0 j)) (d (ix3 0 1 j)) (d (ix3 0 2 j)) (d (ix3 0 3 j))
        (c0 (ix2 0 j)) (c1 (ix2 0 j)) (c2 (ix2 0 j)) (c3 (ix2 0 j)))
      (FloatOps.ofBits .f32 0x00000000#32) := by
  unfold dist1
  pointwise [k0_pay62, k0_pay63, k0_pay61, k0_pay60, k0_pay35, k0_pay36, k0_pay37, k0_pay38, k0_pay39]
  rfl

/-- A tile's sum over its lanes. -/
def laneSum (v : FVec F S1x8192 .f32) : F .f32 :=
  extractAt ![0, 0, 0] (shapeCast S1x1x1 (multiReduction .add [1, 2] S1 (shapeCast S1x1x8192 v (by decide)) 0x00000000#32
    reduces_S1x1x8192_S1 (.inl rfl) rfl) (by decide)) inpos_S1x1x1_p0_0_0

/-- The matched box's corners, by a prior's matched object. -/
def cor1 (k : Fin 4) (w : BitVec 32) (b : Vec F S1x20x4 .f32) (ob : Vec F S1x8192 .i32) (ia : Vec F S20x1 .i32) : FVec F S1x8192 .f32 :=
  match k with
  | 0 => k0_pay51 (k0_pay41 b) (k0_pay50 w ob ia)
  | 1 => k0_pay52 (k0_pay42 b) (k0_pay50 w ob ia)
  | 2 => k0_pay53 (k0_pay43 b) (k0_pay50 w ob ia)
  | 3 => k0_pay54 (k0_pay44 b) (k0_pay50 w ob ia)

theorem ad1_eq (w : BitVec 32) (p : Vec F S4x8192 .f32) (b : Vec F S1x20x4 .f32) (d : Vec F S1x4x8192 .f32)
    (ov : Vec F S1x8192 .f32) (ob : Vec F S1x8192 .i32) (ia : Vec F S20x1 .i32) (a : Vec F S1x1 .f32) :
    ad1 w p b d ov ob ia a = k0_pay10 (addf a (broadcast S1x1
      (laneSum (dist1 (pos1 w ov ia) p d (cor1 0 w b ob ia) (cor1 1 w b ob ia) (cor1 2 w b ob ia) (cor1 3 w b ob ia))))) := by
  unfold ad1 k0_pay66 laneSum dist1 cor1
  rfl

/-- A positive prior is a lane inside. -/
theorem pos1_apply (w : BitVec 32) (ov : Vec F S1x8192 .f32) (ia : Vec F S20x1 .i32) (j : Fin 8192) :
    pos1 w ov ia (ix2 0 j) = IntOp.andi (FloatOps.cmpf .oge (k0_pay49 w ov ia (ix2 0 j)) (FloatOps.ofBits .f32 0x3F000000#32)) (lane (Scalar.subi w 3#32) j) := by
  unfold pos1
  pointwise [k0_pay55, k0_pay46, k0_pay45]
  rfl

theorem pos1_lane (w : BitVec 32) (ov : Vec F S1x8192 .f32) (ia : Vec F S20x1 .i32) (j : Fin 8192) (h : pos1 w ov ia (ix2 0 j) = 1#1) :
    lane (Scalar.subi w 3#32) j = 1#1 := by
  rw [pos1_apply] at h
  generalize lane (Scalar.subi w 3#32) j = y at h ⊢
  generalize FloatOps.cmpf .oge (k0_pay49 w ov ia (ix2 0 j)) (FloatOps.ofBits .f32 0x3F000000#32) = x at h
  revert x y; decide

theorem dist1_congr {m : IVec S1x8192 1} {p p' : Vec F S4x8192 .f32} {d d' : Vec F S1x4x8192 .f32} {c0 c1 c2 c3 : FVec F S1x8192 .f32}
    (hp : ∀ (k : Fin 4) (j : Fin 8192), m (ix2 0 j) = 1#1 → p (ix2 k j) = p' (ix2 k j))
    (hd : ∀ (k : Fin 4) (j : Fin 8192), m (ix2 0 j) = 1#1 → d (ix3 0 k j) = d' (ix3 0 k j)) :
    dist1 m p d c0 c1 c2 c3 = dist1 m p' d' c0 c1 c2 c3 := by
  funext i
  obtain ⟨r, j, rfl⟩ : ∃ (r : Fin 1) (j : Fin 8192), i = ix2 r j := ⟨i 0, i 1, eq_ix2 i⟩
  obtain rfl : r = 0 := Subsingleton.elim _ _
  rw [dist1_apply, dist1_apply]
  by_cases hl : m (ix2 0 j) = 1#1
  · rw [hp 0 j hl, hp 1 j hl, hp 2 j hl, hp 3 j hl, hd 0 j hl, hd 1 j hl, hd 2 j hl, hd 3 j hl]
  · rw [sel_neg hl, sel_neg hl]

theorem ad1_congr {w : BitVec 32} {p p' : Vec F S4x8192 .f32} {b : Vec F S1x20x4 .f32} {d d' : Vec F S1x4x8192 .f32}
    {ov : Vec F S1x8192 .f32} {ob : Vec F S1x8192 .i32} {ia : Vec F S20x1 .i32} {a : Vec F S1x1 .f32}
    (hp : ∀ (k : Fin 4) (j : Fin 8192), lane (Scalar.subi w 3#32) j = 1#1 → p (ix2 k j) = p' (ix2 k j))
    (hd : ∀ (k : Fin 4) (j : Fin 8192), lane (Scalar.subi w 3#32) j = 1#1 → d (ix3 0 k j) = d' (ix3 0 k j)) :
    ad1 w p b d ov ob ia a = ad1 w p' b d' ov ob ia a := by
  rw [ad1_eq, ad1_eq, dist1_congr (fun k j h => hp k j (pos1_lane _ _ _ _ h)) (fun k j h => hd k j (pos1_lane _ _ _ _ h))]

/-- How much of each clipped window's block lies inside the array. -/
theorem xsize0_0 : ∀ t : Fin grid0.N, win0_0.xsize (grid0.coords t) 0 = 4
    ∧ min 8192 (22536 - 8192 * (t.val % 3)) ≤ win0_0.xsize (grid0.coords t) 1 := by decide +kernel
theorem xsize0_3 : ∀ t : Fin grid0.N, win0_3.xsize (grid0.coords t) 0 = 1 ∧ win0_3.xsize (grid0.coords t) 1 = 4
    ∧ (3 ≤ t.val % 6 → min 8192 (22536 - 8192 * (t.val % 3)) ≤ win0_3.xsize (grid0.coords t) 2) := by decide +kernel

/-- The coordinates of a point. -/
theorem coords0 : ∀ t : Fin grid0.N, (grid0.coords t 0).val = t.val / 6 ∧ (grid0.coords t 1).val = t.val % 6 := by decide +kernel

theorem fill0_0 (t : Fin grid0.N) (d d' : S4x8192.Idx → Elt F .f32) (g) (k : Fin 4) (j : Fin 8192)
    (hl : 8192 * (t.val % 3) + j.val < 22536) : win0_0.fill (grid0.coords t) d g (ix2 k j) = win0_0.fill (grid0.coords t) d' g (ix2 k j) := by
  have hm : win0_0.moved (grid0.coords t) (ix2 k j) = true := (win0_0.moved_iff _ _).mpr fun a => by
    obtain ⟨h0, h1⟩ := xsize0_0 t
    have hj := j.isLt
    have hk := k.isLt
    match a with
    | 0 => rw [h0]; exact hk
    | 1 => exact lt_of_lt_of_le (by change j.val < _; omega) h1
  unfold Pipeline.Window.fill; rw [dif_pos hm, dif_pos hm]

theorem fill0_3 (t : Fin grid0.N) (ht : 3 ≤ t.val % 6) (d d' : S1x4x8192.Idx → Elt F .f32) (g) (k : Fin 4) (j : Fin 8192)
    (hl : 8192 * (t.val % 3) + j.val < 22536) : win0_3.fill (grid0.coords t) d g (ix3 0 k j) = win0_3.fill (grid0.coords t) d' g (ix3 0 k j) := by
  have hm : win0_3.moved (grid0.coords t) (ix3 0 k j) = true := (win0_3.moved_iff _ _).mpr fun a => by
    obtain ⟨h0, h1, h2⟩ := xsize0_3 t
    have h2 := h2 ht
    have hj := j.isLt
    have hk := k.isLt
    match a with
    | 0 => rw [h0]; exact Nat.one_pos
    | 1 => rw [h1]; exact hk
    | 2 => exact lt_of_lt_of_le (by change j.val < _; omega) h2
  unfold Pipeline.Window.fill; rw [dif_pos hm, dif_pos hm]

/-- The tile number of the first phase's points, and of the second's, three less. -/
theorem tile_lo (t : Fin grid0.N) (h : t.val % 6 < 3) : tile (grid0.coords t) = BitVec.ofNat 32 (t.val % 3) := by
  unfold tile; rw [(coords0 t).2, show t.val % 6 = t.val % 3 from by omega]
theorem tile_hi : ∀ t : Fin grid0.N, 3 ≤ t.val % 6 → Scalar.subi (tile (grid0.coords t)) 3#32 = BitVec.ofNat 32 (t.val % 3) := by
  decide +kernel

theorem lane_lo (t : Fin grid0.N) (h : t.val % 6 < 3) (j : Fin 8192) (hl : lane (tile (grid0.coords t)) j = 1#1) :
    8192 * (t.val % 3) + j.val < 22536 := by
  rw [tile_lo t h] at hl; exact (lane_iff _ (Nat.mod_lt _ (by decide)) j).mp hl
theorem lane_hi (t : Fin grid0.N) (h : 3 ≤ t.val % 6) (j : Fin 8192) (hl : lane (Scalar.subi (tile (grid0.coords t)) 3#32) j = 1#1) :
    8192 * (t.val % 3) + j.val < 22536 := by
  rw [tile_hi t h] at hl; exact (lane_iff _ (Nat.mod_lt _ (by decide)) j).mp hl

end Cert.Proof

end
-- ==== Proof.R0State.lean ====
/-
  What the matching kernel's scratch and outputs hold at each of its points, written over any entry contents `V`, and
  that a point takes one to the next whatever lies past the priors' end in its staging buffers.
-/
module

public import proofs.«01_k».proof.Proof.Entry

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (V : (c : Dev nD) → (b : Ref sig .tc) → Buf (Elt F) ((c : Thread nD τ).loc b)) (c : Dev nD)

/-! ## The blocks of a point -/

/-- The priors of point `t`'s block, the lanes past the array's end at `d`; the boxes, the labels, the locations. -/
def pblk (t : Fin cfg0.N) (d : S4x8192.Idx → Elt F .f32) : S4x8192.Idx → Elt F .f32 :=
  win0_0.fill (grid0.coords t) d ((win0_0.blk t).view.read (Elt F) (V c main_v0))
def bblk (t : Fin cfg0.N) : S1x20x4.Idx → Elt F .f32 := (win0_1.blk t).view.read (Elt F) (V c main_arg2)
def lblk (t : Fin cfg0.N) : S1x20x1.Idx → Elt F .i32 := (win0_2.blk t).view.read (Elt F) (V c main_v1)
def dblk (t : Fin cfg0.N) (d : S1x4x8192.Idx → Elt F .f32) : S1x4x8192.Idx → Elt F .f32 :=
  win0_3.fill (grid0.coords t) d ((win0_3.blk t).view.read (Elt F) (V c main_v2))
/-- The same with zeros past the end. -/
abbrev pz (t : Fin cfg0.N) : S4x8192.Idx → Elt F .f32 := pblk V c t fun _ => Scalar.ofBits .f32 0#32
abbrev dz (t : Fin cfg0.N) : S1x4x8192.Idx → Elt F .f32 := dblk V c t fun _ => Scalar.ofBits .f32 0#32

/-- The number of image `b`'s point `j`. -/
def pt (b j : ℕ) : Fin cfg0.N := ⟨(6 * b + j) % 48, by rw [show cfg0.N = 48 from N_0]; exact Nat.mod_lt _ (by decide)⟩

theorem pt_self (t : Fin cfg0.N) : pt (t.val / 6) (t.val % 6) = t := Fin.ext (by
  have h : t.val < 48 := N_0 ▸ t.isLt
  change (6 * (t.val / 6) + t.val % 6) % 48 = t.val; omega)
theorem pt_zero (t : Fin cfg0.N) : pt 0 t.val = t := Fin.ext (by
  have h : t.val < 48 := N_0 ▸ t.isLt
  change (6 * 0 + t.val) % 48 = t.val; omega)

/-! ## What the points compute -/

/-- A first-phase tile's overlaps, objects, row bests and row priors. -/
def OV (t : Fin cfg0.N) : FVec F S1x8192 .f32 := ov1 (tile (grid0.coords t)) (pz V c t) (bblk V c t)
def OB (t : Fin cfg0.N) : IVec S1x8192 32 := ob1 (tile (grid0.coords t)) (pz V c t) (bblk V c t)
def RM (t : Fin cfg0.N) : FVec F S20x1 .f32 := rm1 (tile (grid0.coords t)) (pz V c t) (bblk V c t)
def RI (t : Fin cfg0.N) : IVec S20x1 32 := ri1 (tile (grid0.coords t)) (pz V c t) (bblk V c t)

/-- Image `b`'s running best overlap and prior of each object after tile `j`. -/
def VA (b : ℕ) : ℕ → FVec F S20x1 .f32
  | 0 => k0_pay5 (RM V c (pt b 0))
  | j + 1 => va1 (RM V c (pt b (j + 1))) (VA b j)
def IA (b : ℕ) : ℕ → IVec S20x1 32
  | 0 => k0_pay6 (RI V c (pt b 0))
  | j + 1 => ia1 (RM V c (pt b (j + 1))) (VA V c b j) (RI V c (pt b (j + 1))) (IA b j)

/-- The overlaps and objects the second phase reads at point `n`, the final priors of its image's objects, its codes. -/
def OV2 (n : ℕ) : FVec F S1x8192 .f32 := OV V c (pt (n / 6) (n % 6 - 3))
def OB2 (n : ℕ) : IVec S1x8192 32 := OB V c (pt (n / 6) (n % 6 - 3))
def IA2 (n : ℕ) : IVec S20x1 32 := IA V c (n / 6) 2
def CODE (t : Fin cfg0.N) : FVec F S1x8x8192 .f32 :=
  code1 (tile (grid0.coords t)) (OV2 V c t.val) (OB2 V c t.val) (IA2 V c t.val) (lblk V c t)

/-- The three totals before point `n`. -/
def AM : ℕ → FVec F S1x1 .f32
  | 0 => k0_pay2
  | n + 1 => if 3 ≤ n % 6 then am1 (tile (grid0.coords (pt 0 n))) (OV2 V c n) (IA2 V c n) (AM n) else AM n
def AP : ℕ → FVec F S1x1 .f32
  | 0 => k0_pay3
  | n + 1 => if 3 ≤ n % 6 then ap1 (tile (grid0.coords (pt 0 n))) (OV2 V c n) (IA2 V c n) (AP n) else AP n
def AD : ℕ → FVec F S1x1 .f32
  | 0 => k0_pay4
  | n + 1 => if 3 ≤ n % 6 then ad1 (tile (grid0.coords (pt 0 n))) (pz V c (pt 0 n)) (bblk V c (pt 0 n)) (dz V c (pt 0 n))
      (OV2 V c n) (OB2 V c n) (IA2 V c n) (AD n) else AD n

/-! ## The scratch before point `n` -/

structure Inv0 (n : ℕ) (va : Vec F S20x1 .f32) (ia : Vec F S20x1 .i32) (ov : Vec F S1x24576 .f32) (ob : Vec F S1x24576 .i32)
    (am ap ad : Vec F S1x1 .f32) : Prop where
  acc : 0 < n → am = AM V c n ∧ ap = AP V c n ∧ ad = AD V c n
  best : 0 < n % 6 → va = VA V c (n / 6) (min (n % 6) 3 - 1) ∧ ia = IA V c (n / 6) (min (n % 6) 3 - 1)
  slices : ∀ j < 3, j < n % 6 → ∀ (off : Fin 2 → ℕ) (h : off = ![0, 8192 * j]) (inb : ∀ a, off a + S1x8192.size a ≤ S1x24576.size a),
    VecWindow.window (s := S1x24576) ov off S1x8192.size inb = OV V c (pt (n / 6) j)
      ∧ VecWindow.window (s := S1x24576) ob off S1x8192.size inb = OB V c (pt (n / 6) j)

variable {V c}

/-- A first-phase point computes the same whatever lies past the priors' end. -/
theorem iou_pz (t : Fin cfg0.N) (h : t.val % 6 < 3) (d : S4x8192.Idx → Elt F .f32) :
    iou1 (tile (grid0.coords t)) (pblk V c t d) (bblk V c t) = iou1 (tile (grid0.coords t)) (pz V c t) (bblk V c t) :=
  iou1_congr fun k j hl => fill0_0 t _ _ _ k j (lane_lo t h j hl)

theorem ad_pz (t : Fin cfg0.N) (h : 3 ≤ t.val % 6) (d : S4x8192.Idx → Elt F .f32) (d' : S1x4x8192.Idx → Elt F .f32) (ov ob ia a) :
    ad1 (tile (grid0.coords t)) (pblk V c t d) (bblk V c t) (dblk V c t d') ov ob ia a
      = ad1 (tile (grid0.coords t)) (pz V c t) (bblk V c t) (dz V c t) ov ob ia a :=
  ad1_congr (fun k j hl => fill0_0 t _ _ _ k j (lane_hi t h j hl)) (fun k j hl => fill0_3 t h _ _ _ k j (lane_hi t h j hl))

variable {va : Vec F S20x1 .f32} {ia : Vec F S20x1 .i32} {ov : Vec F S1x24576 .f32} {ob : Vec F S1x24576 .i32} {am ap ad : Vec F S1x1 .f32}

/-- The slices of the scratch after a first-phase point. -/
theorem slices_lo (t : Fin cfg0.N) (h : t.val % 6 < 3) (d : S4x8192.Idx → Elt F .f32) (s : Inv0 V c t.val va ia ov ob am ap ad)
    (j : ℕ) (hj : j < 3) (hn : j < (t.val + 1) % 6) (off : Fin 2 → ℕ) (ho : off = ![0, 8192 * j]) (inb : ∀ a, off a + S1x8192.size a ≤ S1x24576.size a) :
    VecWindow.window (s := S1x24576) (VecWindow.put ov (k0_off1 (grid0.coords t)) S1x8192.size (ov1 (tile (grid0.coords t)) (pblk V c t d) (bblk V c t)))
        off S1x8192.size inb = OV V c (pt ((t.val + 1) / 6) j)
      ∧ VecWindow.window (s := S1x24576) (VecWindow.put ob (k0_off1 (grid0.coords t)) S1x8192.size (ob1 (tile (grid0.coords t)) (pblk V c t d) (bblk V c t)))
        off S1x8192.size inb = OB V c (pt ((t.val + 1) / 6) j) := by
  have ht : (t.val + 1) / 6 = t.val / 6 := by omega
  rw [ov1_congr (iou_pz t h d), ob1_congr (iou_pz t h d), ht, k0_off1_eq, (coords0 t).2]
  by_cases hjt : j = t.val % 6
  · subst hjt
    subst ho
    rw [pt_self]
    exact ⟨VecWindow.window_put_same _ _ _ inb _, VecWindow.window_put_same _ _ _ inb _⟩
  · have hlt : j < t.val % 6 := by omega
    obtain ⟨h1, h2⟩ := s.slices j hj hlt off ho inb
    subst ho
    refine ⟨(VecWindow.window_put_of_disjoint _ _ _ _ _ inb _ 1 ?_).trans h1, (VecWindow.window_put_of_disjoint _ _ _ _ _ inb _ 1 ?_).trans h2⟩ <;>
      (left; change 8192 * j + 8192 ≤ 8192 * (t.val % 6); omega)

/-- The totals stand still over a first-phase point. -/
theorem acc_lo (t : Fin cfg0.N) (h : t.val % 6 < 3) : AM V c (t.val + 1) = AM V c t.val ∧ AP V c (t.val + 1) = AP V c t.val
    ∧ AD V c (t.val + 1) = AD V c t.val := by
  have hn : ¬ 3 ≤ t.val % 6 := by omega
  refine ⟨?_, ?_, ?_⟩
  · rw [AM, if_neg hn]
  · rw [AP, if_neg hn]
  · rw [AD, if_neg hn]

/-- The first tile of an image. -/
theorem inv_tile0 (t : Fin cfg0.N) (h : t.val % 6 = 0) (d : S4x8192.Idx → Elt F .f32) (s : Inv0 V c t.val va ia ov ob am ap ad)
    {am' ap' ad' : Vec F S1x1 .f32} (ha : am' = AM V c t.val ∧ ap' = AP V c t.val ∧ ad' = AD V c t.val) :
    Inv0 V c (t.val + 1) (k0_pay5 (rm1 (tile (grid0.coords t)) (pblk V c t d) (bblk V c t)))
      (k0_pay6 (ri1 (tile (grid0.coords t)) (pblk V c t d) (bblk V c t)))
      (VecWindow.put ov (k0_off1 (grid0.coords t)) S1x8192.size (ov1 (tile (grid0.coords t)) (pblk V c t d) (bblk V c t)))
      (VecWindow.put ob (k0_off1 (grid0.coords t)) S1x8192.size (ob1 (tile (grid0.coords t)) (pblk V c t d) (bblk V c t))) am' ap' ad' where
  acc _ := by obtain ⟨e1, e2, e3⟩ := acc_lo (V := V) (c := c) t (by omega); rw [e1, e2, e3]; exact ha
  best _ := by
    have e : (t.val + 1) / 6 = t.val / 6 := by omega
    have e' : min ((t.val + 1) % 6) 3 - 1 = 0 := by omega
    have e'' : pt (t.val / 6) 0 = t := by have := pt_self t; rwa [h] at this
    rw [rm1_congr (iou_pz t (by omega) d), ri1_congr (iou_pz t (by omega) d), e, e', VA, IA, e'']
    exact ⟨rfl, rfl⟩
  slices := slices_lo t (by omega) d s

/-- A later tile of the first phase. -/
theorem inv_tile12 (t : Fin cfg0.N) (h : t.val % 6 < 3) (h' : t.val % 6 ≠ 0) (d : S4x8192.Idx → Elt F .f32) (s : Inv0 V c t.val va ia ov ob am ap ad) :
    Inv0 V c (t.val + 1) (va1 (rm1 (tile (grid0.coords t)) (pblk V c t d) (bblk V c t)) va)
      (ia1 (rm1 (tile (grid0.coords t)) (pblk V c t d) (bblk V c t)) va (ri1 (tile (grid0.coords t)) (pblk V c t d) (bblk V c t)) ia)
      (VecWindow.put ov (k0_off1 (grid0.coords t)) S1x8192.size (ov1 (tile (grid0.coords t)) (pblk V c t d) (bblk V c t)))
      (VecWindow.put ob (k0_off1 (grid0.coords t)) S1x8192.size (ob1 (tile (grid0.coords t)) (pblk V c t d) (bblk V c t))) am ap ad where
  acc _ := by obtain ⟨e1, e2, e3⟩ := acc_lo (V := V) (c := c) t (by omega); rw [e1, e2, e3]; exact s.acc (by omega)
  best _ := by
    have e : (t.val + 1) / 6 = t.val / 6 := by omega
    have e' : min ((t.val + 1) % 6) 3 - 1 = (min (t.val % 6) 3 - 1) + 1 := by omega
    have e'' : pt (t.val / 6) ((min (t.val % 6) 3 - 1) + 1) = t := by
      have := pt_self t; rwa [show t.val % 6 = (min (t.val % 6) 3 - 1) + 1 from by omega] at this
    rw [rm1_congr (iou_pz t (by omega) d), ri1_congr (iou_pz t (by omega) d), e, e', VA, IA, e'', (s.best (by omega)).1, (s.best (by omega)).2]
    exact ⟨rfl, rfl⟩
  slices := slices_lo t (by omega) d s

/-- Where the second phase reads. -/
theorem off2_eq : ∀ t : Fin grid0.N, 3 ≤ t.val % 6 → k0_off2 (grid0.coords t) = ![0, 8192 * (t.val % 6 - 3)] := by decide +kernel

/-- What a second-phase point reads of the scratch. -/
theorem reads_hi (t : Fin cfg0.N) (h : 3 ≤ t.val % 6) (s : Inv0 V c t.val va ia ov ob am ap ad) (inb : ∀ a, k0_off2 (grid0.coords t) a + S1x8192.size a ≤ S1x24576.size a) :
    VecWindow.window (s := S1x24576) ov (k0_off2 (grid0.coords t)) S1x8192.size inb = OV2 V c t.val
      ∧ VecWindow.window (s := S1x24576) ob (k0_off2 (grid0.coords t)) S1x8192.size inb = OB2 V c t.val
      ∧ ia = IA2 V c t.val := by
  obtain ⟨h1, h2⟩ := s.slices (t.val % 6 - 3) (by omega) (by omega) _ (off2_eq t h) inb
  refine ⟨h1, h2, ?_⟩
  have := (s.best (by omega)).2
  rwa [show min (t.val % 6) 3 - 1 = 2 from by omega] at this

/-- A tile of the second phase. -/
theorem inv_hi (t : Fin cfg0.N) (h : 3 ≤ t.val % 6) (d : S4x8192.Idx → Elt F .f32) (d' : S1x4x8192.Idx → Elt F .f32)
    (s : Inv0 V c t.val va ia ov ob am ap ad) :
    Inv0 V c (t.val + 1) va ia ov ob (am1 (tile (grid0.coords t)) (OV2 V c t.val) (IA2 V c t.val) am)
      (ap1 (tile (grid0.coords t)) (OV2 V c t.val) (IA2 V c t.val) ap)
      (ad1 (tile (grid0.coords t)) (pblk V c t d) (bblk V c t) (dblk V c t d') (OV2 V c t.val) (OB2 V c t.val) (IA2 V c t.val) ad) where
  acc _ := by
    rw [AM, AP, AD, if_pos h, if_pos h, if_pos h, pt_zero, ad_pz t h d d']
    obtain ⟨e1, e2, e3⟩ := s.acc (by omega)
    rw [e1, e2, e3]; exact ⟨rfl, rfl, rfl⟩
  best hp := by
    have e : (t.val + 1) / 6 = t.val / 6 := by omega
    have e' : min ((t.val + 1) % 6) 3 - 1 = min (t.val % 6) 3 - 1 := by omega
    rw [e, e']; exact s.best (by omega)
  slices j hj hn := by
    have e : (t.val + 1) / 6 = t.val / 6 := by omega
    rw [e]; exact s.slices j hj (by omega)

end Cert.Proof

end
-- ==== Proof.R0.lean ====
/-
  The matching kernel's pipeline: its proof data over any entry contents `V`, exact at every point, and the body's
  obligation. A first-phase point touches the priors, the boxes and the scratch; a second-phase point leaves the scratch
  tables, writes its codes and adds to the totals; the last one writes the totals out.
-/
module

public import proofs.«01_k».proof.Proof.R0State
public import Idealize.ShloMosaic.Lib.Pipeline.FrameBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligationLoose cellOf)

variable (V : (c : Dev nD) → (b : Ref sig .tc) → Buf (Elt F) ((c : Thread nD τ).loc b))

/-- The buffers of this call's own scratch. -/
abbrev scr0 : List (Ref sig .tc) :=
  [cc0_scratch0, cc0_scratch1, cc0_scratch2, cc0_scratch3, cc0_scratch4, cc0_scratch5, cc0_scratch6]

/-- The scratch, whole at the given contents. -/
def held0 (c : Dev nD) (va : Vec F S20x1 .f32) (ia : Vec F S20x1 .i32) (ov : Vec F S1x24576 .f32) (ob : Vec F S1x24576 .i32) (am : Vec F S1x1 .f32) (ap : Vec F S1x1 .f32) (ad : Vec F S1x1 .f32) : sProp 𝕄 :=
  iprop(owns (c : Thread nD τ) (Memref.whole cc0_scratch0) fullShare va
    ∗ owns (c : Thread nD τ) (Memref.whole cc0_scratch1) fullShare ia
    ∗ owns (c : Thread nD τ) (Memref.whole cc0_scratch2) fullShare ov
    ∗ owns (c : Thread nD τ) (Memref.whole cc0_scratch3) fullShare ob
    ∗ owns (c : Thread nD τ) (Memref.whole cc0_scratch4) fullShare am
    ∗ owns (c : Thread nD τ) (Memref.whole cc0_scratch5) fullShare ap
    ∗ owns (c : Thread nD τ) (Memref.whole cc0_scratch6) fullShare ad)

/-- What the body finds and leaves beside the staging buffers before point `n`. -/
def Phi0 (c : Dev nD) (n : ℕ) : sProp 𝕄 :=
  iprop((∃ (va : Vec F S20x1 .f32) (ia : Vec F S20x1 .i32) (ov : Vec F S1x24576 .f32) (ob : Vec F S1x24576 .i32) (am : Vec F S1x1 .f32) (ap : Vec F S1x1 .f32) (ad : Vec F S1x1 .f32), ⌜Inv0 V c n va ia ov ob am ap ad⌝ ∗ held0 c va ia ov ob am ap ad)
    ∗ Pipeline.scopedRestBut (Ix := Unit) (Name := ℕ) (U := UU) (Lvl := ℕ) (Val := Elt F) spec0 c scr0)

/-- The pipeline's proof data. -/
def dat0 (c : Dev nD) : Dat τ (Elt F) Unit ℕ UU ℕ cfg0 c where
  A w := V c (Pipeline.arrRef spec0 w)
  after w t := match w with
    | ⟨0, _⟩ => pz V c t
    | ⟨1, _⟩ => bblk V c t
    | ⟨2, _⟩ => lblk V c t
    | ⟨3, _⟩ => dz V c t
    | ⟨4, _⟩ => CODE V c t
    | ⟨5, _⟩ => AM V c 48
    | ⟨6, _⟩ => AP V c 48
    | ⟨7, _⟩ => AD V c 48
  Φ n := Phi0 V c n.val
  q _ := fullShare
  owed _ := 0

/-- The body's conditions, by the point's number. -/
theorem condA0 : ∀ t : Fin grid0.N, k0_condA (grid0.coords t) = 1#1 ↔ t.val = 0 := by decide +kernel
theorem cond0_2 : ∀ t : Fin grid0.N, k0_cond2 (grid0.coords t) = 1#1 ↔ t.val % 6 < 3 := by decide +kernel
theorem condB0 : ∀ t : Fin grid0.N, k0_condB (grid0.coords t) = 1#1 ↔ t.val % 6 = 0 := by decide +kernel
theorem condC0 : ∀ t : Fin grid0.N, k0_condC (grid0.coords t) = 1#1 ↔ t.val % 6 ≠ 0 := by decide +kernel
theorem cond0_5 : ∀ t : Fin grid0.N, k0_cond5 (grid0.coords t) = 1#1 ↔ 3 ≤ t.val % 6 := by decide +kernel
theorem cond0_6 : ∀ t : Fin grid0.N, k0_cond6 (grid0.coords t) = 1#1 ↔ t.val = 47 := by decide +kernel

/-- The codes' block is written back at the second phase's points only. -/
theorem flush0_4 : ∀ t : Fin cfg0.N, t.val % 6 < 3 → (cfg0.win 4).flush t = false :=
  (by decide +kernel : ∀ t : Fin grid0.N, t.val % 6 < 3 → win0_4.flush t = false)

/-- The locations' cut is the block's. -/
theorem clip0_3 : ∀ t t' : Fin cfg0.N, (cfg0.win 3).index t = (cfg0.win 3).index t' →
    (cfg0.win 3).clip (cfg0.grid.coords t) = (cfg0.win 3).clip (cfg0.grid.coords t') := by
  have h : ∀ t t' : Fin grid0.N, win0_3.index t 2 = win0_3.index t' 2 → win0_3.clip (grid0.coords t) = win0_3.clip (grid0.coords t') := by
    decide +kernel
  exact fun t t' e => h t t' (congrFun e 2)

theorem before0_0 (c : Dev nD) (t : Fin cfg0.N) (d) : (dat0 V c).before (0 : Fin 8) t d = pblk V c t d := by
  unfold Dat.before; rw [if_pos (fetch0_0 t)]; rfl
theorem before0_1 (c : Dev nD) (t : Fin cfg0.N) (d) : (dat0 V c).before (1 : Fin 8) t d = bblk V c t :=
  ((dat0 V c).before_in_eq_fetched 1 rfl (fun _ => rfl) (fun _ _ _ => rfl) (fun _ => rfl) t d).trans rfl
theorem before0_2 (c : Dev nD) (t : Fin cfg0.N) (d) : (dat0 V c).before (2 : Fin 8) t d = lblk V c t :=
  ((dat0 V c).before_in_eq_fetched 2 rfl (fun _ => rfl) (fun _ _ _ => rfl) (fun _ => rfl) t d).trans rfl
theorem before0_3 (c : Dev nD) (t : Fin cfg0.N) (d) : (dat0 V c).before (3 : Fin 8) t d = dblk V c t d :=
  ((dat0 V c).before_in_eq_fetched 3 rfl (fun _ => rfl) clip0_3 (fun t => win0_3.cut_fill _ _ _) t d).trans rfl

/-- The body at a first-phase point. -/
theorem phase1 (c : Dev nD) (t : Fin cfg0.N) (h : t.val % 6 < 3) (d : S4x8192.Idx → Elt F .f32)
    {va : Vec F S20x1 .f32} {ia : Vec F S20x1 .i32} {ov : Vec F S1x24576 .f32} {ob : Vec F S1x24576 .i32} {am : Vec F S1x1 .f32} {ap : Vec F S1x1 .f32} {ad : Vec F S1x1 .f32}
    (s : Inv0 V c t.val va ia ov ob am ap ad) (K : PUnit → sProp 𝕄) :
    iprop(owns (c : Thread nD τ) (win0_0.stage (cfg0.slots t 0)) fullShare (pblk V c t d)
        ∗ owns (c : Thread nD τ) (win0_1.stage (cfg0.slots t 1)) fullShare (bblk V c t)
        ∗ held0 c va ia ov ob am ap ad
        ∗ (iprop(owns (c : Thread nD τ) (win0_0.stage (cfg0.slots t 0)) fullShare (pblk V c t d)
              ∗ owns (c : Thread nD τ) (win0_1.stage (cfg0.slots t 1)) fullShare (bblk V c t)
              ∗ (∃ (va : Vec F S20x1 .f32) (ia : Vec F S20x1 .i32) (ov : Vec F S1x24576 .f32) (ob : Vec F S1x24576 .i32) (am : Vec F S1x1 .f32) (ap : Vec F S1x1 .f32) (ad : Vec F S1x1 .f32), ⌜Inv0 V c (t.val + 1) va ia ov ob am ap ad⌝ ∗ held0 c va ia ov ob am ap ad)) -∗ K ⟨⟩))
      ⊢ wp frame (wpE (defs₀ (F := F)) 𝒱₀ c none) Set.univ (bodyAt0 (F := F) t) K := by
  have hE2 : k0_cond2 (grid0.coords t) = 1#1 := (cond0_2 t).mpr h
  have hE : ¬ k0_cond5 (grid0.coords t) = 1#1 := fun e => by have := (cond0_5 t).mp e; omega
  have hZ : ¬ k0_cond6 (grid0.coords t) = 1#1 := fun e => by have := (cond0_6 t).mp e; omega
  unfold held0
  iintro ⟨H2, H3, ⟨H10, H11, H12, H13, H14, H15, H16⟩, Hk⟩
  by_cases hB : t.val % 6 = 0
  · have hB' : k0_condB (grid0.coords t) = 1#1 := (condB0 t).mpr hB
    have hC' : ¬ k0_condC (grid0.coords t) = 1#1 := fun e => (condC0 t).mp e hB
    by_cases hA : t.val = 0
    · have hA' : k0_condA (grid0.coords t) = 1#1 := (condA0 t).mpr hA
      iapply (body0_first (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _
        (pblk V c t d) (bblk V c t) va ia ov ob am ap ad hA' hE2 hB' hC' hE hZ _)
      isplitl [H2]; · iexact H2
      isplitl [H3]; · iexact H3
      isplitl [H10]; · iexact H10
      isplitl [H11]; · iexact H11
      isplitl [H12]; · iexact H12
      isplitl [H13]; · iexact H13
      isplitl [H14]; · iexact H14
      isplitl [H15]; · iexact H15
      isplitl [H16]; · iexact H16
      iintro ⟨H2, H3, H10, H11, H12, H13, H14, H15, H16⟩
      iapply Hk
      isplitl [H2]; · iexact H2
      isplitl [H3]; · iexact H3
      iexists _; iexists _; iexists _; iexists _; iexists _; iexists _; iexists _
      isplitr
      · ipureintro
        exact inv_tile0 t hB d s (by rw [hA]; exact ⟨rfl, rfl, rfl⟩)
      isplitl [H10]; · iexact H10
      isplitl [H11]; · iexact H11
      isplitl [H12]; · iexact H12
      isplitl [H13]; · iexact H13
      isplitl [H14]; · iexact H14
      isplitl [H15]; · iexact H15
      iexact H16
    · have hA' : ¬ k0_condA (grid0.coords t) = 1#1 := fun e => hA ((condA0 t).mp e)
      iapply (body0_tile0 (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _
        (pblk V c t d) (bblk V c t) va ia ov ob hA' hE2 hB' hC' hE hZ _)
      isplitl [H2]; · iexact H2
      isplitl [H3]; · iexact H3
      isplitl [H10]; · iexact H10
      isplitl [H11]; · iexact H11
      isplitl [H12]; · iexact H12
      isplitl [H13]; · iexact H13
      iintro ⟨H2, H3, H10, H11, H12, H13⟩
      iapply Hk
      isplitl [H2]; · iexact H2
      isplitl [H3]; · iexact H3
      iexists _; iexists _; iexists _; iexists _; iexists _; iexists _; iexists _
      isplitr
      · ipureintro
        exact inv_tile0 t hB d s (s.acc (Nat.pos_of_ne_zero hA))
      isplitl [H10]; · iexact H10
      isplitl [H11]; · iexact H11
      isplitl [H12]; · iexact H12
      isplitl [H13]; · iexact H13
      isplitl [H14]; · iexact H14
      isplitl [H15]; · iexact H15
      iexact H16
  · have hA' : ¬ k0_condA (grid0.coords t) = 1#1 := fun e => by have := (condA0 t).mp e; omega
    have hB' : ¬ k0_condB (grid0.coords t) = 1#1 := fun e => hB ((condB0 t).mp e)
    have hC' : k0_condC (grid0.coords t) = 1#1 := (condC0 t).mpr hB
    iapply (body0_tile12 (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _
      (pblk V c t d) (bblk V c t) va ia ov ob hA' hE2 hB' hC' hE hZ _)
    isplitl [H2]; · iexact H2
    isplitl [H3]; · iexact H3
    isplitl [H10]; · iexact H10
    isplitl [H11]; · iexact H11
    isplitl [H12]; · iexact H12
    isplitl [H13]; · iexact H13
    iintro ⟨H2, H3, H10, H11, H12, H13⟩
    iapply Hk
    isplitl [H2]; · iexact H2
    isplitl [H3]; · iexact H3
    iexists _; iexists _; iexists _; iexists _; iexists _; iexists _; iexists _
    isplitr
    · ipureintro
      exact inv_tile12 t h hB d s
    isplitl [H10]; · iexact H10
    isplitl [H11]; · iexact H11
    isplitl [H12]; · iexact H12
    isplitl [H13]; · iexact H13
    isplitl [H14]; · iexact H14
    isplitl [H15]; · iexact H15
    iexact H16

/-- The body at a second-phase point. -/
theorem phase2 (c : Dev nD) (t : Fin cfg0.N) (h : 3 ≤ t.val % 6) (d : S4x8192.Idx → Elt F .f32) (d' : S1x4x8192.Idx → Elt F .f32)
    (x6 : Vec F S1x8x8192 .f32) (x7 x8 x9 : Vec F S1x1 .f32)
    {va : Vec F S20x1 .f32} {ia : Vec F S20x1 .i32} {ov : Vec F S1x24576 .f32} {ob : Vec F S1x24576 .i32} {am : Vec F S1x1 .f32} {ap : Vec F S1x1 .f32} {ad : Vec F S1x1 .f32}
    (s : Inv0 V c t.val va ia ov ob am ap ad) (K : PUnit → sProp 𝕄) :
    iprop(owns (c : Thread nD τ) (win0_0.stage (cfg0.slots t 0)) fullShare (pblk V c t d)
        ∗ owns (c : Thread nD τ) (win0_1.stage (cfg0.slots t 1)) fullShare (bblk V c t)
        ∗ owns (c : Thread nD τ) (win0_2.stage (cfg0.slots t 2)) fullShare (lblk V c t)
        ∗ owns (c : Thread nD τ) (win0_3.stage (cfg0.slots t 3)) fullShare (dblk V c t d')
        ∗ owns (c : Thread nD τ) (win0_4.stage (cfg0.slots t 4)) fullShare x6
        ∗ owns (c : Thread nD τ) (win0_5.stage (cfg0.slots t 5)) fullShare x7
        ∗ owns (c : Thread nD τ) (win0_6.stage (cfg0.slots t 6)) fullShare x8
        ∗ owns (c : Thread nD τ) (win0_7.stage (cfg0.slots t 7)) fullShare x9
        ∗ held0 c va ia ov ob am ap ad
        ∗ (iprop(owns (c : Thread nD τ) (win0_0.stage (cfg0.slots t 0)) fullShare (pblk V c t d)
              ∗ owns (c : Thread nD τ) (win0_1.stage (cfg0.slots t 1)) fullShare (bblk V c t)
              ∗ owns (c : Thread nD τ) (win0_2.stage (cfg0.slots t 2)) fullShare (lblk V c t)
              ∗ owns (c : Thread nD τ) (win0_3.stage (cfg0.slots t 3)) fullShare (dblk V c t d')
              ∗ owns (c : Thread nD τ) (win0_4.stage (cfg0.slots t 4)) fullShare (CODE V c t)
              ∗ owns (c : Thread nD τ) (win0_5.stage (cfg0.slots t 5)) fullShare (if t.val = 47 then AM V c 48 else x7)
              ∗ owns (c : Thread nD τ) (win0_6.stage (cfg0.slots t 6)) fullShare (if t.val = 47 then AP V c 48 else x8)
              ∗ owns (c : Thread nD τ) (win0_7.stage (cfg0.slots t 7)) fullShare (if t.val = 47 then AD V c 48 else x9)
              ∗ (∃ (va : Vec F S20x1 .f32) (ia : Vec F S20x1 .i32) (ov : Vec F S1x24576 .f32) (ob : Vec F S1x24576 .i32) (am : Vec F S1x1 .f32) (ap : Vec F S1x1 .f32) (ad : Vec F S1x1 .f32), ⌜Inv0 V c (t.val + 1) va ia ov ob am ap ad⌝ ∗ held0 c va ia ov ob am ap ad)) -∗ K ⟨⟩))
      ⊢ wp frame (wpE (defs₀ (F := F)) 𝒱₀ c none) Set.univ (bodyAt0 (F := F) t) K := by
  have hA : ¬ k0_condA (grid0.coords t) = 1#1 := fun e => by have := (condA0 t).mp e; omega
  have hE2 : ¬ k0_cond2 (grid0.coords t) = 1#1 := fun e => by have := (cond0_2 t).mp e; omega
  have hE : k0_cond5 (grid0.coords t) = 1#1 := (cond0_5 t).mpr h
  obtain ⟨r1, r2, r3⟩ := reads_hi t h s (k0_off2_inb (grid0.coords t) hE)
  have hs := inv_hi t h d d' s
  unfold held0
  iintro ⟨H2, H3, H4, H5, H6, H7, H8, H9, ⟨H10, H11, H12, H13, H14, H15, H16⟩, Hk⟩
  by_cases hz : t.val = 47
  · have hZ : k0_cond6 (grid0.coords t) = 1#1 := (cond0_6 t).mpr hz
    iapply (body0_last (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _
      (pblk V c t d) (bblk V c t) (lblk V c t) (dblk V c t d') x6 x7 x8 x9 ia ov ob am ap ad hA hE2 hE hZ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    isplitl [H16]; · iexact H16
    rw [r1, r2, r3]
    iintro ⟨H2, H3, H4, H5, H6, H7, H8, H9, H11, H12, H13, H14, H15, H16⟩
    iapply Hk
    isplitl [H2]; · iexact H2
    isplitl [H3]; · iexact H3
    isplitl [H4]; · iexact H4
    isplitl [H5]; · iexact H5
    isplitl [H6]; · iexact H6
    obtain ⟨e1, e2, e3⟩ := hs.acc (by omega)
    rw [show t.val + 1 = 48 from by omega] at e1 e2 e3
    rw [if_pos hz, if_pos hz, if_pos hz, ← e1, ← e2, ← e3]
    isplitl [H7]; · iexact H7
    isplitl [H8]; · iexact H8
    isplitl [H9]; · iexact H9
    iexists _; iexists _; iexists _; iexists _; iexists _; iexists _; iexists _
    isplitr
    · ipureintro
      exact r3 ▸ hs
    isplitl [H10]; · iexact H10
    isplitl [H11]; · iexact H11
    isplitl [H12]; · iexact H12
    isplitl [H13]; · iexact H13
    isplitl [H14]; · iexact H14
    isplitl [H15]; · iexact H15
    iexact H16
  · have hZ : ¬ k0_cond6 (grid0.coords t) = 1#1 := fun e => hz ((cond0_6 t).mp e)
    iapply (body0_code (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _
      (pblk V c t d) (bblk V c t) (lblk V c t) (dblk V c t d') x6 ia ov ob am ap ad hA hE2 hE hZ _)
    isplitl [H2]; · iexact H2
    isplitl [H3]; · iexact H3
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    isplitl [H16]; · iexact H16
    rw [r1, r2, r3]
    iintro ⟨H2, H3, H4, H5, H6, H11, H12, H13, H14, H15, H16⟩
    iapply Hk
    isplitl [H2]; · iexact H2
    isplitl [H3]; · iexact H3
    isplitl [H4]; · iexact H4
    isplitl [H5]; · iexact H5
    isplitl [H6]; · iexact H6
    rw [if_neg hz, if_neg hz, if_neg hz]
    isplitl [H7]; · iexact H7
    isplitl [H8]; · iexact H8
    isplitl [H9]; · iexact H9
    iexists _; iexists _; iexists _; iexists _; iexists _; iexists _; iexists _
    isplitr
    · ipureintro
      exact r3 ▸ hs
    isplitl [H10]; · iexact H10
    isplitl [H11]; · iexact H11
    isplitl [H12]; · iexact H12
    isplitl [H13]; · iexact H13
    isplitl [H14]; · iexact H14
    isplitl [H15]; · iexact H15
    iexact H16

/-- The clipped windows' blocks are handed back as they were fetched. -/
theorem back0_0 (c : Dev nD) (t : Fin cfg0.N) (d : S4x8192.Idx → Elt F .f32) :
    (owns (c : Thread nD τ) (win0_0.stage (cfg0.slots t 0)) fullShare (pblk V c t d) : sProp 𝕄)
      ⊢ iprop(∃ d, owns (c : Thread nD τ) (win0_0.stage (cfg0.slots t 0)) fullShare (win0_0.fill (grid0.coords t) d (win0_0.cut (grid0.coords t) (pz V c t)))) := by
  iintro H
  iexists d
  rw [show win0_0.cut (grid0.coords t) (pz V c t) = (win0_0.blk t).view.read (Elt F) (V c main_v0) from win0_0.cut_fill _ _ _]
  iexact H
theorem back0_3 (c : Dev nD) (t : Fin cfg0.N) (d : S1x4x8192.Idx → Elt F .f32) :
    (owns (c : Thread nD τ) (win0_3.stage (cfg0.slots t 3)) fullShare (dblk V c t d) : sProp 𝕄)
      ⊢ iprop(∃ d, owns (c : Thread nD τ) (win0_3.stage (cfg0.slots t 3)) fullShare (win0_3.fill (grid0.coords t) d (win0_3.cut (grid0.coords t) (dz V c t)))) := by
  iintro H
  iexists d
  rw [show win0_3.cut (grid0.coords t) (dz V c t) = (win0_3.blk t).view.read (Elt F) (V c main_v2) from win0_3.cut_fill _ _ _]
  iexact H

/-- The body's obligation at every point. -/
theorem obligation0 (c : Dev nD) : BodyObligationLoose (dat0 V c) (defs₀ (F := F)) 𝒱₀ () Set.univ := fun t => by
  rw [bigSep_W0, bigSep_W0]
  rw [show (dat0 V c).Φ t.castSucc = Phi0 V c t.val from rfl, show (dat0 V c).Φ t.succ = Phi0 V c (t.val + 1) from rfl,
    show (dat0 V c).owesAt () t.succ = (dat0 V c).owesAt () t.castSucc from rfl]
  have hlt : t.val < 48 := N_0 ▸ t.isLt
  unfold Phi0
  iintro ⟨⟨⟨%va, %ia, %ov, %ob, %am, %ap, %ad, %s, Hh⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 V c t d0, before0_1 V c t d1, before0_2 V c t d2, before0_3 V c t d3]
  have i6 (hz : t.val ≠ 47) : k0_cond6 (grid0.coords t) ≠ 1#1 := fun e => hz ((cond0_6 t).mp e)
  have i5 (hz : t.val ≠ 47) : (!(k0_cond6 (grid0.coords t) == 1#1)) = true := by simpa using i6 hz
  have f5 (hz : t.val ≠ 47) : (cfg0.win 5).flush t = false := by
    rw [← Bool.not_eq_true, flush0_5]; omega
  have f6 (hz : t.val ≠ 47) : (cfg0.win 6).flush t = false := by
    rw [← Bool.not_eq_true, flush0_6]; omega
  have f7 (hz : t.val ≠ 47) : (cfg0.win 7).flush t = false := by
    rw [← Bool.not_eq_true, flush0_7]; omega
  by_cases h : t.val % 6 < 3
  · have hz : t.val ≠ 47 := by omega
    have i4 : (!(k0_cond5 (grid0.coords t) == 1#1)) = true := by
      have : k0_cond5 (grid0.coords t) ≠ 1#1 := fun e => by have := (cond0_5 t).mp e; omega
      simpa using this
    simp only [i4, i5 hz, flush0_4 t h, f5 hz, f6 hz, f7 hz]
    iapply (phase1 V c t h d0 s _)
    isplitl [H0]; · iexact H0
    isplitl [H1]; · iexact H1
    isplitl [Hh]; · iexact Hh
    iintro ⟨H0, H1, Hh⟩
    isplitl [Hh Hr]
    · isplitl [Hh]; · iexact Hh
      iexact Hr
    isplitl [Ho]; · iexact Ho
    isplitl [H0]; · iapply (back0_0 V c t d0); iexact H0
    isplitl [H1]; · iexact H1
    isplitl [H2]; · iexact H2
    isplitl [H3]; · iapply (back0_3 V c t d3); iexact H3
    isplitl [H4]; · iexists d4; iexact H4
    isplitl [H5]; · iexists d5; iexact H5
    isplitl [H6]; · iexists d6; iexact H6
    iexists d7; iexact H7
  · have h : 3 ≤ t.val % 6 := by omega
    have i4 : (!(k0_cond5 (grid0.coords t) == 1#1)) = false := by rw [(cond0_5 t).mpr h]; rfl
    simp only [i4]
    iapply (phase2 V c t h d0 d3 _ _ _ _ s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hh]; · iexact Hh
    iintro ⟨H0, H1, H2, H3, H4, H5, H6, H7, Hh⟩
    isplitl [Hh Hr]
    · isplitl [Hh]; · iexact Hh
      iexact Hr
    isplitl [Ho]; · iexact Ho
    isplitl [H0]; · iapply (back0_0 V c t d0); iexact H0
    isplitl [H1]; · iexact H1
    isplitl [H2]; · iexact H2
    isplitl [H3]; · iapply (back0_3 V c t d3); iexact H3
    isplitl [H4]; · iexact H4
    by_cases hz : t.val = 47
    · have j6 : (!(k0_cond6 (grid0.coords t) == 1#1)) = false := by rw [(cond0_6 t).mpr hz]; rfl
      simp only [j6]
      rw [if_pos hz, if_pos hz, if_pos hz]
      isplitl [H5]; · iexact H5
      isplitl [H6]; · iexact H6
      iexact H7
    · simp only [i5 hz, f5 hz, f6 hz, f7 hz]
      rw [if_neg hz, if_neg hz, if_neg hz]
      isplitl [H5]; · iexists d5; iexact H5
      isplitl [H6]; · iexists d6; iexact H6
      iexists d7; iexact H7

end Cert.Proof

end
-- ==== Proof.R1Body.lean ====
/-
  The loss kernel's body, run once on symbolic whole staging buffers: what it leaves in its accumulator and in the
  result's buffer, at the first point, at a middle point and at the last one.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The new accumulator of a point: the old one plus the block's row sums, of the scores `s` and codes `k`. -/
def fl1 (s : Vec F S1x8192x81 .f32) (k : Vec F S1x8x8192 .f32) (a : Vec F S1x1 .f32) : FVec F S1x1 .f32 :=
  k1_pay1 (k1_pay4 k) (k1_pay5 s k) (k1_pay6 s k) a

/-- The first point's condition: both grid coordinates are zero. -/
def k1_cond1 (i : grid1.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- A middle point: the accumulator takes the block's row sums, the other buffers keep what they held. -/
theorem body1_mid (c : Dev nD) (E : Set ℕ) (i : grid1.Coords)
    (M2 : Memref sig .tc .vmem S1x8192x81 .f32) (h2 : M2.IsWhole) (M3 : Memref sig .tc .vmem S1x8x8192 .f32) (h3 : M3.IsWhole)
    (M4 : Memref sig .tc .vmem S1x1 .f32) (h4 : M4.IsWhole) (M5 : Memref sig .tc .vmem S1x1 .f32) (h5 : M5.IsWhole)
    (M6 : Memref sig .tc .vmem S1x1 .f32) (h6 : M6.IsWhole) (M7 : Memref sig .tc .vmem S1x1 .f32) (h7 : M7.IsWhole)
    (M8 : Memref sig .tc .vmem S1x1 .f32) (h8 : M8.IsWhole)
    (s : Vec F S1x8192x81 .f32) (k : Vec F S1x8x8192 .f32) (a : Vec F S1x1 .f32)
    (hA : ¬ k1_cond1 i = 1#1) (hZ : ¬ k1_cond2 i = 1#1) (K : PUnit → sProp 𝕄) :
    iprop(owns (c : Thread nD τ) M2 fullShare s
          ∗ owns (c : Thread nD τ) M3 fullShare k
          ∗ owns (c : Thread nD τ) M8 fullShare a
          ∗ (iprop(owns (c : Thread nD τ) M2 fullShare s
          ∗ owns (c : Thread nD τ) M3 fullShare k
          ∗ owns (c : Thread nD τ) M8 fullShare (fl1 s k a)) -∗ K ⟨⟩))
      ⊢ wp frame (wpE (defs₀ (F := F)) 𝒱₀ c none) E (cc1__lambda_ i M2 h2 M3 h3 M4 h4 M5 h5 M6 h6 M7 h7 M8 h8) K := by
  unfold k1_cond1 at hA
  rw [cc1__lambda__eq_skeleton]
  iintro ⟨H2, H3, H8, Hk⟩
  ihave H2 := (rep_of_owns (c : Thread nD τ) M2 _ s) $$ H2
  ihave H3 := (rep_of_owns (c : Thread nD τ) M3 _ k) $$ H3
  ihave H8 := (rep_of_owns (c : Thread nD τ) M8 _ a) $$ H8
  unfold cc1__lambda__skel
  rw [k1_part1_eq_skeleton]
  unfold k1_part1_skel
  have e2 : ∀ inb, M2.view.readAt (Elt F) (Rect.unit (s := S1x8192x81) ![0, 0, 0] S1x8192x81.size inb).toLoadRect (M2.view.rep s) = s :=
    fun _ => View.readAt_rep_full _ _ _
  have e3 : ∀ inb, M3.view.readAt (Elt F) (Rect.unit (s := S1x8x8192) ![0, 0, 0] S1x8x8192.size inb).toLoadRect (M3.view.rep k) = k :=
    fun _ => View.readAt_rep_full _ _ _
  have e1 : ∀ (M : Memref sig .tc .vmem S1x1 .f32) x inb,
      M.view.readAt (Elt F) (Rect.unit (s := S1x1) ![0, 0] S1x1.size inb).toLoadRect (M.view.rep x) = x :=
    fun _ _ _ => View.readAt_rep_full _ _ _
  have e8 : ∀ (w : S1x1.Idx → Elt F .f32) (L : List (View.Piece (Elt F) S1x1 .f32)) inb inb', M8.view.readCov (⟨Rect.unit (s := S1x1) ![0, 0] S1x1.size inb, w⟩ :: L)
      (Rect.unit (s := S1x1) ![0, 0] S1x1.size inb').toLoadRect = w := fun w L i j => readCov_full (s := S1x1) M8.view i j w L
  sl_exec!
  sl_step
  iapply Hk
  isplitl [H2]
  · iapply (owns_of_rep (c : Thread nD τ) M2 _ _); iexact H2
  isplitl [H3]
  · iapply (owns_of_rep (c : Thread nD τ) M3 _ _); iexact H3
  unfold owns; iexists _; isplitr; swap; (· iexact H8)
  ipureintro
  exact (View.read_writes_full _ _ _ _ _).trans rfl

/-- The first point: the accumulator starts from zero. -/
theorem body1_first (c : Dev nD) (E : Set ℕ) (i : grid1.Coords)
    (M2 : Memref sig .tc .vmem S1x8192x81 .f32) (h2 : M2.IsWhole) (M3 : Memref sig .tc .vmem S1x8x8192 .f32) (h3 : M3.IsWhole)
    (M4 : Memref sig .tc .vmem S1x1 .f32) (h4 : M4.IsWhole) (M5 : Memref sig .tc .vmem S1x1 .f32) (h5 : M5.IsWhole)
    (M6 : Memref sig .tc .vmem S1x1 .f32) (h6 : M6.IsWhole) (M7 : Memref sig .tc .vmem S1x1 .f32) (h7 : M7.IsWhole)
    (M8 : Memref sig .tc .vmem S1x1 .f32) (h8 : M8.IsWhole)
    (s : Vec F S1x8192x81 .f32) (k : Vec F S1x8x8192 .f32) (a : Vec F S1x1 .f32)
    (hA : k1_cond1 i = 1#1) (hZ : ¬ k1_cond2 i = 1#1) (K : PUnit → sProp 𝕄) :
    iprop(owns (c : Thread nD τ) M2 fullShare s
          ∗ owns (c : Thread nD τ) M3 fullShare k
          ∗ owns (c : Thread nD τ) M8 fullShare a
          ∗ (iprop(owns (c : Thread nD τ) M2 fullShare s
          ∗ owns (c : Thread nD τ) M3 fullShare k
          ∗ owns (c : Thread nD τ) M8 fullShare (fl1 s k (k1_pay3 (F := F)))) -∗ K ⟨⟩))
      ⊢ wp frame (wpE (defs₀ (F := F)) 𝒱₀ c none) E (cc1__lambda_ i M2 h2 M3 h3 M4 h4 M5 h5 M6 h6 M7 h7 M8 h8) K := by
  unfold k1_cond1 at hA
  rw [cc1__lambda__eq_skeleton]
  iintro ⟨H2, H3, H8, Hk⟩
  ihave H2 := (rep_of_owns (c : Thread nD τ) M2 _ s) $$ H2
  ihave H3 := (rep_of_owns (c : Thread nD τ) M3 _ k) $$ H3
  ihave H8 := (rep_of_owns (c : Thread nD τ) M8 _ a) $$ H8
  unfold cc1__lambda__skel
  rw [k1_part1_eq_skeleton]
  unfold k1_part1_skel
  have e2 : ∀ inb, M2.view.readAt (Elt F) (Rect.unit (s := S1x8192x81) ![0, 0, 0] S1x8192x81.size inb).toLoadRect (M2.view.rep s) = s :=
    fun _ => View.readAt_rep_full _ _ _
  have e3 : ∀ inb, M3.view.readAt (Elt F) (Rect.unit (s := S1x8x8192) ![0, 0, 0] S1x8x8192.size inb).toLoadRect (M3.view.rep k) = k :=
    fun _ => View.readAt_rep_full _ _ _
  have e1 : ∀ (M : Memref sig .tc .vmem S1x1 .f32) x inb,
      M.view.readAt (Elt F) (Rect.unit (s := S1x1) ![0, 0] S1x1.size inb).toLoadRect (M.view.rep x) = x :=
    fun _ _ _ => View.readAt_rep_full _ _ _
  have e8 : ∀ (w : S1x1.Idx → Elt F .f32) (L : List (View.Piece (Elt F) S1x1 .f32)) inb inb', M8.view.readCov (⟨Rect.unit (s := S1x1) ![0, 0] S1x1.size inb, w⟩ :: L)
      (Rect.unit (s := S1x1) ![0, 0] S1x1.size inb').toLoadRect = w := fun w L i j => readCov_full (s := S1x1) M8.view i j w L
  sl_exec!
  sl_step
  iapply Hk
  isplitl [H2]
  · iapply (owns_of_rep (c : Thread nD τ) M2 _ _); iexact H2
  isplitl [H3]
  · iapply (owns_of_rep (c : Thread nD τ) M3 _ _); iexact H3
  unfold owns; iexists _; isplitr; swap; (· iexact H8)
  ipureintro
  exact (View.read_writes_full _ _ _ _ _).trans rfl

/-- The last point: besides, the result's buffer takes the loss of the final accumulator and the three totals. -/
theorem body1_last (c : Dev nD) (E : Set ℕ) (i : grid1.Coords)
    (M2 : Memref sig .tc .vmem S1x8192x81 .f32) (h2 : M2.IsWhole) (M3 : Memref sig .tc .vmem S1x8x8192 .f32) (h3 : M3.IsWhole)
    (M4 : Memref sig .tc .vmem S1x1 .f32) (h4 : M4.IsWhole) (M5 : Memref sig .tc .vmem S1x1 .f32) (h5 : M5.IsWhole)
    (M6 : Memref sig .tc .vmem S1x1 .f32) (h6 : M6.IsWhole) (M7 : Memref sig .tc .vmem S1x1 .f32) (h7 : M7.IsWhole)
    (M8 : Memref sig .tc .vmem S1x1 .f32) (h8 : M8.IsWhole)
    (s : Vec F S1x8192x81 .f32) (k : Vec F S1x8x8192 .f32) (x4 x5 x6 x7 a : Vec F S1x1 .f32)
    (hA : ¬ k1_cond1 i = 1#1) (hZ : k1_cond2 i = 1#1) (K : PUnit → sProp 𝕄) :
    iprop(owns (c : Thread nD τ) M2 fullShare s
          ∗ owns (c : Thread nD τ) M3 fullShare k
          ∗ owns (c : Thread nD τ) M4 fullShare x4
          ∗ owns (c : Thread nD τ) M5 fullShare x5
          ∗ owns (c : Thread nD τ) M6 fullShare x6
          ∗ owns (c : Thread nD τ) M7 fullShare x7
          ∗ owns (c : Thread nD τ) M8 fullShare a
          ∗ (iprop(owns (c : Thread nD τ) M2 fullShare s
          ∗ owns (c : Thread nD τ) M3 fullShare k
          ∗ owns (c : Thread nD τ) M4 fullShare x4
          ∗ owns (c : Thread nD τ) M5 fullShare x5
          ∗ owns (c : Thread nD τ) M6 fullShare x6
          ∗ owns (c : Thread nD τ) M7 fullShare (k1_pay2 (fl1 s k a) x4 x6 x5)
          ∗ owns (c : Thread nD τ) M8 fullShare (fl1 s k a)) -∗ K ⟨⟩))
      ⊢ wp frame (wpE (defs₀ (F := F)) 𝒱₀ c none) E (cc1__lambda_ i M2 h2 M3 h3 M4 h4 M5 h5 M6 h6 M7 h7 M8 h8) K := by
  unfold k1_cond1 at hA
  rw [cc1__lambda__eq_skeleton]
  iintro ⟨H2, H3, H4, H5, H6, H7, H8, Hk⟩
  ihave H2 := (rep_of_owns (c : Thread nD τ) M2 _ s) $$ H2
  ihave H3 := (rep_of_owns (c : Thread nD τ) M3 _ k) $$ H3
  ihave H4 := (rep_of_owns (c : Thread nD τ) M4 _ x4) $$ H4
  ihave H5 := (rep_of_owns (c : Thread nD τ) M5 _ x5) $$ H5
  ihave H6 := (rep_of_owns (c : Thread nD τ) M6 _ x6) $$ H6
  ihave H7 := (rep_of_owns (c : Thread nD τ) M7 _ x7) $$ H7
  ihave H8 := (rep_of_owns (c : Thread nD τ) M8 _ a) $$ H8
  unfold cc1__lambda__skel
  rw [k1_part1_eq_skeleton]
  unfold k1_part1_skel
  have e2 : ∀ inb, M2.view.readAt (Elt F) (Rect.unit (s := S1x8192x81) ![0, 0, 0] S1x8192x81.size inb).toLoadRect (M2.view.rep s) = s :=
    fun _ => View.readAt_rep_full _ _ _
  have e3 : ∀ inb, M3.view.readAt (Elt F) (Rect.unit (s := S1x8x8192) ![0, 0, 0] S1x8x8192.size inb).toLoadRect (M3.view.rep k) = k :=
    fun _ => View.readAt_rep_full _ _ _
  have e1 : ∀ (M : Memref sig .tc .vmem S1x1 .f32) x inb,
      M.view.readAt (Elt F) (Rect.unit (s := S1x1) ![0, 0] S1x1.size inb).toLoadRect (M.view.rep x) = x :=
    fun _ _ _ => View.readAt_rep_full _ _ _
  have e8 : ∀ (w : S1x1.Idx → Elt F .f32) (L : List (View.Piece (Elt F) S1x1 .f32)) inb inb', M8.view.readCov (⟨Rect.unit (s := S1x1) ![0, 0] S1x1.size inb, w⟩ :: L)
      (Rect.unit (s := S1x1) ![0, 0] S1x1.size inb').toLoadRect = w := fun w L i j => readCov_full (s := S1x1) M8.view i j w L
  sl_exec!
  sl_step
  iapply Hk
  isplitl [H2]
  · iapply (owns_of_rep (c : Thread nD τ) M2 _ _); iexact H2
  isplitl [H3]
  · iapply (owns_of_rep (c : Thread nD τ) M3 _ _); iexact H3
  isplitl [H4]
  · iapply (owns_of_rep (c : Thread nD τ) M4 _ _); iexact H4
  isplitl [H5]
  · iapply (owns_of_rep (c : Thread nD τ) M5 _ _); iexact H5
  isplitl [H6]
  · iapply (owns_of_rep (c : Thread nD τ) M6 _ _); iexact H6
  isplitl [H7]
  · unfold owns; iexists _; isplitr; swap; (· iexact H7)
    ipureintro
    exact (View.read_writes_full _ _ _ _ _).trans rfl
  unfold owns; iexists _; isplitr; swap; (· iexact H8)
  ipureintro
  exact (View.read_writes_full _ _ _ _ _).trans rfl

end Cert.Proof

end
-- ==== Proof.R1.lean ====
/-
  The loss kernel's pipeline: its proof data over any entry contents `V`, and the body's obligation at every point. The
  rows of the last scores block that lie past the array's end hold anything, and the row sums may read them; so the
  accumulator is held to a predicate `Inv` that one point keeps for EVERY contents of those rows, and the result's
  buffer to what the last point makes of an accumulator that meets it.
-/
module

public import proofs.«01_k».proof.Proof.R1Body
public import Idealize.ShloMosaic.Lib.Pipeline.FrameBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation BodyObligationRel cellOf)

variable (V : (c : Dev nD) → (b : Ref sig .tc) → Buf (Elt F) ((c : Thread nD τ).loc b))

/-- The rows of the scores' block at point `t` that lie inside the array; -/
def sx (c : Dev nD) (t : Fin cfg1.N) : (win1_0.xblock (grid1.coords t)).Idx → Elt F .f32 :=
  (win1_0.blk t).view.read (Elt F) (V c main_arg1)
/-- the block a fetch leaves, the other rows at `d`; -/
def sblk (c : Dev nD) (t : Fin cfg1.N) (d : S1x8192x81.Idx → Elt F .f32) : S1x8192x81.Idx → Elt F .f32 :=
  win1_0.fill (grid1.coords t) d (sx V c t)
/-- the codes' block at point `t`. -/
def kblk (c : Dev nD) (t : Fin cfg1.N) : S1x8x8192.Idx → Elt F .f32 :=
  (win1_1.blk t).view.read (Elt F) (V c main_v3_0)
/-- The three totals as the call finds them. -/
def tot2 (c : Dev nD) (t : Fin cfg1.N) : S1x1.Idx → Elt F .f32 := (win1_2.blk t).view.read (Elt F) (V c main_v3_1)
def tot3 (c : Dev nD) (t : Fin cfg1.N) : S1x1.Idx → Elt F .f32 := (win1_3.blk t).view.read (Elt F) (V c main_v3_2)
def tot4 (c : Dev nD) (t : Fin cfg1.N) : S1x1.Idx → Elt F .f32 := (win1_4.blk t).view.read (Elt F) (V c main_v3_3)

/-- What is asked of the accumulator's predicate: it holds of the initial zero, and each point keeps it, whatever lies
    past the scores' end. -/
structure Keeps (Inv : ℕ → Vec F S1x1 .f32 → Prop) (c : Dev nD) : Prop where
  zero : Inv 0 (k1_pay3 (F := F))
  step : ∀ (t : Fin cfg1.N) (d : S1x8192x81.Idx → Elt F .f32) (a : Vec F S1x1 .f32),
    Inv t.val a → Inv (t.val + 1) (fl1 (sblk V c t d) (kblk V c t) a)

variable (Inv : ℕ → Vec F S1x1 .f32 → Prop)

/-- What the body finds and leaves beside the staging buffers before point `n`: the accumulator, meeting the predicate
    once a point has run, and the scoped buffers this call does not touch. -/
def Phi1 (c : Dev nD) (n : ℕ) : sProp 𝕄 :=
  iprop((∃ a : Vec F S1x1 .f32, ⌜0 < n → Inv n a⌝ ∗ owns (c : Thread nD τ) (Memref.whole cc1_scratch0) fullShare a)
    ∗ Pipeline.scopedRestBut (Ix := Unit) (Name := ℕ) (U := UU) (Lvl := ℕ) (Val := Elt F) spec1 c [cc1_scratch0])

/-- The pipeline's proof data: each input's buffer holds its block after the body; the result's is held to `Rel1`. -/
def dat1 (c : Dev nD) : Dat τ (Elt F) Unit ℕ UU ℕ cfg1 c where
  A w := V c (Pipeline.arrRef spec1 w)
  after w t := match w with
    | ⟨0, _⟩ => sblk V c t (fun _ => Scalar.ofBits .f32 0#32)
    | ⟨1, _⟩ => kblk V c t
    | ⟨2, _⟩ => tot2 V c t
    | ⟨3, _⟩ => tot3 V c t
    | ⟨4, _⟩ => tot4 V c t
    | ⟨5, _⟩ => fun _ => Scalar.ofBits .f32 0#32
  Φ n := Phi1 (F := F) Inv c n.val
  q _ := fullShare
  owed _ := 0

/-- The window held to a predicate: the result's. -/
def mark1 : Fin cfg1.W → Bool
  | ⟨0, _⟩ => false
  | ⟨1, _⟩ => false
  | ⟨2, _⟩ => false
  | ⟨3, _⟩ => false
  | ⟨4, _⟩ => false
  | ⟨5, _⟩ => true

/-- The predicate: at the last point the result is the loss of some accumulator that meets `Inv`. -/
def Rel1 (c : Dev nD) : (w : Fin cfg1.W) → Fin cfg1.N → ((cfg1.win w).block.Idx → Elt F (cfg1.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun t X => t.val % 24 = 23 → ∃ a, Inv 24 a ∧ X = k1_pay2 a (tot2 V c t) (tot4 V c t) (tot3 V c t)

theorem before1_0 (c : Dev nD) (t : Fin cfg1.N) (d) : (dat1 V Inv c).before (0 : Fin 6) t d = sblk V c t d := by
  unfold Dat.before; rw [if_pos (fetch1_0 t)]; rfl
theorem before1_1 (c : Dev nD) (t : Fin cfg1.N) (d) : (dat1 V Inv c).before (1 : Fin 6) t d = kblk V c t := by
  unfold Dat.before; rw [if_pos (fetch1_1 t)]; rfl
theorem before1_2 (c : Dev nD) (t : Fin cfg1.N) (d) : (dat1 V Inv c).before (2 : Fin 6) t d = tot2 V c t :=
  ((dat1 V Inv c).before_in_eq_fetched 2 rfl (fun _ => rfl) (fun _ _ _ => rfl) (fun _ => rfl) t d).trans rfl
theorem before1_3 (c : Dev nD) (t : Fin cfg1.N) (d) : (dat1 V Inv c).before (3 : Fin 6) t d = tot3 V c t :=
  ((dat1 V Inv c).before_in_eq_fetched 3 rfl (fun _ => rfl) (fun _ _ _ => rfl) (fun _ => rfl) t d).trans rfl
theorem before1_4 (c : Dev nD) (t : Fin cfg1.N) (d) : (dat1 V Inv c).before (4 : Fin 6) t d = tot4 V c t :=
  ((dat1 V Inv c).before_in_eq_fetched 4 rfl (fun _ => rfl) (fun _ _ _ => rfl) (fun _ => rfl) t d).trans rfl

/-- The two conditions of the body, by the point's number. -/
theorem cond1_1 : ∀ t : Fin cfg1.N, k1_cond1 (grid1.coords t) = 1#1 ↔ t.val = 0 :=
  (by decide +kernel : ∀ t : Fin grid1.N, k1_cond1 (grid1.coords t) = 1#1 ↔ t.val = 0)
theorem cond1_2 : ∀ t : Fin cfg1.N, k1_cond2 (grid1.coords t) = 1#1 ↔ t.val = 23 :=
  (by decide +kernel : ∀ t : Fin grid1.N, k1_cond2 (grid1.coords t) = 1#1 ↔ t.val = 23)

/-- The body's obligation at every point. -/
theorem obligation1 (c : Dev nD) (hI : Keeps V Inv c) :
    BodyObligationRel (dat1 V Inv c) (defs₀ (F := F)) 𝒱₀ () Set.univ mark1 (Rel1 V Inv c) := fun t => by
  rw [bigSep_W1, bigSep_W1]
  simp only [mark1]
  rw [show (dat1 V Inv c).Φ t.castSucc = Phi1 Inv c t.val from rfl, show (dat1 V Inv c).Φ t.succ = Phi1 Inv c (t.val + 1) from rfl,
    show (dat1 V Inv c).owesAt () t.succ = (dat1 V Inv c).owesAt () t.castSucc from rfl]
  unfold Phi1
  have hx : win1_0.cut (grid1.coords t) (sblk V c t fun _ => Scalar.ofBits .f32 0#32) = sx V c t := win1_0.cut_fill _ _ _
  iintro ⟨⟨⟨%a, %ha, Ha⟩, Hr⟩, Ho, ⟨%d0, H0⟩, ⟨%d1, H1⟩, ⟨%d2, H2⟩, ⟨%d3, H3⟩, ⟨%d4, H4⟩, ⟨%Y, -, H5⟩⟩
  rw [before1_0 V Inv c t d0, before1_1 V Inv c t d1, before1_2 V Inv c t d2, before1_3 V Inv c t d3, before1_4 V Inv c t d4]
  by_cases h0 : t.val = 0
  · have hA : k1_cond1 (grid1.coords t) = 1#1 := (cond1_1 t).mpr h0
    have hZ : ¬ k1_cond2 (grid1.coords t) = 1#1 := fun h => by have := (cond1_2 t).mp h; omega
    have hs := hI.step t d0 (k1_pay3 (F := F)) (h0 ▸ hI.zero)
    iapply (body1_first (F := F) c Set.univ (grid1.coords t) (win1_0.stage (cfg1.slots t 0)) _ (win1_1.stage (cfg1.slots t 1)) _
      (win1_2.stage (cfg1.slots t 2)) _ (win1_3.stage (cfg1.slots t 3)) _ (win1_4.stage (cfg1.slots t 4)) _
      (win1_5.stage (cfg1.slots t 5)) _ (Memref.whole cc1_scratch0) _ (sblk V c t d0) (kblk V c t) a hA hZ _)
    isplitl [H0]; · iexact H0
    isplitl [H1]; · iexact H1
    isplitl [Ha]; · iexact Ha
    iintro ⟨H0, H1, Ha⟩
    isplitl [Ha Hr]
    · isplitr [Hr]
      · iexists _; isplitr; swap; (· iexact Ha)
        ipureintro; exact fun _ => hs
      · iexact Hr
    isplitl [Ho]; · iexact Ho
    isplitl [H0]
    · iexists d0
      change _ ⊢ owns (c : Thread nD τ) (stage1_0 (cfg1.slots t 0)) fullShare (win1_0.fill (grid1.coords t) d0 (win1_0.cut (grid1.coords t) (sblk V c t fun _ => Scalar.ofBits .f32 0#32)))
      rw [hx]; exact .rfl
    isplitl [H1]; · iexact H1
    isplitl [H2]; · iexact H2
    isplitl [H3]; · iexact H3
    isplitl [H4]; · iexact H4
    iexists Y; isplitr; · ipureintro; intro h; omega
    iexact H5
  · have hA : ¬ k1_cond1 (grid1.coords t) = 1#1 := fun h => h0 ((cond1_1 t).mp h)
    have hs := hI.step t d0 a (ha (Nat.pos_of_ne_zero h0))
    have hlt : t.val < 24 := N_1 ▸ t.isLt
    by_cases h1 : t.val = 23
    · have hZ : k1_cond2 (grid1.coords t) = 1#1 := (cond1_2 t).mpr h1
      iapply (body1_last (F := F) c Set.univ (grid1.coords t) (win1_0.stage (cfg1.slots t 0)) _ (win1_1.stage (cfg1.slots t 1)) _
        (win1_2.stage (cfg1.slots t 2)) _ (win1_3.stage (cfg1.slots t 3)) _ (win1_4.stage (cfg1.slots t 4)) _
        (win1_5.stage (cfg1.slots t 5)) _ (Memref.whole cc1_scratch0) _ (sblk V c t d0) (kblk V c t) (tot2 V c t) (tot3 V c t) (tot4 V c t) Y a hA hZ _)
      isplitl [H0]; · iexact H0
      isplitl [H1]; · iexact H1
      isplitl [H2]; · iexact H2
      isplitl [H3]; · iexact H3
      isplitl [H4]; · iexact H4
      isplitl [H5]; · iexact H5
      isplitl [Ha]; · iexact Ha
      iintro ⟨H0, H1, H2, H3, H4, H5, Ha⟩
      isplitl [Ha Hr]
      · isplitr [Hr]
        · iexists _; isplitr; swap; (· iexact Ha)
          ipureintro; exact fun _ => hs
        · iexact Hr
      isplitl [Ho]; · iexact Ho
      isplitl [H0]
      · iexists d0
        change _ ⊢ owns (c : Thread nD τ) (stage1_0 (cfg1.slots t 0)) fullShare (win1_0.fill (grid1.coords t) d0 (win1_0.cut (grid1.coords t) (sblk V c t fun _ => Scalar.ofBits .f32 0#32)))
        rw [hx]; exact .rfl
      isplitl [H1]; · iexact H1
      isplitl [H2]; · iexact H2
      isplitl [H3]; · iexact H3
      isplitl [H4]; · iexact H4
      iexists _; isplitr; swap; (· iexact H5)
      ipureintro; exact fun _ => ⟨_, by rw [h1] at hs; exact hs, rfl⟩
    · have hZ : ¬ k1_cond2 (grid1.coords t) = 1#1 := fun h => h1 ((cond1_2 t).mp h)
      iapply (body1_mid (F := F) c Set.univ (grid1.coords t) (win1_0.stage (cfg1.slots t 0)) _ (win1_1.stage (cfg1.slots t 1)) _
        (win1_2.stage (cfg1.slots t 2)) _ (win1_3.stage (cfg1.slots t 3)) _ (win1_4.stage (cfg1.slots t 4)) _
        (win1_5.stage (cfg1.slots t 5)) _ (Memref.whole cc1_scratch0) _ (sblk V c t d0) (kblk V c t) a hA hZ _)
      isplitl [H0]; · iexact H0
      isplitl [H1]; · iexact H1
      isplitl [Ha]; · iexact Ha
      iintro ⟨H0, H1, Ha⟩
      isplitl [Ha Hr]
      · isplitr [Hr]
        · iexists _; isplitr; swap; (· iexact Ha)
          ipureintro; exact fun _ => hs
        · iexact Hr
      isplitl [Ho]; · iexact Ho
      isplitl [H0]
      · iexists d0
        change _ ⊢ owns (c : Thread nD τ) (stage1_0 (cfg1.slots t 0)) fullShare (win1_0.fill (grid1.coords t) d0 (win1_0.cut (grid1.coords t) (sblk V c t fun _ => Scalar.ofBits .f32 0#32)))
        rw [hx]; exact .rfl
      isplitl [H1]; · iexact H1
      isplitl [H2]; · iexact H2
      isplitl [H3]; · iexact H3
      isplitl [H4]; · iexact H4
      iexists Y; isplitr; · ipureintro; intro h; omega
      iexact H5

end Cert.Proof

end
-- ==== Proof.Calls.lean ====
/-
  The two Pallas calls as segments of the program. Between two items a core holds every unscoped buffer whole at known
  contents; the first call leaves the codes and the three totals its proof data compute, the second leaves a loss of
  which the predicate on its accumulator is known.
-/
module

public import proofs.«01_k».proof.Proof.R0
public import proofs.«01_k».proof.Proof.R1
public import Idealize.ShloMosaic.Lib.Pipeline.Regions
public import Idealize.ShloMosaic.Lib.Pipeline.RegionsLoop
public import Idealize.ShloMosaic.Lib.Pipeline.RegionsOwned

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat RDat)

variable (m : (ℓ : Loc nD τ sig) → Buf (Elt F) ℓ)

/-- Core `c`'s buffers where the first call is entered, -/
abbrev W1 (c : Dev nD) (b : Ref sig .tc) : Buf (Elt F) ((c : Thread nD τ).loc b) := V1 m c b

/-- and after it: the codes and the totals it leaves, all else unchanged. -/
abbrev U2 (c : Dev nD) : Valuation τ sig (Elt F) :=
  Function.update (Function.update (Function.update (Function.update (V1 m c) main_v3_0 ((dat0 (W1 m) c).arrAt 4 48))
    main_v3_1 ((dat0 (W1 m) c).arrAt 5 48)) main_v3_2 ((dat0 (W1 m) c).arrAt 6 48)) main_v3_3 ((dat0 (W1 m) c).arrAt 7 48)

/-- The same, by reference. -/
abbrev W2 (c : Dev nD) (b : Ref sig .tc) : Buf (Elt F) ((c : Thread nD τ).loc b) := U2 m c b

theorem U2_of (c : Dev nD) (r : Ref sig .tc) (h0 : r ≠ main_v3_0) (h1 : r ≠ main_v3_1) (h2 : r ≠ main_v3_2) (h3 : r ≠ main_v3_3) :
    U2 m c r = V1 m c r := by
  unfold U2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

theorem U2_code (c : Dev nD) : U2 m c main_v3_0 = (dat0 (W1 m) c).arrAt 4 48 := by
  unfold U2
  rw [Function.update_of_ne (StableHlo.devRef_ne_of_ne (by decide)), Function.update_of_ne (StableHlo.devRef_ne_of_ne (by decide)),
    Function.update_of_ne (StableHlo.devRef_ne_of_ne (by decide)), Function.update_self]

theorem U2_sm (c : Dev nD) : U2 m c main_v3_1 = (dat0 (W1 m) c).arrAt 5 48 := by
  unfold U2
  rw [Function.update_of_ne (StableHlo.devRef_ne_of_ne (by decide)), Function.update_of_ne (StableHlo.devRef_ne_of_ne (by decide)),
    Function.update_self]

theorem U2_sp (c : Dev nD) : U2 m c main_v3_2 = (dat0 (W1 m) c).arrAt 6 48 := by
  unfold U2
  rw [Function.update_of_ne (StableHlo.devRef_ne_of_ne (by decide)), Function.update_self]

theorem U2_sd (c : Dev nD) : U2 m c main_v3_3 = (dat0 (W1 m) c).arrAt 7 48 := by
  unfold U2
  rw [Function.update_self]

variable (Inv : (c : Dev nD) → ℕ → Vec F S1x1 .f32 → Prop)

/-- The two pipelines' exact data. -/
abbrev dats : (p : Fin 2) → (c : Dev nD) → Dat τ (Elt F) Unit ℕ UU ℕ (cfgs p) c
  | ⟨0, _⟩, c => dat0 (W1 m) c
  | ⟨1, _⟩, c => dat1 (W2 m) (Inv c) c

/-- The data the program is run with: the second call's result held to a predicate. -/
abbrev rdats : (p : Fin 2) → (c : Dev nD) → RDat τ (Elt F) Unit ℕ UU ℕ (cfgs p) c
  | ⟨0, _⟩, c => (dat0 (W1 m) c).toR
  | ⟨1, _⟩, c => (dat1 (W2 m) (Inv c) c).toRRel mark1 (Rel1 (W2 m) (Inv c) c)

/-- No level is used, -/
abbrev L : GSem nD τ sig → Finset Unit := fun _ => ∅
abbrev lv : GSem nD τ sig → Unit → ℕ := fun _ _ => 0

/-- and a core owes nothing. -/
abbrev idle (c : Dev nD) : sProp 𝕄 := iprop(∃ W, owes (c : Thread nD τ) (0 : CellTallies nD τ sig Unit) W)

/-- The separating conjunction, as the proof mode spells it. -/
theorem sep_spelt (P Q : sProp 𝕄) : BI.sep P Q = iprop(P ∗ Q) := rfl

/-- The scratch with the rest of the scoped buffers is what the first call's body finds at the first point, -/
theorem scoped0_in (V : (c : Dev nD) → (b : Ref sig .tc) → Buf (Elt F) ((c : Thread nD τ).loc b)) (c : Dev nD) :
    (Pipeline.scopedRest (Ix := Unit) (Name := ℕ) (U := UU) (Lvl := ℕ) (Val := Elt F) spec0 c : sProp 𝕄) ⊢ Phi0 V c 0 := by
  rw [Pipeline.scopedRest_split_of_list spec0 c scr0 (by decide) (by decide)]
  unfold Phi0 held0
  simp only [scr0, bigSepL_cons, bigSepL_nil, owns_whole, sep_spelt]
  iintro ⟨⟨⟨%f0, H0⟩, ⟨%f1, H1⟩, ⟨%f2, H2⟩, ⟨%f3, H3⟩, ⟨%f4, H4⟩, ⟨%f5, H5⟩, ⟨%f6, H6⟩, -⟩, Hr⟩
  isplitr [Hr]
  · iexists f0; iexists f1; iexists f2; iexists f3; iexists f4; iexists f5; iexists f6
    isplitr
    · ipureintro
      exact ⟨fun h => absurd h (by decide), fun h => absurd h (by decide), fun j _ h => absurd h (Nat.not_lt_zero j)⟩
    isplitl [H0]; · iexact H0
    isplitl [H1]; · iexact H1
    isplitl [H2]; · iexact H2
    isplitl [H3]; · iexact H3
    isplitl [H4]; · iexact H4
    isplitl [H5]; · iexact H5
    iexact H6
  iexact Hr

/-- and is what any point leaves. -/
theorem scoped0_out (V : (c : Dev nD) → (b : Ref sig .tc) → Buf (Elt F) ((c : Thread nD τ).loc b)) (c : Dev nD) (n : ℕ) :
    (Phi0 V c n : sProp 𝕄) ⊢ Pipeline.scopedRest (Ix := Unit) (Name := ℕ) (U := UU) (Lvl := ℕ) (Val := Elt F) spec0 c := by
  rw [Pipeline.scopedRest_split_of_list spec0 c scr0 (by decide) (by decide)]
  unfold Phi0 held0
  simp only [scr0, bigSepL_cons, bigSepL_nil, owns_whole, sep_spelt]
  iintro ⟨⟨%f0, %f1, %f2, %f3, %f4, %f5, %f6, -, H0, H1, H2, H3, H4, H5, H6⟩, Hr⟩
  isplitr [Hr]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    iempintro
  iexact Hr

/-- The second call's scratch likewise: its accumulator. -/
theorem scoped1_in (V : (c : Dev nD) → (b : Ref sig .tc) → Buf (Elt F) ((c : Thread nD τ).loc b)) (I : ℕ → Vec F S1x1 .f32 → Prop) (c : Dev nD) :
    (Pipeline.scopedRest (Ix := Unit) (Name := ℕ) (U := UU) (Lvl := ℕ) (Val := Elt F) spec1 c : sProp 𝕄) ⊢ Phi1 I c 0 := by
  rw [Pipeline.scopedRest_split_of_list spec1 c [cc1_scratch0] (by decide) (by decide)]
  unfold Phi1
  simp only [bigSepL_cons, bigSepL_nil, owns_whole, sep_spelt]
  iintro ⟨⟨⟨%f0, H0⟩, -⟩, Hr⟩
  isplitl [H0]
  · iexists f0
    isplitr; · ipureintro; exact fun h => absurd h (by decide)
    iexact H0
  iexact Hr

theorem scoped1_out (I : ℕ → Vec F S1x1 .f32 → Prop) (c : Dev nD) (n : ℕ) :
    (Phi1 I c n : sProp 𝕄) ⊢ Pipeline.scopedRest (Ix := Unit) (Name := ℕ) (U := UU) (Lvl := ℕ) (Val := Elt F) spec1 c := by
  rw [Pipeline.scopedRest_split_of_list spec1 c [cc1_scratch0] (by decide) (by decide)]
  unfold Phi1
  simp only [bigSepL_cons, bigSepL_nil, owns_whole, sep_spelt]
  iintro ⟨⟨%f0, -, H0⟩, Hr⟩
  isplitl [H0]
  · isplitl [H0]; · iexists f0; iexact H0
    iempintro
  iexact Hr

/-- The second call's result: some accumulator that meets the predicate, turned into the loss by the totals. -/
def Loss (c : Dev nD) (X : Buf (Elt F) ((c : Thread nD τ).loc main_v4)) : Prop :=
  ∃ a, Inv c 24 a ∧ X = k1_pay2 a (tot2 (W2 m) c ⟨23, by decide⟩) (tot4 (W2 m) c ⟨23, by decide⟩) (tot3 (W2 m) c ⟨23, by decide⟩)

/-- Core `c`'s buffers after the second call, its result being `X`. -/
abbrev U3 (c : Dev nD) (X : { X // Loss m Inv c X }) : Valuation τ sig (Elt F) := Function.update (U2 m c) main_v4 X.1

/-- The same, by reference. -/
abbrev W3 (c : Dev nD) (X : { X // Loss m Inv c X }) (b : Ref sig .tc) : Buf (Elt F) ((c : Thread nD τ).loc b) := U3 m Inv c X b

theorem U3_of (c : Dev nD) (X : { X // Loss m Inv c X }) (r : Ref sig .tc) (h : r ≠ main_v4) : U3 m Inv c X r = U2 m c r := by
  unfold U3; rw [Function.update_of_ne (StableHlo.devRef_ne_of_ne h)]

theorem U3_out (c : Dev nD) (X : { X // Loss m Inv c X }) : U3 m Inv c X main_v4 = X.1 := by
  unfold U3; rw [Function.update_self]

/-- A `1×1` array has one index. -/
theorem one_eq (i j : S1x1.Idx) : i = j := by
  funext a
  fin_cases a <;> exact Subsingleton.elim (α := Fin 1) _ _

/-- An array that meets what the data say of it after the call is the loss. -/
theorem loss_of_arrAt (c : Dev nD) (X : Buf (Elt F) ((c : Thread nD τ).loc main_v4))
    (h : ((dat1 (W2 m) (Inv c) c).toRRel mark1 (Rel1 (W2 m) (Inv c) c)).ArrAt (5 : Fin 6) cfg1.N X) : Loss m Inv c X := by
  have e := congrFun (RDat.ArrAt_succ ((dat1 (W2 m) (Inv c) c).toRRel mark1 (Rel1 (W2 m) (Inv c) c)) (5 : Fin 6) (⟨23, by decide⟩ : Fin cfg1.N)) X
  rw [if_pos (by decide +kernel)] at e
  obtain ⟨G, Y, -, hY, rfl⟩ := e.mp h
  obtain ⟨a, ha, hYa⟩ := (dat1 (W2 m) (Inv c) c).toRRel_leaves rfl hY rfl
  refine ⟨a, ha, ?_⟩
  rw [← hYa]
  funext i
  have hx : (((cfg1.win (5 : Fin 6)).blk (⟨23, by decide⟩ : Fin cfg1.N)).view.emb
      (fun a => ⟨0, by fin_cases a <;> decide⟩ : S1x1.Idx)) = i := one_eq _ _
  conv_lhs => rw [← hx]
  rw [View.write_emb_of_mem _ _ (Finset.mem_univ _)]
  exact congrArg Y (one_eq _ _)

set_option backward.isDefEq.respectTransparency.types false in
/-- The first call. -/
def reg0 : RDat.RegionSeg (pcfgs (F := F)) adm (rdats m Inv) () defs₀ 𝒱₀ L lv 0 where
  win := launch0.win.to₀
  block_pos := launch0.block_pos
  stage_whole := launch0.stage_whole
  K := PEmpty
  osem k := k.elim
  ho := Pipeline.OwnSemFacts.none _
  hbody c := (obligation0 (W1 m) c).toR
  hwaits := RDat.hwaits_of_owed_zero _ _ _ _ L lv 0 fun _ _ => rfl
  pre c := iprop(unscopedBufs c (W1 m c) ∗ idle c)
  post c := iprop(unscopedBufs c (W2 m c) ∗ idle c)
  X _ := BI.emp
  Y _ := BI.emp
  Z c := Pipeline.unscopedRest (Ix := Unit) (Name := ℕ) (U := UU) (Lvl := ℕ) spec0 c (W1 m c)
  hentry c := by
    rw [Pipeline.ownSems0_none]
    have hsplit := Pipeline.arrays_of_unscopedBufs (p := 0) (pcfgs (F := F)) adm (dats m Inv) launch0.win launch0.arr_whole c
      ((dats m Inv 0 c).share_full fun _ => rfl) (W1 m c) fun _ => rfl
    iintro ⟨⟨Hub, HO⟩, -, -⟩
    ihave H := hsplit $$ Hub
    icases H with ⟨Ha, Hrest⟩
    imodintro
    isplitl [Ha]
    · iapply (show (dats m Inv 0 c).arrays ((dats m Inv 0 c).arrAt · 0) ⊢ ((rdats m Inv 0 c).arrays (rdats m Inv 0 c).A : sProp 𝕄) from .rfl); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m Inv 0 c).Φ 0 = Phi0 (W1 m) c 0 from rfl]
    exact (show _ ⊢ _ by iintro ⟨-, -, H⟩; iexact H).trans (scoped0_in (W1 m) c)
  hout c := by
    rw [Pipeline.ownSems0_none, show (rdats m Inv 0 c).Φ (Fin.last _) = Phi0 (W1 m) c 48 from rfl]
    refine (scoped0_out (W1 m) c 48).trans ?_
    iintro H
    isplitr; · iempintro
    isplitr; · iempintro
    iexact H
  hexit c := by
    have hjoin := Pipeline.unscopedBufs_of_arrays (p := 0) (pcfgs (F := F)) adm (Ix := Unit) (Name := ℕ) (U := UU) (Lvl := ℕ) launch0.win launch0.arr_whole c
      (dats m Inv) ((dats m Inv 0 c).share_full fun _ => rfl) (W1 m c) (W2 m c) ((dats m Inv 0 c).arrAt · cfg0.N)
      (fun w => by
        fin_cases w
        · exact ((dats m Inv 0 c).arrAt_in 0 rfl _).trans (U2_of m c main_v0 (by decide) (by decide) (by decide) (by decide)).symm
        · exact ((dats m Inv 0 c).arrAt_in 1 rfl _).trans (U2_of m c main_arg2 (by decide) (by decide) (by decide) (by decide)).symm
        · exact ((dats m Inv 0 c).arrAt_in 2 rfl _).trans (U2_of m c main_v1 (by decide) (by decide) (by decide) (by decide)).symm
        · exact ((dats m Inv 0 c).arrAt_in 3 rfl _).trans (U2_of m c main_v2 (by decide) (by decide) (by decide) (by decide)).symm
        · exact (U2_code m c).symm
        · exact (U2_sm m c).symm
        · exact (U2_sp m c).symm
        · exact (U2_sd m c).symm)
      (fun b hb => U2_of m c b (fun h => hb (h ▸ Finset.mem_image.mpr ⟨4, Finset.mem_univ _, rfl⟩)) (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    refine (sep_mono (Entails.of_eq ((dats m Inv 0 c).toR_arraysAt_eq cfg0.N)) .rfl).trans ?_
    iintro ⟨Ha, HO, -, Hrest⟩
    imodintro
    isplitl [Ha Hrest]
    · iapply hjoin; isplitl [Ha] <;> iassumption
    unfold Pipeline.RDat.owesAt Pipeline.owesWithin
    icases HO with ⟨%W, -, HO⟩; iexists W; iexact HO

set_option backward.isDefEq.respectTransparency.types false in
/-- The second call. -/
def reg1 (hI : ∀ c, Keeps (W2 m) (Inv c) c) : RDat.RegionSeg (pcfgs (F := F)) adm (rdats m Inv) () defs₀ 𝒱₀ L lv 1 where
  win := launch1.win.to₀
  block_pos := launch1.block_pos
  stage_whole := launch1.stage_whole
  K := PEmpty
  osem k := k.elim
  ho := Pipeline.OwnSemFacts.none _
  hbody c := (obligation1 (W2 m) (Inv c) c (hI c)).toRRel
  hwaits := RDat.hwaits_of_owed_zero _ _ _ _ L lv 1 fun _ _ => rfl
  pre c := iprop(unscopedBufs c (W2 m c) ∗ idle c)
  post c := iprop((∃ X, unscopedBufs c (W3 m Inv c X)) ∗ idle c)
  X _ := BI.emp
  Y _ := BI.emp
  Z c := Pipeline.unscopedRest (Ix := Unit) (Name := ℕ) (U := UU) (Lvl := ℕ) spec1 c (W2 m c)
  hentry c := by
    rw [Pipeline.ownSems0_none]
    have hsplit := Pipeline.arrays_of_unscopedBufs (p := 1) (pcfgs (F := F)) adm (dats m Inv) launch1.win launch1.arr_whole c
      ((dats m Inv 1 c).share_full fun _ => rfl) (W2 m c) fun _ => rfl
    iintro ⟨⟨Hub, HO⟩, -, -⟩
    ihave H := hsplit $$ Hub
    icases H with ⟨Ha, Hrest⟩
    imodintro
    isplitl [Ha]
    · iapply (show (dats m Inv 1 c).arrays ((dats m Inv 1 c).arrAt · 0) ⊢ ((rdats m Inv 1 c).arrays (rdats m Inv 1 c).A : sProp 𝕄) from .rfl); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m Inv 1 c).Φ 0 = Phi1 (Inv c) c 0 from rfl]
    exact (show _ ⊢ _ by iintro ⟨-, -, H⟩; iexact H).trans (scoped1_in (W2 m) (Inv c) c)
  hout c := by
    rw [Pipeline.ownSems0_none, show (rdats m Inv 1 c).Φ (Fin.last _) = Phi1 (Inv c) c 24 from rfl]
    refine (scoped1_out (Inv c) c 24).trans ?_
    iintro H
    isplitr; · iempintro
    isplitr; · iempintro
    iexact H
  hexit c := by
    have hopen : ((rdats m Inv 1 c).arraysAt cfg1.N : sProp 𝕄)
        ⊢ iprop(∃ A, ⌜∀ w, (rdats m Inv 1 c).ArrAt w cfg1.N (A w)⌝ ∗ (dats m Inv 1 c).arrays A) := by
      unfold RDat.arraysAt
      iintro Ha
      ihave Ha' := (BI.bigSep_exists_pi Finset.univ (fun w G => iprop(⌜(rdats m Inv 1 c).ArrAt w cfg1.N G⌝
        ∗ (cfg1.win w).arr.view.loc (c.tc : Thread nD τ) ↦[(cfg1.win w).arr.view.set]{(rdats m Inv 1 c).share w} G))) $$ Ha
      icases Ha' with ⟨%A, Ha⟩
      ihave Ha2 := (BI.bigSep_pure_sep Finset.univ (fun w => (rdats m Inv 1 c).ArrAt w cfg1.N (A w))
        (fun w => (cfg1.win w).arr.view.loc (c.tc : Thread nD τ) ↦[(cfg1.win w).arr.view.set]{(rdats m Inv 1 c).share w} A w)) $$ Ha
      icases Ha2 with ⟨%hA, Ha⟩
      iexists A; isplitr; · ipureintro; exact fun w => hA w (Finset.mem_univ w)
      unfold Dat.arrays
      iexact Ha
    have hin : ∀ (w : Fin cfg1.W) (h : (cfg1.win w).isOut = false) (G), (rdats m Inv 1 c).ArrAt w cfg1.N G → G = (dats m Inv 1 c).A w :=
      fun w h G hG => by rw [RDat.ArrAt_in _ w h] at hG; exact hG
    refine (sep_mono hopen .rfl).trans ?_
    iintro ⟨⟨%A, %hA, Ha⟩, HO, -, Hrest⟩
    have hX := loss_of_arrAt m Inv c (A (5 : Fin 6)) (hA (5 : Fin 6))
    have hjoin := Pipeline.unscopedBufs_of_arrays (p := 1) (pcfgs (F := F)) adm (Ix := Unit) (Name := ℕ) (U := UU) (Lvl := ℕ) launch1.win launch1.arr_whole c
      (dats m Inv) ((dats m Inv 1 c).share_full fun _ => rfl) (W2 m c) (W3 m Inv c ⟨_, hX⟩) A
      (fun w => by
        fin_cases w
        · exact (hin 0 rfl _ (hA 0)).trans (U3_of m Inv c _ main_arg1 (by decide)).symm
        · exact (hin 1 rfl _ (hA 1)).trans (U3_of m Inv c _ main_v3_0 (by decide)).symm
        · exact (hin 2 rfl _ (hA 2)).trans (U3_of m Inv c _ main_v3_1 (by decide)).symm
        · exact (hin 3 rfl _ (hA 3)).trans (U3_of m Inv c _ main_v3_2 (by decide)).symm
        · exact (hin 4 rfl _ (hA 4)).trans (U3_of m Inv c _ main_v3_3 (by decide)).symm
        · exact (U3_out m Inv c ⟨_, hX⟩).symm)
      (fun b hb => U3_of m Inv c _ b (fun h => hb (h ▸ Finset.mem_image.mpr ⟨5, Finset.mem_univ _, rfl⟩)))
    imodintro
    isplitl [Ha Hrest]
    · iexists (⟨_, hX⟩ : { X // Loss m Inv c X })
      iapply hjoin; isplitl [Ha] <;> iassumption
    unfold Pipeline.RDat.owesAt Pipeline.owesWithin
    icases HO with ⟨%W, -, HO⟩; iexists W; iexact HO

end Cert.Proof

end
-- ==== Proof.Run.lean ====
/-
  The whole program's run: the host's operations and the two Pallas calls in turn, from any memory. At the end the
  arguments are as launched, every semaphore is at zero, and the result is a loss of which the accumulator's predicate
  is known.
-/
module

public import proofs.«01_k».proof.Proof.Calls

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (RDat HostSeg)

variable (m : (ℓ : Loc nD τ sig) → Buf (Elt F) ℓ) (Inv : (c : Dev nD) → ℕ → Vec F S1x1 .f32 → Prop)

/-- The operations before the calls, -/
def host0 : HostSeg (Ix := Unit) (Name := ℕ) (U := UU) (Lvl := ℕ) (pcfgs (F := F)) defs₀ 𝒱₀ L lv :=
  seg0 m 𝒱₀ L lv fun _ c => idle c

/-- and those after them, from whatever loss the second call leaves. -/
def host2 : HostSeg (Ix := Unit) (Name := ℕ) (U := UU) (Lvl := ℕ) (pcfgs (F := F)) defs₀ 𝒱₀ L lv :=
  HostSeg.ofOpsEx _ _ _ _ _ (Γ := fun c => { X // Loss m Inv c X }) (Pipeline.ucRefs τ sig) hostOps2
    (fun op h => Pipeline.sub_ucRefs op ((List.forall_iff_forall_mem.mp hostOps2_sub) op h))
    (fun op h => (List.forall_iff_forall_mem.mp hostOps2_fresh) op h) (U3 m Inv) idle

/-- The program's items. -/
abbrev items (hI : ∀ c, Keeps (W2 m) (Inv c) c) (_ : Dev nD) : List (RDat.Seg (pcfgs (F := F)) adm (rdats m Inv) () defs₀ 𝒱₀ L lv) :=
  [.host (host0 m), .region (reg0 m Inv), .region (reg1 m Inv hI), .host (host2 m Inv)]

/-- A core's buffers at the end. -/
abbrev U4 (c : Dev nD) (X : { X // Loss m Inv c X }) : Valuation τ sig (Elt F) := StableHlo.after hostOps2 (U3 m Inv c X)

theorem U4_arg (c : Dev nD) (X : { X // Loss m Inv c X }) (r : Ref sig .tc) (h : r ∉ hostOps2_W) (h4 : r ≠ main_v4)
    (h0 : r ≠ main_v3_0) (h1 : r ≠ main_v3_1) (h2 : r ≠ main_v3_2) (h3 : r ≠ main_v3_3) (h' : r ∉ hostOps0_W) :
    U4 m Inv c X r = m ((c : Thread nD τ).loc r) :=
  (StableHlo.after_of_writes_sub hostOps2 _ hostOps2_writes h).trans <| (U3_of m Inv c X r h4).trans <|
    (U2_of m c r h0 h1 h2 h3).trans <| (V1_of m c r h').trans rfl

theorem mem_uc (r : Ref sig .tc) (h : r.isScoped = false) : Proc.devRef .tc r ∈ Pipeline.ucRefs τ sig :=
  Finset.mem_filter.mpr ⟨StableHlo.devRef_mem_tcRefs r, by simpa using h⟩

/-- What is known of core `c`'s memory at the end. -/
structure Ends (c : Dev nD) (s : MemSt nD τ sig (Elt F)) : Prop where
  arg0 : s.mem ((c.tc : Thread nD τ).loc main_arg0) = m ((c.tc : Thread nD τ).loc main_arg0)
  arg1 : s.mem ((c.tc : Thread nD τ).loc main_arg1) = m ((c.tc : Thread nD τ).loc main_arg1)
  arg2 : s.mem ((c.tc : Thread nD τ).loc main_arg2) = m ((c.tc : Thread nD τ).loc main_arg2)
  arg3 : s.mem ((c.tc : Thread nD τ).loc main_arg3) = m ((c.tc : Thread nD τ).loc main_arg3)
  arg4 : s.mem ((c.tc : Thread nD τ).loc main_arg4) = m ((c.tc : Thread nD τ).loc main_arg4)
  out : ∃ X, s.mem ((c.tc : Thread nD τ).loc main_v5) = U4 m Inv c X main_v5

set_option backward.isDefEq.respectTransparency.types false in
/-- Every execution ends so. -/
theorem run (ρ : Dev nD → PrngReg) (hI : ∀ c, Keeps (W2 m) (Inv c) c) :
    θ_run defs (onTc (τ := τ) (main (F := F))) ⟨m, fun _ => 0, ρ⟩ (fun r => (∀ c, Ends m Inv c r.2) ∧ r.2.sem = fun _ => 0) := by
  refine RDat.θ_run_regions_kit_dev_sems (pcfgs (F := F)) adm (rdats m Inv) () cellOf_inj EP defs₀ 𝒱₀ L lv m ρ main
    (items m Inv hI)
    (fun c Q => by
      rewrite [main_chain c, RDat.Seg.run_eq_chain,
        show (items m Inv hI c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ idle c))
    (Tₙ := fun c => iprop(∃ X, StableHlo.held (c : Thread nD τ) (Pipeline.ucRefs τ sig) (U4 m Inv c X)))
    (hch := fun c => ⟨.rfl, ?_, .rfl, ?_, .rfl⟩)
    (hinit := ?_) (QY := Ends m Inv)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V1 m c) ∗ idle c) ⊢ iprop(unscopedBufs c (W1 m c) ∗ idle c)
    exact sep_mono (Entails.of_eq (Pipeline.unscopedBufs_held c (V1 m c)).symm) .rfl
  · show iprop((∃ X, unscopedBufs c (W3 m Inv c X)) ∗ idle c) ⊢ iprop((∃ X, StableHlo.held (c : Thread nD τ) (Pipeline.ucRefs τ sig) (U3 m Inv c X)) ∗ idle c)
    refine sep_mono ?_ .rfl
    iintro ⟨%X, H⟩
    iexists X
    iapply (Entails.of_eq (Pipeline.unscopedBufs_held c (U3 m Inv c X)))
    iexact H
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨⟨%X, Hh⟩, HSI⟩
    ihave Hr := (pointsTo_read_all (Pipeline.ucRefs τ sig) (fun b => ((c : Thread nD τ).1, b)) (U4 m Inv c X) s') $$ [Hh HSI]
    · isplitl [Hh] <;> iassumption
    icases Hr with ⟨%h, HSI⟩
    imodintro
    isplitr
    · ipureintro
      have harg := fun (r : Ref sig .tc) (hs : r.isScoped = false) => h (Proc.devRef .tc r) (mem_uc r hs)
      exact ⟨(harg main_arg0 (by decide)).trans (U4_arg m Inv c X _ (by decide) (by decide) (by decide) (by decide) (by decide) (by decide) (by decide)),
        (harg main_arg1 (by decide)).trans (U4_arg m Inv c X _ (by decide) (by decide) (by decide) (by decide) (by decide) (by decide) (by decide)),
        (harg main_arg2 (by decide)).trans (U4_arg m Inv c X _ (by decide) (by decide) (by decide) (by decide) (by decide) (by decide) (by decide)),
        (harg main_arg3 (by decide)).trans (U4_arg m Inv c X _ (by decide) (by decide) (by decide) (by decide) (by decide) (by decide) (by decide)),
        (harg main_arg4 (by decide)).trans (U4_arg m Inv c X _ (by decide) (by decide) (by decide) (by decide) (by decide) (by decide) (by decide)),
        X, harg main_v5 (by decide)⟩
    · iexact HSI

end Cert.Proof

end
-- ==== Proof.SameProgram.lean ====
/-
  The printed kernel and the kernel with its constant named are, at the machine's floats, one program: a name is read
  there as the printed bits. A frame of the second is so a frame of the first.
-/
module

public import proofs.«01_k».proof.Proof.Gen.Kernel
public import proofs.«01_k».proof.Proof.Gen.KernelIdeal
public import proofs.«01_k».proof.Defs

@[expose] public section

set_option maxRecDepth 65536

noncomputable section

namespace Cert.Proof

open Idealize.ShloMosaic Idealize.SL.Sem

/-- Named constants at the machine instance: the printed bits. -/
instance namedBits : Named Bits where
  named _ _ {φ} bits := Scalar.ofBits φ bits

set_option backward.isDefEq.respectTransparency.types false in
/-- The two programs declare the same buffers, -/
theorem sig_eq : Cert.Kernel.sig = Cert.KernelIdeal.sig := rfl

set_option backward.isDefEq.respectTransparency.types false in
/-- and the same host program. -/
theorem main_eq : Cert.Kernel.main (F := Bits) = Cert.KernelIdeal.main (F := Bits) := rfl

set_option maxHeartbeats 0 in
set_option backward.isDefEq.respectTransparency.types false in
/-- Part 1 of the first body. -/
theorem p1 : Cert.Kernel.k0_part1 (F := Bits) = Cert.KernelIdeal.k0_part1 (F := Bits) := rfl
set_option maxHeartbeats 0 in
set_option backward.isDefEq.respectTransparency.types false in
/-- Part 2 of the first body. -/
theorem p2 : Cert.Kernel.k0_part2 (F := Bits) = Cert.KernelIdeal.k0_part2 (F := Bits) := rfl
set_option maxHeartbeats 0 in
set_option backward.isDefEq.respectTransparency.types false in
/-- Part 3 of the first body. -/
theorem p3 : Cert.Kernel.k0_part3 (F := Bits) = Cert.KernelIdeal.k0_part3 (F := Bits) := rfl
set_option maxHeartbeats 0 in
set_option backward.isDefEq.respectTransparency.types false in
/-- Part 4 of the first body. -/
theorem p4 : Cert.Kernel.k0_part4 (F := Bits) = Cert.KernelIdeal.k0_part4 (F := Bits) := rfl
set_option maxHeartbeats 0 in
set_option backward.isDefEq.respectTransparency.types false in
/-- Part 5 of the first body. -/
theorem p5 : Cert.Kernel.k0_part5 (F := Bits) = Cert.KernelIdeal.k0_part5 (F := Bits) := rfl
set_option maxHeartbeats 0 in
set_option backward.isDefEq.respectTransparency.types false in
/-- Part 6 of the first body. -/
theorem p6 : Cert.Kernel.k0_part6 (F := Bits) = Cert.KernelIdeal.k0_part6 (F := Bits) := rfl
set_option maxHeartbeats 0 in
set_option backward.isDefEq.respectTransparency.types false in
/-- The second body's part. -/
theorem p7 : Cert.Kernel.k1_part1 (F := Bits) = Cert.KernelIdeal.k1_part1 (F := Bits) := rfl
set_option maxHeartbeats 0 in
set_option backward.isDefEq.respectTransparency.types false in
/-- The first call's body. -/
theorem c0 : Cert.Kernel.cc0__lambda_ (F := Bits) = Cert.KernelIdeal.cc0__lambda_ (F := Bits) := rfl
set_option maxHeartbeats 0 in
set_option backward.isDefEq.respectTransparency.types false in
/-- The second call's body. -/
theorem c1 : Cert.Kernel.cc1__lambda_ (F := Bits) = Cert.KernelIdeal.cc1__lambda_ (F := Bits) := rfl
set_option maxHeartbeats 0 in
set_option backward.isDefEq.respectTransparency.types false in
/-- The pipelines. -/
theorem pc : Cert.Kernel.pcfgs (F := Bits) = Cert.KernelIdeal.pcfgs (F := Bits) := rfl

set_option maxHeartbeats 0 in
set_option backward.isDefEq.respectTransparency.types false in
/-- The bodies' table. -/
theorem d0 : Cert.Kernel.defs₀ (F := Bits) = Cert.KernelIdeal.defs₀ (F := Bits) := by
  refine congrArg (Defs.onTc (Λ := Cert.KernelIdeal.Λ₀)) ?_
  funext l a
  match l, a with
  | 0, (t, s) =>
    show Cert.Kernel.cc0__lambda_ (F := Bits) _ _ _ _ _ _ _ _ _ _ _ _ _ _ _ _ _ _ _ _ _ _ _ _ _ _ _ _ _ _ _ = _
    rw [c0]
    rfl
  | 1, (t, s) =>
    show Cert.Kernel.cc1__lambda_ (F := Bits) _ _ _ _ _ _ _ _ _ _ _ _ _ _ _ = _
    rw [c1]
    rfl

set_option maxHeartbeats 0 in
set_option backward.isDefEq.respectTransparency.types false in
/-- The program's table of calls. -/
theorem d1 : Cert.Kernel.defs (F := Bits) = Cert.KernelIdeal.defs (F := Bits) := by
  unfold Cert.Kernel.defs Cert.KernelIdeal.defs
  exact congrArg (Pipeline.defs (Cert.KernelIdeal.pcfgs (F := Bits))) d0

/-- The frame, carried over. -/
theorem tr (H : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) : quiescent_Kernel := by
  intro m g _
  have := H m g
  rw [← d1, ← main_eq] at this
  exact this

end Cert.Proof

end
-- ==== Proof.Frames.lean ====
/-
  The frames of the three programs and the named constant's claim.
-/
module

public import proofs.«01_k».proof.Proof.Run
public import proofs.«01_k».proof.Proof.SameProgram
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The run with nothing asked of the second call's accumulator. -/
theorem frame_of {F : FTy → Type} [FloatOps F] [Named F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2)
      ∧ r.2.mem ((c.tc : Thread _ _).loc Cert.KernelIdeal.main_arg3) = m ((c.tc : Thread _ _).loc Cert.KernelIdeal.main_arg3)
      ∧ r.2.mem ((c.tc : Thread _ _).loc Cert.KernelIdeal.main_arg4) = m ((c.tc : Thread _ _).loc Cert.KernelIdeal.main_arg4))
      ∧ r.2.sem = fun _ => 0) :=
  (θ_run Cert.KernelIdeal.defs _ _).mono
    (fun _ h => And.intro (fun c => ⟨(h.1 c).arg0, (h.1 c).arg1, (h.1 c).arg2, (h.1 c).arg3, (h.1 c).arg4⟩) h.2)
    (run m (fun _ _ _ => True) g fun _ => ⟨trivial, fun _ _ _ _ => trivial⟩)

theorem frame_pi : Cert.quiescent_KernelIdeal := fun m g _ => frame_of m g

theorem frame_p : Cert.quiescent_Kernel := tr fun m g => frame_of m g

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The constant printed as the nearest float to one tenth is named one tenth. -/
theorem preserves : Cert.preserves_Kernel_KernelIdeal :=
  IdealRules.named_const.statement Cert.KernelIdeal.κ "tenth" .f32 0x3DCCCCCD#32 ((1 / 10 : ℝ) : EReal) rfl

end Cert.Proof

end
-- ==== Proof.Consts.lean ====
/-
  The float constants the two programs spell, as the extended reals they denote.
-/
module

public import Idealize.ShloMosaic.PureOps.Ideal

@[expose] public section

noncomputable section

namespace Cert.Consts

open Idealize.ShloMosaic

theorem of_ninf : Ideal.ofBits .f32 0xFF800000#32 = ⊥ := by
  simp [Ideal.ofBits, Ideal.ieee]
theorem of_one : Ideal.ofBits .f32 0x3F800000#32 = ((1 : ℝ) : EReal) := by
  simp [Ideal.ofBits, Ideal.ieee, -EReal.coe_mul]; norm_num
theorem of_neg_one : Ideal.ofBits .f32 0xBF800000#32 = ((-1 : ℝ) : EReal) := by
  simp [Ideal.ofBits, Ideal.ieee, -EReal.coe_mul]; norm_num
theorem of_two : Ideal.ofBits .f32 0x40000000#32 = ((2 : ℝ) : EReal) := by
  simp [Ideal.ofBits, Ideal.ieee, -EReal.coe_mul]; norm_num
theorem of_ten : Ideal.ofBits .f32 0x41200000#32 = ((10 : ℝ) : EReal) := by
  simp [Ideal.ofBits, Ideal.ieee, -EReal.coe_mul]; norm_num
theorem of_half : Ideal.ofBits .f32 0x3F000000#32 = ((1 / 2 : ℝ) : EReal) := by
  simp [Ideal.ofBits, Ideal.ieee, -EReal.coe_mul]; norm_num
theorem of_quarter : Ideal.ofBits .f32 0x3E800000#32 = ((1 / 4 : ℝ) : EReal) := by
  simp [Ideal.ofBits, Ideal.ieee, -EReal.coe_mul]; norm_num
theorem of_neg_quarter : Ideal.ofBits .f32 0xBE800000#32 = ((-(1 / 4) : ℝ) : EReal) := by
  simp [Ideal.ofBits, Ideal.ieee, -EReal.coe_mul]; norm_num
theorem of_three_quarters : Ideal.ofBits .f32 0x3F400000#32 = ((3 / 4 : ℝ) : EReal) := by
  simp [Ideal.ofBits, Ideal.ieee, -EReal.coe_mul]; norm_num
theorem of_neg_three_quarters : Ideal.ofBits .f32 0xBF400000#32 = ((-(3 / 4) : ℝ) : EReal) := by
  simp [Ideal.ofBits, Ideal.ieee, -EReal.coe_mul]; norm_num

end Cert.Consts

end
-- ==== Proof.Order.lean ====
/-
  The first place at which a function attains its greatest value: that there is one and only one, that the folds the
  two programs take find it, and how the first places of two stretches give the first place of both.
-/
module

public import Idealize.ShloMosaic.PureOps.Ideal
public import Idealize.ShloMosaic.PureOps.Reduce
public import proofs.«01_k».proof.Proof.Consts

@[expose] public section

noncomputable section

namespace Cert.Proof

open Idealize.ShloMosaic

/-- Place `p` is the first at which `f` is greatest. -/
structure First {n : ℕ} (f : Fin n → EReal) (p : Fin n) : Prop where
  le : ∀ q, f q ≤ f p
  lt : ∀ q, q < p → f q < f p

theorem First.unique {n : ℕ} {f : Fin n → EReal} {p q : Fin n} (hp : First f p) (hq : First f q) : p = q := by
  rcases lt_trichotomy p q with h | h | h
  · exact absurd (hq.lt p h) (not_lt.mpr (hp.le q))
  · exact h
  · exact absurd (hp.lt q h) (not_lt.mpr (hq.le p))

theorem exists_first {n : ℕ} [NeZero n] (f : Fin n → EReal) : ∃ p, First f p := by
  classical
  obtain ⟨m, -, hm⟩ := Finset.exists_max_image Finset.univ f ⟨0, Finset.mem_univ _⟩
  have hne : (Finset.univ.filter fun q => f q = f m).Nonempty := ⟨m, by simp⟩
  refine ⟨(Finset.univ.filter fun q => f q = f m).min' hne, ?_, ?_⟩
  · intro q
    have h := (Finset.mem_filter.mp (Finset.min'_mem _ hne)).2
    rw [h]; exact hm q (Finset.mem_univ _)
  · intro q hq
    have h := (Finset.mem_filter.mp (Finset.min'_mem _ hne)).2
    rw [h]
    refine lt_of_le_of_ne (hm q (Finset.mem_univ _)) fun e => ?_
    exact absurd (Finset.min'_le _ q (Finset.mem_filter.mpr ⟨Finset.mem_univ _, e⟩)) (not_le.mpr hq)

/-- The first place at which `f` is greatest. -/
def first {n : ℕ} [NeZero n] (f : Fin n → EReal) : Fin n := (exists_first f).choose
theorem first_spec {n : ℕ} [NeZero n] (f : Fin n → EReal) : First f (first f) := (exists_first f).choose_spec

/-- A maximum's fold from the least value is the greatest value. -/
theorem fold_max_eq {ι : Type} (s : Finset ι) (g : ι → EReal) (m : EReal) (h : ∃ i ∈ s, g i = m) (hl : ∀ i ∈ s, g i ≤ m) :
    s.fold max (Ideal.ofBits .f32 0xFF800000#32) g = m := by
  rw [Consts.of_ninf]
  apply le_antisymm
  · exact (Finset.fold_max_le m).mpr ⟨bot_le, hl⟩
  · obtain ⟨i, hi, rfl⟩ := h
    exact (Finset.le_fold_max _).mpr (Or.inr ⟨i, hi, le_rfl⟩)

theorem First.fold_max {n : ℕ} {f : Fin n → EReal} {p : Fin n} (h : First f p) :
    Finset.univ.fold max (Ideal.ofBits .f32 0xFF800000#32) f = f p :=
  fold_max_eq _ _ _ ⟨p, Finset.mem_univ _, rfl⟩ fun q _ => h.le q

theorem toInt_minsi (x y : BitVec 32) : (IntOp.minsi x y).toInt = min x.toInt y.toInt := by
  unfold IntOp.minsi
  rw [BitVec.slt]
  by_cases h : x.toInt < y.toInt
  · rw [if_pos (decide_eq_true h), min_eq_left h.le]
  · rw [if_neg (by simpa using h), min_eq_right (not_lt.mp h)]

theorem toInt_maxsi (x y : BitVec 32) : (IntOp.maxsi x y).toInt = max x.toInt y.toInt := by
  unfold IntOp.maxsi
  rw [BitVec.slt]
  by_cases h : y.toInt < x.toInt
  · rw [if_pos (decide_eq_true h), max_eq_left h.le]
  · rw [if_neg (by simpa using h), max_eq_right (not_lt.mp h)]

theorem toInt_fold_minsi {ι : Type} (s : Finset ι) (b : BitVec 32) (g : ι → BitVec 32) :
    (s.fold IntOp.minsi b g).toInt = s.fold min b.toInt fun i => (g i).toInt := by
  classical
  induction s using Finset.induction with
  | empty => rfl
  | insert a s ha ih => rw [Finset.fold_insert ha, Finset.fold_insert ha, toInt_minsi, ih]

theorem toInt_fold_maxsi {ι : Type} (s : Finset ι) (b : BitVec 32) (g : ι → BitVec 32) :
    (s.fold IntOp.maxsi b g).toInt = s.fold max b.toInt fun i => (g i).toInt := by
  classical
  induction s using Finset.induction with
  | empty => rfl
  | insert a s ha ih => rw [Finset.fold_insert ha, Finset.fold_insert ha, toInt_maxsi, ih]

/-- A signed minimum's fold is the least word. -/
theorem fold_minsi_eq {ι : Type} (s : Finset ι) (g : ι → BitVec 32) (b k : BitVec 32) (h : ∃ i ∈ s, g i = k)
    (hb : k.toInt ≤ b.toInt) (hl : ∀ i ∈ s, k.toInt ≤ (g i).toInt) : s.fold IntOp.minsi b g = k := by
  apply BitVec.toInt_inj.mp
  rw [toInt_fold_minsi]
  apply le_antisymm
  · obtain ⟨i, hi, rfl⟩ := h
    exact (Finset.fold_min_le _).mpr (Or.inr ⟨i, hi, le_rfl⟩)
  · exact (Finset.le_fold_min _).mpr ⟨hb, hl⟩

/-- A signed maximum's fold is the greatest word. -/
theorem fold_maxsi_eq {ι : Type} (s : Finset ι) (g : ι → BitVec 32) (b k : BitVec 32) (h : ∃ i ∈ s, g i = k)
    (hb : b.toInt ≤ k.toInt) (hl : ∀ i ∈ s, (g i).toInt ≤ k.toInt) : s.fold IntOp.maxsi b g = k := by
  apply BitVec.toInt_inj.mp
  rw [toInt_fold_maxsi]
  apply le_antisymm
  · exact (Finset.fold_max_le _).mpr ⟨hb, hl⟩
  · obtain ⟨i, hi, rfl⟩ := h
    exact (Finset.le_fold_max _).mpr (Or.inr ⟨i, hi, le_rfl⟩)

theorem toInt_ofNat (n : ℕ) (h : n < 2 ^ 31) : (BitVec.ofNat 32 n).toInt = n := by
  rw [BitVec.toInt_eq_toNat_of_lt (by simp; omega)]
  simp; omega

theorem ofNat_inj {a b : ℕ} (ha : a < 2 ^ 31) (hb : b < 2 ^ 31) (h : BitVec.ofNat 32 a = BitVec.ofNat 32 b) : a = b := by
  have := congrArg BitVec.toInt h
  rw [toInt_ofNat a ha, toInt_ofNat b hb] at this
  exact_mod_cast this

/-- The least of the places, numbered from `base`, at which `f` has its greatest value is the first. -/
theorem First.fold_minsi {n : ℕ} {f : Fin n → EReal} {p : Fin n} (h : First f p) (base : ℕ) (big init : BitVec 32)
    (hb : ((base + n : ℕ) : ℤ) ≤ big.toInt) (hi : ((base + n : ℕ) : ℤ) ≤ init.toInt) (hn : base + n < 2 ^ 31)
    (g : Fin n → BitVec 32) (hg : ∀ x, g x = if f x = f p then BitVec.ofNat 32 (base + x.val) else big) :
    Finset.univ.fold IntOp.minsi init g = BitVec.ofNat 32 (base + p.val) := by
  have hp := p.isLt
  have e := toInt_ofNat (base + p.val) (by omega)
  refine fold_minsi_eq _ _ _ _ ⟨p, Finset.mem_univ _, by rw [hg, if_pos rfl]⟩ (by rw [e]; omega) fun x _ => ?_
  have hx := x.isLt
  rw [hg, e]
  by_cases hq : f x = f p
  · rw [if_pos hq, toInt_ofNat _ (by omega)]
    have : p ≤ x := not_lt.mp fun hlt => absurd hq (h.lt x hlt).ne
    have : p.val ≤ x.val := this
    omega
  · rw [if_neg hq]; omega

/-- `N` is the first place of the stretch from `a` up to `b` at which `g` is greatest. -/
structure FirstIn (g : ℕ → EReal) (a b N : ℕ) : Prop where
  lo : a ≤ N
  hi : N < b
  le : ∀ n, a ≤ n → n < b → g n ≤ g N
  lt : ∀ n, a ≤ n → n < N → g n < g N

/-- Two neighbouring stretches: the later one's place where its value is the greater, else the earlier one's. -/
theorem FirstIn.merge {g : ℕ → EReal} {a b c N M : ℕ} (h : FirstIn g a b N) (k : FirstIn g b c M) :
    FirstIn g a c (if g N < g M then M else N) := by
  have h1 := h.lo; have h2 := h.hi; have h3 := k.lo; have h4 := k.hi
  by_cases hlt : g N < g M
  · rw [if_pos hlt]
    refine ⟨by omega, by omega, fun n ha hc => ?_, fun n ha hn => ?_⟩
    · by_cases hb : n < b
      · exact (h.le n ha hb).trans hlt.le
      · exact k.le n (by omega) hc
    · by_cases hb : n < b
      · exact (h.le n ha hb).trans_lt hlt
      · exact k.lt n (by omega) hn
  · rw [if_neg hlt]
    refine ⟨by omega, by omega, fun n ha hc => ?_, fun n ha hn => h.lt n ha hn⟩
    by_cases hb : n < b
    · exact h.le n ha hb
    · exact (k.le n (by omega) hc).trans (not_lt.mp hlt)

/-- A tile's first place. -/
theorem First.inStretch {g : ℕ → EReal} {n : ℕ} {f : Fin n → EReal} {p : Fin n} (a : ℕ) (h : First f p) (e : ∀ x : Fin n, f x = g (a + x.val)) :
    FirstIn g a (a + n) (a + p.val) := by
  have hp := p.isLt
  refine ⟨by omega, by omega, fun m ha hb => ?_, fun m ha hb => ?_⟩
  · have := h.le ⟨m - a, by omega⟩
    rw [e, e] at this
    simpa [show a + (m - a) = m from by omega] using this
  · have := h.lt ⟨m - a, by omega⟩ (show m - a < p.val by omega)
    rw [e, e] at this
    simpa [show a + (m - a) = m from by omega] using this

/-- A first place of the padded stretch, where some place inside beats the padding, is the first place inside. -/
theorem FirstIn.first {n k N : ℕ} {f : Fin n → EReal} {g : ℕ → EReal} {z : EReal} (h : FirstIn g 0 k N) (hk : n ≤ k)
    (e : ∀ x : Fin n, g x.val = f x) (ez : ∀ m, n ≤ m → g m = z) (hz : ∃ x, z < f x) : ∃ p : Fin n, p.val = N ∧ First f p := by
  have hN : N < n := by
    by_contra hc
    obtain ⟨x, hx⟩ := hz
    have := h.le x.val (Nat.zero_le _) (lt_of_lt_of_le x.isLt hk)
    rw [e, ez N (not_lt.mp hc)] at this
    exact absurd this (not_le.mpr hx)
  have eN : g N = f ⟨N, hN⟩ := e ⟨N, hN⟩
  refine ⟨⟨N, hN⟩, rfl, fun q => ?_, fun q hq => ?_⟩
  · have := h.le q.val (Nat.zero_le _) (lt_of_lt_of_le q.isLt hk)
    rwa [e, eN] at this
  · have := h.lt q.val (Nat.zero_le _) hq
    rwa [e, eN] at this

end Cert.Proof

end
-- ==== Proof.Spec.lean ====
/-
  The loss both programs compute, written over plain functions of the arguments: the overlaps, the matching, the box
  distances, the focal terms, and the two ratios of their totals.
-/
module

public import proofs.«01_k».proof.Proof.Entry
public import proofs.«01_k».proof.Proof.Order
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The five arguments. -/
structure Args where
  loc : S8x22536x4.Idx → EReal
  sc : S8x22536x81.Idx → EReal
  box : S8x20x4.Idx → EReal
  pri : S22536x4.Idx → EReal
  lab : S8x20.Idx → BitVec 32

namespace Args

variable (A : Args)

/-- The overlap of image `b`'s object `o` with prior `p`. -/
def iou (b : Fin 8) (o : Fin 20) (p : Fin 22536) : EReal :=
  iouS (F := Ideal) (A.pri (ix2 p 0)) (A.pri (ix2 p 1)) (A.pri (ix2 p 2)) (A.pri (ix2 p 3))
    (A.box (ix3 b o 0)) (A.box (ix3 b o 1)) (A.box (ix3 b o 2)) (A.box (ix3 b o 3))

/-- The prior an object overlaps the most, and the object that overlaps a prior the most: the first of several. -/
def bestP (b : Fin 8) (o : Fin 20) : Fin 22536 := first fun p => A.iou b o p
def bestO (b : Fin 8) (p : Fin 22536) : Fin 20 := first fun o => A.iou b o p

/-- The objects whose best prior is `p`. -/
def hits (b : Fin 8) (p : Fin 22536) : Finset (Fin 20) := Finset.univ.filter fun o => A.bestP b o = p

open Classical in
/-- The object a prior is matched with: the last of those whose best prior it is, else the one that overlaps it the most. -/
def obj (b : Fin 8) (p : Fin 22536) : Fin 20 := if h : (A.hits b p).Nonempty then (A.hits b p).max' h else A.bestO b p
open Classical in
/-- The overlap a prior is matched with: full for an object's best prior. -/
def ov (b : Fin 8) (p : Fin 22536) : EReal := if (A.hits b p).Nonempty then 1 else A.iou b (A.bestO b p) p

/-- The priors that count as positive, and as negative. -/
def pos (b : Fin 8) (p : Fin 22536) : Prop := Ideal.ofBits .f32 0x3F000000#32 ≤ A.ov b p
def neg (b : Fin 8) (p : Fin 22536) : Prop := A.ov b p < Ideal.ofBits .f32 0x3ECCCCCD#32

/-- The box distance of a prior to its matched object. -/
def dist (b : Fin 8) (p : Fin 22536) : EReal :=
  distS (F := Ideal) (A.pri (ix2 p 0)) (A.pri (ix2 p 1)) (A.pri (ix2 p 2)) (A.pri (ix2 p 3))
    (A.loc (ix3 b p 0)) (A.loc (ix3 b p 1)) (A.loc (ix3 b p 2)) (A.loc (ix3 b p 3))
    (A.box (ix3 b (A.obj b p) 0)) (A.box (ix3 b (A.obj b p) 1)) (A.box (ix3 b (A.obj b p) 2)) (A.box (ix3 b (A.obj b p) 3))

/-- The class number of a prior's matched object, as a word. -/
def cls (b : Fin 8) (p : Fin 22536) : BitVec 32 := A.lab (ix2 b (A.obj b p))

end Args

/-- A row's greatest score, and the logarithm of a class's softmax. -/
def top (x : Fin 81 → EReal) : EReal := Finset.univ.fold max (Ideal.ofBits .f32 0xFF800000#32) x
def logp (x : Fin 81 → EReal) (k : Fin 81) : EReal := (x k - top x) - Ideal.log (∑ i, Ideal.exp (x i - top x))

/-- A class word as a class: one out of range stands for the background. -/
def toClass (w : BitVec 32) : Fin 81 := if h : w.toNat < 81 then ⟨w.toNat, h⟩ else 0

/-- The focal term of a class of log-probability `l` at coefficient `a`. -/
def focalS (a l : EReal) : EReal := a * ((1 - Ideal.exp l) * (1 - Ideal.exp l)) * l

namespace Args

variable (A : Args)

open Classical in
/-- A prior's focal term: of its object's class where positive, of the background where negative. -/
def focal (b : Fin 8) (p : Fin 22536) : EReal :=
  if A.pos b p then focalS (Ideal.ofBits .f32 0xBE800000#32) (logp (fun k => A.sc (ix3 b p k)) (toClass (A.cls b p)))
  else if A.neg b p then focalS (Ideal.ofBits .f32 0xBF400000#32) (logp (fun k => A.sc (ix3 b p k)) 0)
  else 0

open Classical in
/-- The totals over all images and priors: of the focal terms, of the counted priors, of the positive ones, of the distances. -/
def totF : EReal := ∑ b, ∑ p, A.focal b p
open Classical in
def totM : EReal := ∑ b : Fin 8, ∑ p : Fin 22536, if A.pos b p ∨ A.neg b p then (1 : EReal) else 0
open Classical in
def totP : EReal := ∑ b : Fin 8, ∑ p : Fin 22536, if A.pos b p then (1 : EReal) else 0
open Classical in
def totD : EReal := ∑ b : Fin 8, ∑ p : Fin 22536, if A.pos b p then A.dist b p else 0

/-- The loss. -/
def loss : EReal := Ideal.div A.totF (max A.totM 1) + Ideal.div A.totD (max (A.totP * Ideal.ofBits .f32 0x40800000#32) 1)

/-- What is asked of the arguments: every label is a class other than the background, and every object has a prior it
    overlaps. -/
structure Fit : Prop where
  lo : ∀ b o, 1 ≤ (A.lab (ix2 b o)).toInt
  hi : ∀ b o, (A.lab (ix2 b o)).toInt < 81
  some : ∀ b o, ∃ p, 0 ≤ A.iou b o p

end Args

end Cert.Proof

end
-- ==== Proof.KerRead.lean ====
/-
  What the matching call's blocks hold, in terms of the arguments, and the overlaps of its tiles.
-/
module

public import proofs.«01_k».proof.Proof.R0State
public import proofs.«01_k».proof.Proof.Spec
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
theorem index0_0 : ∀ t : Fin grid0.N, win0_0.index t 0 = 0 ∧ win0_0.index t 1 = t.val % 3 := by decide +kernel
theorem index0_1 : ∀ t : Fin grid0.N, win0_1.index t 0 = t.val / 6 ∧ win0_1.index t 1 = 0 ∧ win0_1.index t 2 = 0 := by decide +kernel
theorem index0_2 : ∀ t : Fin grid0.N, win0_2.index t 0 = t.val / 6 ∧ win0_2.index t 1 = 0 ∧ win0_2.index t 2 = 0 := by decide +kernel
theorem index0_3 : ∀ t : Fin grid0.N, 3 ≤ t.val % 6 → win0_3.index t 0 = t.val / 6 ∧ win0_3.index t 1 = 0 ∧ win0_3.index t 2 = t.val % 3 := by decide +kernel
theorem index0_4 : ∀ t : Fin grid0.N, 3 ≤ t.val % 6 → win0_4.index t 0 = t.val / 6 ∧ win0_4.index t 1 = 0 ∧ win0_4.index t 2 = t.val % 3 := by decide +kernel
variable {V : (c : Dev nD) → (b : Ref sig .tc) → Buf (Elt Ideal) ((c : Thread nD τ).loc b)} {c : Dev nD}

/-- The arrays the matching call reads are the arguments' transposes. -/
structure Reads (V : (c : Dev nD) → (b : Ref sig .tc) → Buf (Elt Ideal) ((c : Thread nD τ).loc b)) (c : Dev nD) (A : Args) : Prop where
  pri : ∀ (k : Fin 4) (p : Fin 22536), @Eq EReal (V c main_v0 (ix2 k p)) (A.pri (ix2 p k))
  box : ∀ (b : Fin 8) (o : Fin 20) (k : Fin 4), @Eq EReal (V c main_arg2 (ix3 b o k)) (A.box (ix3 b o k))
  lab : ∀ (b : Fin 8) (o : Fin 20), @Eq (BitVec 32) (V c main_v1 (ix3 b o 0)) (A.lab (ix2 b o))
  loc : ∀ (b : Fin 8) (k : Fin 4) (p : Fin 22536), @Eq EReal (V c main_v2 (ix3 b k p)) (A.loc (ix3 b p k))

variable {A : Args} (R : Reads V c A)

include R

/-- A point's block of priors, inside the array. -/
theorem pz_read (t : Fin cfg0.N) (k : Fin 4) (j : Fin 8192) (p : Fin 22536) (hp : p.val = 8192 * (t.val % 3) + j.val) :
    @Eq EReal (pz V c t (ix2 k j)) (A.pri (ix2 p k)) := by
  have hm : win0_0.moved (grid0.coords t) (ix2 k j) = true := (win0_0.moved_iff _ _).mpr fun a => by
    obtain ⟨h0, h1⟩ := xsize0_0 t
    have hj := j.isLt
    have hk := k.isLt
    have hp' := p.isLt
    match a with
    | 0 => rw [h0]; exact hk
    | 1 => exact lt_of_lt_of_le (by change j.val < _; omega) h1
  rw [← R.pri k p]
  unfold pz pblk Pipeline.Window.fill
  rw [dif_pos hm]
  refine congrArg (V c main_v0) ?_
  obtain ⟨h0, h1⟩ := index0_0 t
  refine funext fun a => Fin.ext ?_
  match a with
  | 0 => change win0_0.index t 0 * 4 + 1 * k.val = k.val; rw [h0]; omega
  | 1 => change win0_0.index t 1 * 8192 + 1 * j.val = p.val; rw [h1]; omega

/-- A point's boxes and labels. -/
theorem bblk_read (t : Fin cfg0.N) (b : Fin 8) (hb : t.val / 6 = b.val) (o : Fin 20) (k : Fin 4) :
    @Eq EReal (bblk V c t (ix3 0 o k)) (A.box (ix3 b o k)) := by
  rw [← R.box b o k]
  refine congrArg (V c main_arg2) ?_
  obtain ⟨h0, h1, h2⟩ := index0_1 t
  refine funext fun a => Fin.ext ?_
  match a with
  | 0 => change win0_1.index t 0 * 1 + 1 * 0 = b.val; rw [h0]; omega
  | 1 => change win0_1.index t 1 * 20 + 1 * o.val = o.val; rw [h1]; omega
  | 2 => change win0_1.index t 2 * 4 + 1 * k.val = k.val; rw [h2]; omega

theorem lblk_read (t : Fin cfg0.N) (b : Fin 8) (hb : t.val / 6 = b.val) (o : Fin 20) :
    @Eq (BitVec 32) (lblk V c t (ix3 0 o 0)) (A.lab (ix2 b o)) := by
  rw [← R.lab b o]
  refine congrArg (V c main_v1) ?_
  obtain ⟨h0, h1, h2⟩ := index0_2 t
  refine funext fun a => Fin.ext ?_
  match a with
  | 0 => change win0_2.index t 0 * 1 + 1 * 0 = b.val; rw [h0]; omega
  | 1 => change win0_2.index t 1 * 20 + 1 * o.val = o.val; rw [h1]; omega
  | 2 => change win0_2.index t 2 * 1 + 1 * 0 = 0; rw [h2]

/-- A second-phase point's block of locations, inside the array. -/
theorem dz_read (t : Fin cfg0.N) (ht : 3 ≤ t.val % 6) (b : Fin 8) (hb : t.val / 6 = b.val) (k : Fin 4) (j : Fin 8192) (p : Fin 22536)
    (hp : p.val = 8192 * (t.val % 3) + j.val) : @Eq EReal (dz V c t (ix3 0 k j)) (A.loc (ix3 b p k)) := by
  have hm : win0_3.moved (grid0.coords t) (ix3 0 k j) = true := (win0_3.moved_iff _ _).mpr fun a => by
    obtain ⟨h0, h1, h2⟩ := xsize0_3 t
    have h2 := h2 ht
    have hj := j.isLt
    have hk := k.isLt
    have hp' := p.isLt
    match a with
    | 0 => rw [h0]; exact Nat.one_pos
    | 1 => rw [h1]; exact hk
    | 2 => exact lt_of_lt_of_le (by change j.val < _; omega) h2
  rw [← R.loc b k p]
  unfold dz dblk Pipeline.Window.fill
  rw [dif_pos hm]
  refine congrArg (V c main_v2) ?_
  obtain ⟨h0, h1, h2⟩ := index0_3 t ht
  refine funext fun a => Fin.ext ?_
  match a with
  | 0 => change win0_3.index t 0 * 1 + 1 * 0 = b.val; rw [h0]; omega
  | 1 => change win0_3.index t 1 * 4 + 1 * k.val = k.val; rw [h1]; omega
  | 2 => change win0_3.index t 2 * 8192 + 1 * j.val = p.val; rw [h2]; omega

/-- The tile's overlaps: a prior's, or minus one past the end. -/
theorem iou_tile (t : Fin cfg0.N) (ht : t.val % 6 < 3) (b : Fin 8) (hb : t.val / 6 = b.val) (o : Fin 20) (j : Fin 8192) :
    @Eq EReal (iou1 (tile (grid0.coords t)) (pz V c t) (bblk V c t) (ix2 o j))
      (if h : 8192 * (t.val % 3) + j.val < 22536 then A.iou b o ⟨8192 * (t.val % 3) + j.val, h⟩ else Ideal.ofBits .f32 0xBF800000#32) := by
  rw [iou1_apply]
  have hl := lane_iff (t.val % 3) (Nat.mod_lt _ (by decide)) j
  rw [← tile_lo t ht] at hl
  by_cases h : 8192 * (t.val % 3) + j.val < 22536
  · rw [sel_pos (hl.mpr h), dif_pos h]
    unfold Args.iou
    rw [pz_read R t 0 j ⟨_, h⟩ rfl, pz_read R t 1 j ⟨_, h⟩ rfl, pz_read R t 2 j ⟨_, h⟩ rfl, pz_read R t 3 j ⟨_, h⟩ rfl,
      bblk_read R t b hb o 0, bblk_read R t b hb o 1, bblk_read R t b hb o 2, bblk_read R t b hb o 3]
  · rw [sel_neg (fun e => h (hl.mp e)), dif_neg h]
    rfl

end Cert.Proof

end
-- ==== Proof.KerRow.lean ====
/-
  The prior that overlaps each object the most, as the kernel finds it tile by tile.
-/
module

public import proofs.«01_k».proof.Proof.KerRead
public import Idealize.ShloMosaic.Lib.Pointwise
public import Idealize.ShloMosaic.PureOps.Ideal.Laws
public import Idealize.ShloMosaic.Lib.IdealHost
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- A tile's row bests read at one place. -/
theorem rm_form (w : BitVec 32) (p : Vec Ideal S4x8192 .f32) (b : Vec Ideal S1x20x4 .f32) (o : Fin 20) :
    (rm1 w p b (ix2 o 0) : EReal) = Finset.fold max (Ideal.ofBits .f32 0xFF800000#32) (fun x : Fin 8192 => iou1 w p b (ix2 o x)) Finset.univ := by
  unfold rm1 iou1
  pointwise [k0_pay33]

theorem ri_form (w : BitVec 32) (p : Vec Ideal S4x8192 .f32) (b : Vec Ideal S1x20x4 .f32) (o : Fin 20) :
    ri1 w p b (ix2 o 0) = Finset.fold IntOp.minsi 2147483647#32 (fun x : Fin 8192 =>
      if (iou1 w p b (ix2 o x) : EReal) = Finset.fold max (Ideal.ofBits .f32 0xFF800000#32) (fun x : Fin 8192 => iou1 w p b (ix2 o x)) Finset.univ
      then k0_pay28 w (ix2 o x) else 1073741824#32) Finset.univ := by
  unfold ri1 iou1
  pointwise [k0_pay33, k0_pay34]

theorem number (k : ℕ) (hk : k < 3) (o : Fin 20) (x : Fin 8192) : k0_pay28 (BitVec.ofNat 32 k) (ix2 o x) = BitVec.ofNat 32 (8192 * k + x.val) := by
  have hj := x.isLt
  have e : IntOp.addi (BitVec.ofNat 32 x.val) (Scalar.muli (BitVec.ofNat 32 k) 8192#32) = BitVec.ofNat 32 (8192 * k + x.val) := by
    apply BitVec.eq_of_toNat_eq
    simp [IntOp.addi, Scalar.muli, IntOp.muli]
    omega
  rw [← e]
  pointwise [k0_pay28]

theorem va_form (rm va : FVec Ideal S20x1 .f32) (o : Fin 20) :
    (va1 rm va (ix2 o 0) : EReal) = if (va (ix2 o 0) : EReal) < rm (ix2 o 0) then rm (ix2 o 0) else va (ix2 o 0) := by
  unfold va1
  pointwise [k0_pay9, k0_pay7]

theorem ia_form (rm va : FVec Ideal S20x1 .f32) (ri ia : IVec S20x1 32) (o : Fin 20) :
    ia1 rm va ri ia (ix2 o 0) = if (va (ix2 o 0) : EReal) < rm (ix2 o 0) then ri (ix2 o 0) else ia (ix2 o 0) := by
  unfold ia1
  pointwise [k0_pay8, k0_pay7]

theorem pay5_form (x : FVec Ideal S20x1 .f32) (o : Fin 20) : (k0_pay5 x (ix2 o 0) : EReal) = x (ix2 o 0) := by pointwise [k0_pay5]
theorem pay6_form (x : IVec S20x1 32) (o : Fin 20) : k0_pay6 x (ix2 o 0) = x (ix2 o 0) := by pointwise [k0_pay6]

variable {V : (c : Dev nD) → (b : Ref sig .tc) → Buf (Elt Ideal) ((c : Thread nD τ).loc b)} {c : Dev nD}

/-- An object's overlaps along the tiles: minus one past the end. -/
def Args.row (A : Args) (b : Fin 8) (o : Fin 20) (n : ℕ) : EReal :=
  if h : n < 22536 then A.iou b o ⟨n, h⟩ else Ideal.ofBits .f32 0xBF800000#32

theorem pt_val (b : Fin 8) (j : ℕ) (hj : j < 6) : (pt b.val j).val = 6 * b.val + j := by
  have := b.isLt
  change (6 * b.val + j) % 48 = _
  omega

variable {A : Args} (R : Reads V c A)

include R

/-- A tile's best of a row. -/
theorem tile_row (b : Fin 8) (k : ℕ) (hk : k < 3) (o : Fin 20) : ∃ N, FirstIn (A.row b o) (8192 * k) (8192 * k + 8192) N
    ∧ @Eq EReal (RM V c (pt b.val k) (ix2 o 0)) (A.row b o N) ∧ RI V c (pt b.val k) (ix2 o 0) = BitVec.ofNat 32 N := by
  have hv := pt_val b k (by omega)
  have hb := b.isLt
  have h6 : (pt b.val k).val % 6 < 3 := by omega
  have h3 : (pt b.val k).val % 3 = k := by omega
  have hd : (pt b.val k).val / 6 = b.val := by omega
  have hf : ∀ x : Fin 8192, @Eq EReal (iou1 (tile (grid0.coords (pt b.val k))) (pz V c (pt b.val k)) (bblk V c (pt b.val k)) (ix2 o x)) (A.row b o (8192 * k + x.val)) := by
    intro x
    refine (iou_tile R (pt b.val k) h6 b hd o x).trans ?_
    unfold Args.row
    rw [h3]
  have ht : tile (grid0.coords (pt b.val k)) = BitVec.ofNat 32 k := by rw [tile_lo _ h6, h3]
  have hp := first_spec fun x : Fin 8192 => A.row b o (8192 * k + x.val)
  generalize (first fun x : Fin 8192 => A.row b o (8192 * k + x.val)) = q at hp
  have hm : Finset.fold max (Ideal.ofBits .f32 0xFF800000#32) (fun x : Fin 8192 => iou1 (tile (grid0.coords (pt b.val k))) (pz V c (pt b.val k)) (bblk V c (pt b.val k)) (ix2 o x)) Finset.univ
      = A.row b o (8192 * k + q.val) :=
    (Finset.fold_congr fun x _ => hf x).trans hp.fold_max
  refine ⟨8192 * k + q.val, First.inStretch (8192 * k) hp fun _ => rfl, (rm_form _ _ _ _).trans hm, (ri_form _ _ _ _).trans ?_⟩
  refine First.fold_minsi hp (8192 * k) 1073741824#32 _ ?_ ?_ (by omega) _ fun x => ?_
  · rw [show (1073741824#32 : BitVec 32).toInt = 1073741824 from by decide]; omega
  · rw [show (2147483647#32 : BitVec 32).toInt = 2147483647 from by decide]; omega
  · rw [hm, hf x, ht, number k hk o x]

/-- The best of the tiles so far. -/
theorem best_row (b : Fin 8) (o : Fin 20) : ∀ j < 3, ∃ N, FirstIn (A.row b o) 0 (8192 * j + 8192) N
    ∧ @Eq EReal (VA V c b.val j (ix2 o 0)) (A.row b o N) ∧ IA V c b.val j (ix2 o 0) = BitVec.ofNat 32 N
  | 0, _ => by
    obtain ⟨N, h, h1, h2⟩ := tile_row R b 0 (by decide) o
    exact ⟨N, h, (pay5_form _ _).trans h1, (pay6_form _ _).trans h2⟩
  | j + 1, hj => by
    obtain ⟨N, h, h1, h2⟩ := best_row b o j (by omega)
    obtain ⟨M, k, k1, k2⟩ := tile_row R b (j + 1) hj o
    rw [show 8192 * (j + 1) = 8192 * j + 8192 from by omega] at k
    refine ⟨_, by rw [show 8192 * (j + 1) + 8192 = 8192 * j + 8192 + 8192 from by omega]; exact h.merge k, (va_form _ _ _).trans ?_, (ia_form _ _ _ _ _).trans ?_⟩
    · rw [h1, k1]; split <;> rfl
    · rw [h1, k1, h2, k2]; split <;> rfl

/-- The prior the second phase reads for an object. -/
theorem ia_final (hF : A.Fit) (b : Fin 8) (o : Fin 20) : IA V c b.val 2 (ix2 o 0) = BitVec.ofNat 32 (A.bestP b o).val := by
  obtain ⟨N, h, -, h2⟩ := best_row R b o 2 (by decide)
  obtain ⟨p, hp, hf⟩ := h.first (f := fun p => A.iou b o p) (n := 22536) (z := Ideal.ofBits .f32 0xBF800000#32) (by omega)
    (fun x => dif_pos x.isLt) (fun m hm => dif_neg (by omega)) (by
      obtain ⟨p, hp⟩ := hF.some b o
      refine ⟨p, lt_of_lt_of_le ?_ hp⟩
      rw [Consts.of_neg_one]
      exact_mod_cast (by norm_num : (-1 : ℝ) < 0))
  rw [h2, ← hp, hf.unique (first_spec _)]
  rfl

end Cert.Proof

end
-- ==== Proof.KerCol.lean ====
/-
  The second phase at one lane: the object and the overlap a prior is matched with.
-/
module

public import proofs.«01_k».proof.Proof.KerRow
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
section Forms

variable (w : BitVec 32) (p : Vec Ideal S4x8192 .f32) (b : Vec Ideal S1x20x4 .f32) (ov : Vec Ideal S1x8192 .f32) (ob : Vec Ideal S1x8192 .i32)
  (ia : Vec Ideal S20x1 .i32) (j : Fin 8192)

/-- A tile's best overlap of each prior, and its object, read at one place. -/
theorem ov_form : (ov1 w p b (ix2 0 j) : EReal) = Finset.fold max (Ideal.ofBits .f32 0xFF800000#32) (fun x : Fin 20 => iou1 w p b (ix2 x j)) Finset.univ := by
  unfold ov1 iou1
  pointwise [k0_pay31, k0_pay30]

theorem ob_form : ob1 w p b (ix2 0 j) = Finset.fold IntOp.minsi 2147483647#32 (fun x : Fin 20 =>
      if (iou1 w p b (ix2 x j) : EReal) = Finset.fold max (Ideal.ofBits .f32 0xFF800000#32) (fun x : Fin 20 => iou1 w p b (ix2 x j)) Finset.univ
      then BitVec.ofNat 32 x.val else 64#32) Finset.univ := by
  unfold ob1 iou1
  pointwise [k0_pay32, k0_pay30]

/-- The last object whose best prior a lane is, or `-1`. -/
def lastHit : BitVec 32 := Finset.fold IntOp.maxsi 2147483648#32 (fun x : Fin 20 => Scalar.select (IntOp.cmpi .eq (ia (ix2 x 0)) (IntOp.addi (BitVec.ofNat 32 j.val) (Scalar.muli (Scalar.subi w 3#32) 8192#32))) (BitVec.ofNat 32 x.val) 4294967295#32) Finset.univ

theorem pay49_form : (k0_pay49 w ov ia (ix2 0 j) : EReal) = Scalar.select (IntOp.cmpi .sge (lastHit w ia j) 0#32) (1 : EReal) (ov (ix2 0 j)) := by
  unfold lastHit
  pointwise [k0_pay49, k0_pay48, k0_pay47, k0_pay45]

theorem pay50_form (r : Fin 20) : k0_pay50 w ob ia (ix2 r j) = IntOp.cmpi .eq (BitVec.ofNat 32 r.val) (Scalar.select (IntOp.cmpi .sge (lastHit w ia j) 0#32) (lastHit w ia j) (ob (ix2 0 j))) := by
  unfold lastHit
  pointwise [k0_pay50, k0_pay48, k0_pay47, k0_pay45]

end Forms

variable {A : Args} {b : Fin 8} {p : Fin 22536}

/-- What a lane of the second phase reads: prior `p`'s best overlap and object, and the objects' best priors. -/
structure Lane (A : Args) (b : Fin 8) (p : Fin 22536) (w : BitVec 32) (ov : Vec Ideal S1x8192 .f32) (ob : Vec Ideal S1x8192 .i32) (ia : Vec Ideal S20x1 .i32)
    (j : Fin 8192) : Prop where
  num : IntOp.addi (BitVec.ofNat 32 j.val) (Scalar.muli (Scalar.subi w 3#32) 8192#32) = BitVec.ofNat 32 p.val
  ov : @Eq EReal (ov (ix2 0 j)) (A.iou b (A.bestO b p) p)
  ob : ob (ix2 0 j) = BitVec.ofNat 32 (A.bestO b p).val
  ia : ∀ o : Fin 20, ia (ix2 o 0) = BitVec.ofNat 32 (A.bestP b o).val

variable {w : BitVec 32} {ov : Vec Ideal S1x8192 .f32} {ob : Vec Ideal S1x8192 .i32} {ia : Vec Ideal S20x1 .i32} {j : Fin 8192} (L : Lane A b p w ov ob ia j)

theorem cmpi_eq_one {x y : BitVec 32} : IntOp.cmpi .eq x y = 1#1 ↔ x = y := by
  change BitVec.ofBool (x == y) = 1#1 ↔ _
  by_cases h : x = y
  · subst h; simp
  · rw [beq_eq_false_iff_ne.mpr h]
    exact ⟨fun e => absurd e (by decide), fun e => absurd e h⟩

theorem cmpi_sge_ofNat (n : ℕ) (h : n < 2 ^ 31) : IntOp.cmpi .sge (BitVec.ofNat 32 n) 0#32 = 1#1 := by
  change BitVec.ofBool (BitVec.sle 0#32 (BitVec.ofNat 32 n)) = 1#1
  have : BitVec.sle 0#32 (BitVec.ofNat 32 n) = true := by
    rw [BitVec.sle, decide_eq_true_iff, toInt_ofNat n h, show (0#32 : BitVec 32).toInt = 0 from by decide]; omega
  rw [this]; rfl

include L

theorem hit_term (x : Fin 20) : Scalar.select (IntOp.cmpi .eq (ia (ix2 x 0)) (IntOp.addi (BitVec.ofNat 32 j.val) (Scalar.muli (Scalar.subi w 3#32) 8192#32))) (BitVec.ofNat 32 x.val) 4294967295#32
    = if x ∈ A.hits b p then BitVec.ofNat 32 x.val else 4294967295#32 := by
  have hx : x ∈ A.hits b p ↔ A.bestP b x = p := by unfold Args.hits; simp
  rw [L.num, L.ia]
  by_cases h : A.bestP b x = p
  · rw [if_pos (hx.mpr h), h, sel_pos (cmpi_eq_one.mpr rfl)]
  · rw [if_neg (fun e => h (hx.mp e)), sel_neg fun e => h ?_]
    have h1 := (A.bestP b x).isLt
    have h2 := p.isLt
    exact Fin.ext (ofNat_inj (by omega) (by omega) (cmpi_eq_one.mp e))

theorem lastHit_some (h : (A.hits b p).Nonempty) : lastHit w ia j = BitVec.ofNat 32 ((A.hits b p).max' h).val := by
  have hm := ((A.hits b p).max' h).isLt
  have e := toInt_ofNat ((A.hits b p).max' h).val (by omega)
  refine fold_maxsi_eq _ _ _ _ ⟨(A.hits b p).max' h, Finset.mem_univ _, ?_⟩ ?_ fun x _ => ?_
  · rw [hit_term L, if_pos (Finset.max'_mem _ h)]
  · rw [e, show (2147483648#32 : BitVec 32).toInt = -2147483648 from by decide]; omega
  · rw [hit_term L, e]
    split
    · rename_i hx
      have hx' := x.isLt
      rw [toInt_ofNat x.val (by omega)]
      exact_mod_cast (Finset.le_max' _ _ hx : x ≤ _)
    · rw [show (4294967295#32 : BitVec 32).toInt = -1 from by decide]; omega

theorem lastHit_none (h : ¬ (A.hits b p).Nonempty) : lastHit w ia j = 4294967295#32 := by
  have e : ∀ x : Fin 20, x ∉ A.hits b p := fun x hx => h ⟨x, hx⟩
  refine fold_maxsi_eq _ _ _ _ ⟨0, Finset.mem_univ _, ?_⟩ (by decide) fun x _ => ?_
  · rw [hit_term L, if_neg (e 0)]
  · rw [hit_term L, if_neg (e x)]

/-- The overlap and the object a lane is matched with. -/
theorem lane_ov : @Eq EReal (k0_pay49 w ov ia (ix2 0 j)) (A.ov b p) := by
  refine (pay49_form w ov ia j).trans ?_
  unfold Args.ov
  by_cases h : (A.hits b p).Nonempty
  · have hm := ((A.hits b p).max' h).isLt
    rw [if_pos h, lastHit_some L h, sel_pos (cmpi_sge_ofNat _ (by omega))]
  · rw [if_neg h, lastHit_none L h, sel_neg (by decide), L.ov]

theorem lane_obj (r : Fin 20) : k0_pay50 w ob ia (ix2 r j) = 1#1 ↔ r = A.obj b p := by
  have hr := r.isLt
  have ho := (A.obj b p).isLt
  have e : Scalar.select (IntOp.cmpi .sge (lastHit w ia j) 0#32) (lastHit w ia j) (ob (ix2 0 j)) = BitVec.ofNat 32 (A.obj b p).val := by
    unfold Args.obj
    by_cases h : (A.hits b p).Nonempty
    · have hm := ((A.hits b p).max' h).isLt
      rw [dif_pos h, lastHit_some L h, sel_pos (cmpi_sge_ofNat _ (by omega))]
    · rw [dif_neg h, lastHit_none L h, sel_neg (by decide), L.ob]
  rw [pay50_form, e, cmpi_eq_one]
  exact ⟨fun h => Fin.ext (ofNat_inj (by omega) (by omega) h), fun h => by rw [h]⟩

end Cert.Proof

end
-- ==== Proof.KerTile.lean ====
/-
  The second phase at one lane: the masks, the code, and the box distance.
-/
module

public import proofs.«01_k».proof.Proof.KerCol
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
section Forms

variable (w : BitVec 32) (ov : Vec Ideal S1x8192 .f32) (ob : Vec Ideal S1x8192 .i32) (ia : Vec Ideal S20x1 .i32) (j : Fin 8192)

theorem ign1_apply : ign1 w ov ia (ix2 0 j) = IntOp.andi (FloatOps.cmpf .olt (k0_pay49 w ov ia (ix2 0 j)) (FloatOps.ofBits .f32 0x3ECCCCCD#32)) (lane (Scalar.subi w 3#32) j) := by
  unfold ign1
  pointwise [k0_pay56, k0_pay46, k0_pay45]
  rfl

theorem mat1_apply : mat1 w ov ia (ix2 0 j) = IntOp.ori (pos1 w ov ia (ix2 0 j)) (ign1 w ov ia (ix2 0 j)) := by
  unfold mat1 pos1 ign1
  pointwise [k0_pay57]

theorem corner_form (x : FVec Ideal S20x1 .f32) (h : IVec S20x8192 1) : (k0_pay51 x h (ix2 0 j) : EReal) = ∑ r : Fin 20, Scalar.select (h (ix2 r j)) (x (ix2 r 0) : EReal) 0 := by
  pointwise [k0_pay51]
theorem corner_form1 (x : FVec Ideal S20x1 .f32) (h : IVec S20x8192 1) : (k0_pay52 x h (ix2 0 j) : EReal) = ∑ r : Fin 20, Scalar.select (h (ix2 r j)) (x (ix2 r 0) : EReal) 0 := by
  pointwise [k0_pay52]
theorem corner_form2 (x : FVec Ideal S20x1 .f32) (h : IVec S20x8192 1) : (k0_pay53 x h (ix2 0 j) : EReal) = ∑ r : Fin 20, Scalar.select (h (ix2 r j)) (x (ix2 r 0) : EReal) 0 := by
  pointwise [k0_pay53]
theorem corner_form3 (x : FVec Ideal S20x1 .f32) (h : IVec S20x8192 1) : (k0_pay54 x h (ix2 0 j) : EReal) = ∑ r : Fin 20, Scalar.select (h (ix2 r j)) (x (ix2 r 0) : EReal) 0 := by
  pointwise [k0_pay54]

theorem box_form0 (b : Vec Ideal S1x20x4 .f32) (r : Fin 20) : k0_pay41 b (ix2 r 0) = b (ix3 0 r 0) := by pointwise [k0_pay41, k0_pay40]
theorem box_form1 (b : Vec Ideal S1x20x4 .f32) (r : Fin 20) : k0_pay42 b (ix2 r 0) = b (ix3 0 r 1) := by pointwise [k0_pay42, k0_pay40]
theorem box_form2 (b : Vec Ideal S1x20x4 .f32) (r : Fin 20) : k0_pay43 b (ix2 r 0) = b (ix3 0 r 2) := by pointwise [k0_pay43, k0_pay40]
theorem box_form3 (b : Vec Ideal S1x20x4 .f32) (r : Fin 20) : k0_pay44 b (ix2 r 0) = b (ix3 0 r 3) := by pointwise [k0_pay44, k0_pay40]

theorem code_form (x y : IVec S1x8192 1) (h : IVec S20x8192 1) (l : Vec Ideal S1x20x1 .i32) (r : Fin 8) : (k0_pay59 x y (k0_pay58 h l) (ix3 0 r j) : EReal)
    = Scalar.select (x (ix2 0 j)) (0 - (∑ q : Fin 20, Scalar.select (h (ix2 q j)) (FloatOps.sitofp (F := Ideal) .f32 (l (ix3 0 q 0)) : EReal) 0 + Ideal.ofBits .f32 0x3E800000#32))
        (Scalar.select (y (ix2 0 j)) (Ideal.ofBits .f32 0xBF400000#32) 0) := by
  pointwise [k0_pay59, k0_pay58]

theorem sum_form (x : FVec Ideal S1x8192 .f32) : (laneSum x : EReal) = ∑ j : Fin 8192, x (ix2 0 j) := by
  have h : (laneSum x : EReal) = ∑ _i : Fin 1, ∑ j : Fin 8192, x (ix2 0 j) := by
    unfold laneSum
    pointwise []
  rw [h, Fin.sum_univ_one]

theorem count_form (x : IVec S1x8192 1) (a : FVec Ideal S1x1 .f32) : (k0_pay64 (F := Ideal) x a (ix2 0 0) : EReal) = a (ix2 0 0) + ∑ j : Fin 8192, Scalar.select (x (ix2 0 j)) (1 : EReal) 0 := by
  have h : (k0_pay64 (F := Ideal) x a (ix2 0 0) : EReal) = a (ix2 0 0) + ∑ _i : Fin 1, ∑ j : Fin 8192, Scalar.select (x (ix2 0 j)) (1 : EReal) 0 := by
    pointwise [k0_pay64]
  rw [h, Fin.sum_univ_one]

theorem count_form' (x : IVec S1x8192 1) (a : FVec Ideal S1x1 .f32) : (k0_pay65 (F := Ideal) x a (ix2 0 0) : EReal) = a (ix2 0 0) + ∑ j : Fin 8192, Scalar.select (x (ix2 0 j)) (1 : EReal) 0 := by
  have h : (k0_pay65 (F := Ideal) x a (ix2 0 0) : EReal) = a (ix2 0 0) + ∑ _i : Fin 1, ∑ j : Fin 8192, Scalar.select (x (ix2 0 j)) (1 : EReal) 0 := by
    pointwise [k0_pay65]
  rw [h, Fin.sum_univ_one]

theorem dist_sum_form (x : FVec Ideal S1x8192 .f32) (a : FVec Ideal S1x1 .f32) : (k0_pay10 (addf a (broadcast S1x1 (laneSum x))) (ix2 0 0) : EReal) = a (ix2 0 0) + ∑ j : Fin 8192, x (ix2 0 j) := by
  rw [← sum_form x]
  generalize laneSum x = z
  pointwise [k0_pay10]

end Forms

theorem sum_one {n : ℕ} (g : Fin n → BitVec 1) (f : Fin n → EReal) (q : Fin n) (h : ∀ r, g r = 1#1 ↔ r = q) : ∑ r, Scalar.select (g r) (f r) 0 = f q := by
  rw [Finset.sum_eq_single q (fun r _ hr => sel_neg (fun e => hr ((h r).mp e)) _ _) (fun e => absurd (Finset.mem_univ _) e), sel_pos ((h q).mpr rfl)]

variable {A : Args} {b : Fin 8} {p : Fin 22536} {w : BitVec 32} {ov : Vec Ideal S1x8192 .f32} {ob : Vec Ideal S1x8192 .i32} {ia : Vec Ideal S20x1 .i32} {j : Fin 8192}

open Classical in
/-- A prior's code: minus its class and a quarter where positive, minus three quarters where negative, else zero. -/
def Args.code (A : Args) (b : Fin 8) (p : Fin 22536) : EReal :=
  if A.pos b p then 0 - ((((A.cls b p).toInt : ℝ) : EReal) + Ideal.ofBits .f32 0x3E800000#32)
  else if A.neg b p then Ideal.ofBits .f32 0xBF400000#32 else 0

theorem and_one {x y : BitVec 1} (hy : y = 1#1) : IntOp.andi x y = 1#1 ↔ x = 1#1 := by subst hy; revert x; decide
theorem and_zero {x y : BitVec 1} (hy : ¬ y = 1#1) : ¬ IntOp.andi x y = 1#1 := by revert x y; decide
theorem or_one {x y : BitVec 1} : IntOp.ori x y = 1#1 ↔ x = 1#1 ∨ y = 1#1 := by revert x y; decide

theorem oge_one {x y : EReal} : FloatOps.cmpf (F := Ideal) (φ := .f32) .oge x y = 1#1 ↔ y ≤ x := by
  change BitVec.ofBool (decide (y ≤ x)) = 1#1 ↔ _
  by_cases h : y ≤ x
  · rw [decide_eq_true h]; exact ⟨fun _ => h, fun _ => rfl⟩
  · rw [decide_eq_false h]; exact ⟨fun e => absurd e (by decide), fun e => absurd e h⟩
theorem olt_one {x y : EReal} : FloatOps.cmpf (F := Ideal) (φ := .f32) .olt x y = 1#1 ↔ x < y := by
  change BitVec.ofBool (decide (x < y)) = 1#1 ↔ _
  by_cases h : x < y
  · rw [decide_eq_true h]; exact ⟨fun _ => h, fun _ => rfl⟩
  · rw [decide_eq_false h]; exact ⟨fun e => absurd e (by decide), fun e => absurd e h⟩

section Inside

variable (L : Lane A b p w ov ob ia j) (hl : lane (Scalar.subi w 3#32) j = 1#1)
include L hl

theorem lane_pos : pos1 w ov ia (ix2 0 j) = 1#1 ↔ A.pos b p := by
  rw [pos1_apply, and_one hl, lane_ov L]
  exact oge_one
theorem lane_neg : ign1 w ov ia (ix2 0 j) = 1#1 ↔ A.neg b p := by
  rw [ign1_apply, and_one hl, lane_ov L]
  exact olt_one
theorem lane_mat : mat1 w ov ia (ix2 0 j) = 1#1 ↔ A.pos b p ∨ A.neg b p := by
  rw [mat1_apply, or_one, lane_pos L hl, lane_neg L hl]

/-- The code of a lane inside. -/
theorem lane_code (l : Vec Ideal S1x20x1 .i32) (hlab : ∀ o : Fin 20, l (ix3 0 o 0) = A.lab (ix2 b o)) (r : Fin 8) :
    @Eq EReal (code1 w ov ob ia l (ix3 0 r j)) (A.code b p) := by
  refine (code_form j _ _ _ _ r).trans ?_
  unfold Args.code
  rw [sum_one _ _ _ (lane_obj L)]
  by_cases hp : A.pos b p
  · rw [sel_pos ((lane_pos L hl).mpr hp), if_pos hp, hlab]
    rfl
  · rw [sel_neg (fun e => hp ((lane_pos L hl).mp e)), if_neg hp]
    by_cases hn : A.neg b p
    · rw [sel_pos ((lane_neg L hl).mpr hn), if_pos hn]
    · rw [sel_neg (fun e => hn ((lane_neg L hl).mp e)), if_neg hn]

/-- The matched box's corners. -/
theorem lane_corner (bx : Vec Ideal S1x20x4 .f32) (hb : ∀ (o : Fin 20) (k : Fin 4), @Eq EReal (bx (ix3 0 o k)) (A.box (ix3 b o k))) :
    ∀ k : Fin 4, @Eq EReal (cor1 k w bx ob ia (ix2 0 j)) (A.box (ix3 b (A.obj b p) k))
  | 0 => (corner_form _ _ _).trans ((sum_one _ _ _ (lane_obj L)).trans ((box_form0 _ _).trans (hb _ _)))
  | 1 => (corner_form1 _ _ _).trans ((sum_one _ _ _ (lane_obj L)).trans ((box_form1 _ _).trans (hb _ _)))
  | 2 => (corner_form2 _ _ _).trans ((sum_one _ _ _ (lane_obj L)).trans ((box_form2 _ _).trans (hb _ _)))
  | 3 => (corner_form3 _ _ _).trans ((sum_one _ _ _ (lane_obj L)).trans ((box_form3 _ _).trans (hb _ _)))

open Classical in
/-- The distance of a lane inside. -/
theorem lane_dist (pr : Vec Ideal S4x8192 .f32) (bx : Vec Ideal S1x20x4 .f32) (d : Vec Ideal S1x4x8192 .f32)
    (hpr : ∀ k : Fin 4, @Eq EReal (pr (ix2 k j)) (A.pri (ix2 p k))) (hd : ∀ k : Fin 4, @Eq EReal (d (ix3 0 k j)) (A.loc (ix3 b p k)))
    (hb : ∀ (o : Fin 20) (k : Fin 4), @Eq EReal (bx (ix3 0 o k)) (A.box (ix3 b o k))) :
    @Eq EReal (dist1 (pos1 w ov ia) pr d (cor1 0 w bx ob ia) (cor1 1 w bx ob ia) (cor1 2 w bx ob ia) (cor1 3 w bx ob ia) (ix2 0 j))
      (if A.pos b p then A.dist b p else 0) := by
  rw [dist1_apply]
  by_cases hp : A.pos b p
  · rw [sel_pos ((lane_pos L hl).mpr hp), if_pos hp, hpr 0, hpr 1, hpr 2, hpr 3, hd 0, hd 1, hd 2, hd 3, lane_corner L hl bx hb 0, lane_corner L hl bx hb 1,
      lane_corner L hl bx hb 2, lane_corner L hl bx hb 3]
    rfl
  · rw [sel_neg (fun e => hp ((lane_pos L hl).mp e)), if_neg hp]
    exact Ideal.ofBits_zero_f32

end Inside

section Outside

variable (hl : ¬ lane (Scalar.subi w 3#32) j = 1#1)
include hl

theorem out_pos : ¬ pos1 w ov ia (ix2 0 j) = 1#1 := by rw [pos1_apply]; exact and_zero hl
theorem out_neg : ¬ ign1 w ov ia (ix2 0 j) = 1#1 := by rw [ign1_apply]; exact and_zero hl
theorem out_mat : ¬ mat1 w ov ia (ix2 0 j) = 1#1 := by
  rw [mat1_apply, or_one]; exact not_or.mpr ⟨out_pos hl, out_neg hl⟩
theorem out_code (l : Vec Ideal S1x20x1 .i32) (r : Fin 8) : @Eq EReal (code1 w ov ob ia l (ix3 0 r j)) 0 := by
  refine (code_form j _ _ _ _ r).trans ?_
  rw [sel_neg (out_pos hl), sel_neg (out_neg hl)]
theorem out_dist (pr : Vec Ideal S4x8192 .f32) (d : Vec Ideal S1x4x8192 .f32) (c0 c1 c2 c3 : FVec Ideal S1x8192 .f32) :
    @Eq EReal (dist1 (pos1 w ov ia) pr d c0 c1 c2 c3 (ix2 0 j)) 0 := by
  rw [dist1_apply, sel_neg (out_pos hl)]
  exact Ideal.ofBits_zero_f32

end Outside

end Cert.Proof

end
-- ==== Proof.Sums.lean ====
/-
  Sums over the tiles of the grids, put together to sums over all images and priors.
-/
module

public import proofs.«01_k».proof.Proof.Spec
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- A sum over blocks of `m`. -/
theorem sum_blocks (m : ℕ) (F : ℕ → EReal) : ∀ B : ℕ, ∑ i ∈ Finset.range (m * B), F i = ∑ b ∈ Finset.range B, ∑ j ∈ Finset.range m, F (m * b + j)
  | 0 => by simp
  | B + 1 => by
    rw [Finset.sum_range_succ, ← sum_blocks m F B, Nat.mul_succ, Finset.sum_range_add]

/-- A row of priors, zero past its end. -/
def pad (f : Fin 22536 → EReal) (n : ℕ) : EReal := if h : n < 22536 then f ⟨n, h⟩ else 0

/-- A tile's part of a row, and the three parts. -/
def tilePart (f : Fin 22536 → EReal) (k : ℕ) : EReal := ∑ x : Fin 8192, pad f (8192 * k + x.val)

theorem sum_tiles (f : Fin 22536 → EReal) : tilePart f 0 + tilePart f 1 + tilePart f 2 = ∑ p, f p := by
  have h1 : ∑ n ∈ Finset.range (8192 * 3), pad f n = tilePart f 0 + tilePart f 1 + tilePart f 2 := by
    rw [sum_blocks, Finset.sum_range_succ, Finset.sum_range_succ, Finset.sum_range_succ, Finset.sum_range_zero, zero_add]
    unfold tilePart
    rw [Finset.sum_range, Finset.sum_range, Finset.sum_range]
  rw [← h1, show 8192 * 3 = 22536 + 2040 from rfl, Finset.sum_range_add, Finset.sum_range]
  have h2 : ∑ x ∈ Finset.range 2040, pad f (22536 + x) = 0 := Finset.sum_eq_zero fun x _ => dif_neg (by omega)
  rw [h2, add_zero]
  exact Finset.sum_congr rfl fun p _ => dif_pos p.isLt

/-- The image of a point's number. -/
def img (n : ℕ) : Fin 8 := ⟨n % 8, Nat.mod_lt _ (by decide)⟩

/-- The first call's points: three pass, three add a tile's part. -/
theorem sum_points6 (f : Fin 8 → Fin 22536 → EReal) :
    (∑ i ∈ Finset.range 48, if 3 ≤ i % 6 then tilePart (f (img (i / 6))) (i % 3) else 0) = ∑ b, ∑ p, f b p := by
  rw [show 48 = 6 * 8 from rfl, sum_blocks, Finset.sum_range]
  refine Finset.sum_congr rfl fun b _ => ?_
  have hb := b.isLt
  have e : ∀ j < 6, (if 3 ≤ (6 * b.val + j) % 6 then tilePart (f (img ((6 * b.val + j) / 6))) ((6 * b.val + j) % 3) else 0)
      = if 3 ≤ j then tilePart (f b) (j % 3) else 0 := fun j hj => by
    have h1 : (6 * b.val + j) % 6 = j := by omega
    have h2 : (6 * b.val + j) % 3 = j % 3 := by omega
    have h3 : img ((6 * b.val + j) / 6) = b := Fin.ext (by change (6 * b.val + j) / 6 % 8 = b.val; omega)
    rw [h1, h2, h3]
  rw [Finset.sum_congr rfl fun j hj => e j (Finset.mem_range.mp hj), ← sum_tiles (f b)]
  simp only [Finset.sum_range_succ, Finset.sum_range_zero]
  norm_num

/-- The second call's points. -/
theorem sum_points3 (f : Fin 8 → Fin 22536 → EReal) :
    (∑ i ∈ Finset.range 24, tilePart (f (img (i / 3))) (i % 3)) = ∑ b, ∑ p, f b p := by
  rw [show 24 = 3 * 8 from rfl, sum_blocks, Finset.sum_range]
  refine Finset.sum_congr rfl fun b _ => ?_
  have hb := b.isLt
  have e : ∀ j < 3, tilePart (f (img ((3 * b.val + j) / 3))) ((3 * b.val + j) % 3) = tilePart (f b) j := fun j hj => by
    have h2 : (3 * b.val + j) % 3 = j := by omega
    have h3 : img ((3 * b.val + j) / 3) = b := Fin.ext (by change (3 * b.val + j) / 3 % 8 = b.val; omega)
    rw [h2, h3]
  rw [Finset.sum_congr rfl fun j hj => e j (Finset.mem_range.mp hj), ← sum_tiles (f b)]
  simp only [Finset.sum_range_succ, Finset.sum_range_zero]
  norm_num

end Cert.Proof

end
-- ==== Proof.KerTotals.lean ====
/-
  The codes and the three totals the matching call leaves, in terms of the arguments.
-/
module

public import proofs.«01_k».proof.Proof.KerTile
public import proofs.«01_k».proof.Proof.Sums
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable {V : (c : Dev nD) → (b : Ref sig .tc) → Buf (Elt Ideal) ((c : Thread nD τ).loc b)} {c : Dev nD} {A : Args} (R : Reads V c A) (hF : A.Fit)

include R

/-- The first phase's best overlap and object of a prior. -/
theorem col_read (b : Fin 8) (k : ℕ) (hk : k < 3) (j : Fin 8192) (p : Fin 22536) (hp : p.val = 8192 * k + j.val) :
    @Eq EReal (OV V c (pt b.val k) (ix2 0 j)) (A.iou b (A.bestO b p) p) ∧ OB V c (pt b.val k) (ix2 0 j) = BitVec.ofNat 32 (A.bestO b p).val := by
  have hv := pt_val b k (by omega)
  have hb := b.isLt
  have h6 : (pt b.val k).val % 6 < 3 := by omega
  have h3 : (pt b.val k).val % 3 = k := by omega
  have hd : (pt b.val k).val / 6 = b.val := by omega
  have hf : ∀ o : Fin 20, @Eq EReal (iou1 (tile (grid0.coords (pt b.val k))) (pz V c (pt b.val k)) (bblk V c (pt b.val k)) (ix2 o j)) (A.iou b o p) := by
    intro o
    refine (iou_tile R (pt b.val k) h6 b hd o j).trans ?_
    have hlt := p.isLt
    rw [dif_pos (by rw [h3]; omega)]
    exact congrArg (A.iou b o) (Fin.ext (by change 8192 * ((pt b.val k).val % 3) + j.val = p.val; rw [h3]; omega))
  have hq : First (fun o => A.iou b o p) (A.bestO b p) := first_spec _
  have hm : Finset.fold max (Ideal.ofBits .f32 0xFF800000#32) (fun x : Fin 20 => iou1 (tile (grid0.coords (pt b.val k))) (pz V c (pt b.val k)) (bblk V c (pt b.val k)) (ix2 x j)) Finset.univ
      = A.iou b (A.bestO b p) p := (Finset.fold_congr fun x _ => hf x).trans hq.fold_max
  refine ⟨(ov_form _ _ _ _).trans hm, (ob_form _ _ _ _).trans ?_⟩
  have e := First.fold_minsi hq 0 64#32 2147483647#32 (by decide) (by decide) (by decide)
    (fun x : Fin 20 => if (iou1 (tile (grid0.coords (pt b.val k))) (pz V c (pt b.val k)) (bblk V c (pt b.val k)) (ix2 x j) : EReal) = Finset.fold max (Ideal.ofBits .f32 0xFF800000#32) (fun x : Fin 20 => iou1 (tile (grid0.coords (pt b.val k))) (pz V c (pt b.val k)) (bblk V c (pt b.val k)) (ix2 x j)) Finset.univ
      then BitVec.ofNat 32 x.val else 64#32) (fun x => by rw [hm, hf x, Nat.zero_add])
  rw [Nat.zero_add] at e
  exact e

include hF

/-- A second-phase point's lane is a prior's. -/
theorem lane_of (t : Fin cfg0.N) (ht : 3 ≤ t.val % 6) (b : Fin 8) (hb : t.val / 6 = b.val) (j : Fin 8192) (p : Fin 22536) (hp : p.val = 8192 * (t.val % 3) + j.val) :
    Lane A b p (tile (grid0.coords t)) (OV2 V c t.val) (OB2 V c t.val) (IA2 V c t.val) j := by
  have hk : t.val % 6 - 3 = t.val % 3 := by omega
  have hc := col_read R b (t.val % 3) (Nat.mod_lt _ (by decide)) j p hp
  refine ⟨?_, ?_, ?_, ?_⟩
  · rw [tile_hi t ht, hp]
    have hj := j.isLt
    have h3 : t.val % 3 < 3 := Nat.mod_lt _ (by decide)
    apply BitVec.eq_of_toNat_eq
    simp [IntOp.addi, Scalar.muli, IntOp.muli]
    omega
  · unfold OV2; rw [hk, hb]; exact hc.1
  · unfold OB2; rw [hk, hb]; exact hc.2
  · intro o
    unfold IA2
    rw [hb]
    exact ia_final R hF b o

theorem in_lane (t : Fin cfg0.N) (ht : 3 ≤ t.val % 6) (j : Fin 8192) : lane (Scalar.subi (tile (grid0.coords t)) 3#32) j = 1#1 ↔ 8192 * (t.val % 3) + j.val < 22536 := by
  rw [tile_hi t ht]
  exact lane_iff _ (Nat.mod_lt _ (by decide)) j

/-- The codes a point writes. -/
theorem code_read (t : Fin cfg0.N) (ht : 3 ≤ t.val % 6) (b : Fin 8) (hb : t.val / 6 = b.val) (r : Fin 8) (j : Fin 8192) :
    @Eq EReal (CODE V c t (ix3 0 r j)) (pad (A.code b) (8192 * (t.val % 3) + j.val)) := by
  unfold CODE pad
  by_cases h : 8192 * (t.val % 3) + j.val < 22536
  · rw [dif_pos h]
    exact lane_code (lane_of R hF t ht b hb j ⟨_, h⟩ rfl) ((in_lane R hF t ht j).mpr h) _ (lblk_read R t b hb) r
  · rw [dif_neg h]
    exact out_code (fun e => h ((in_lane R hF t ht j).mp e)) _ r

/-- A lane's part of the three totals. -/
theorem part_of (t : Fin cfg0.N) (ht : 3 ≤ t.val % 6) (f : Fin 8 → Fin 22536 → EReal) (g : Fin 8192 → EReal)
    (hin : ∀ (b : Fin 8) (j : Fin 8192) (p : Fin 22536), t.val / 6 = b.val → p.val = 8192 * (t.val % 3) + j.val →
      Lane A b p (tile (grid0.coords t)) (OV2 V c t.val) (OB2 V c t.val) (IA2 V c t.val) j → lane (Scalar.subi (tile (grid0.coords t)) 3#32) j = 1#1 → g j = f b p)
    (hout : ∀ j : Fin 8192, ¬ lane (Scalar.subi (tile (grid0.coords t)) 3#32) j = 1#1 → g j = 0) :
    ∑ j, g j = tilePart (f (img (t.val / 6))) (t.val % 3) := by
  have hN : t.val < 48 := N_0 ▸ t.isLt
  have hb : t.val / 6 = (img (t.val / 6)).val := by change t.val / 6 = t.val / 6 % 8; omega
  refine Finset.sum_congr rfl fun j _ => ?_
  unfold pad
  by_cases h : 8192 * (t.val % 3) + j.val < 22536
  · rw [dif_pos h]
    exact hin _ j ⟨_, h⟩ hb rfl (lane_of R hF t ht _ hb j ⟨_, h⟩ rfl) ((in_lane R hF t ht j).mpr h)
  · rw [dif_neg h]
    exact hout j (fun e => h ((in_lane R hF t ht j).mp e))

open Classical in
theorem am_read : ∀ n ≤ 48, @Eq EReal (AM V c n (ix2 0 0)) (∑ i ∈ Finset.range n, if 3 ≤ i % 6 then tilePart (fun p => if A.pos (img (i / 6)) p ∨ A.neg (img (i / 6)) p then 1 else 0) (i % 3) else 0)
  | 0, _ => by
    have : (k0_pay2 (F := Ideal) (ix2 0 0) : EReal) = 0 := by pointwise [k0_pay2, k0_pay1]
    exact this
  | n + 1, hn => by
    have ih := am_read n (by omega)
    rw [Finset.sum_range_succ, ← ih, AM]
    by_cases h : 3 ≤ n % 6
    · rw [if_pos h, if_pos h]
      have hv : (pt 0 n).val = n := by change (6 * 0 + n) % 48 = n; omega
      refine (count_form _ _).trans (congrArg (_ + ·) ?_)
      have e := part_of R hF (pt 0 n) (by rw [hv]; exact h) (fun b p => if A.pos b p ∨ A.neg b p then 1 else 0) (fun j => Scalar.select (mat1 (tile (grid0.coords (pt 0 n))) (OV2 V c (pt 0 n).val) (IA2 V c (pt 0 n).val) (ix2 0 j)) (1 : EReal) 0)
        (fun b j p _ _ L hl => by
          by_cases hq : A.pos b p ∨ A.neg b p
          · rw [sel_pos ((lane_mat L hl).mpr hq), if_pos hq]
          · rw [sel_neg (fun e => hq ((lane_mat L hl).mp e)), if_neg hq])
        (fun j hl => sel_neg (out_mat hl) _ _)
      rw [hv] at e
      exact e
    · rw [if_neg h, if_neg h, add_zero]

open Classical in
theorem ap_read : ∀ n ≤ 48, @Eq EReal (AP V c n (ix2 0 0)) (∑ i ∈ Finset.range n, if 3 ≤ i % 6 then tilePart (fun p => if A.pos (img (i / 6)) p then 1 else 0) (i % 3) else 0)
  | 0, _ => by
    have : (k0_pay3 (F := Ideal) (ix2 0 0) : EReal) = 0 := by pointwise [k0_pay3, k0_pay1]
    exact this
  | n + 1, hn => by
    have ih := ap_read n (by omega)
    rw [Finset.sum_range_succ, ← ih, AP]
    by_cases h : 3 ≤ n % 6
    · rw [if_pos h, if_pos h]
      have hv : (pt 0 n).val = n := by change (6 * 0 + n) % 48 = n; omega
      refine (count_form' _ _).trans (congrArg (_ + ·) ?_)
      have e := part_of R hF (pt 0 n) (by rw [hv]; exact h) (fun b p => if A.pos b p then 1 else 0) (fun j => Scalar.select (pos1 (tile (grid0.coords (pt 0 n))) (OV2 V c (pt 0 n).val) (IA2 V c (pt 0 n).val) (ix2 0 j)) (1 : EReal) 0)
        (fun b j p _ _ L hl => by
          by_cases hq : A.pos b p
          · rw [sel_pos ((lane_pos L hl).mpr hq), if_pos hq]
          · rw [sel_neg (fun e => hq ((lane_pos L hl).mp e)), if_neg hq])
        (fun j hl => sel_neg (out_pos hl) _ _)
      rw [hv] at e
      exact e
    · rw [if_neg h, if_neg h, add_zero]

open Classical in
theorem ad_read : ∀ n ≤ 48, @Eq EReal (AD V c n (ix2 0 0)) (∑ i ∈ Finset.range n, if 3 ≤ i % 6 then tilePart (fun p => if A.pos (img (i / 6)) p then A.dist (img (i / 6)) p else 0) (i % 3) else 0)
  | 0, _ => by
    have : (k0_pay4 (F := Ideal) (ix2 0 0) : EReal) = 0 := by pointwise [k0_pay4, k0_pay1]
    exact this
  | n + 1, hn => by
    have ih := ad_read n (by omega)
    rw [Finset.sum_range_succ, ← ih, AD]
    by_cases h : 3 ≤ n % 6
    · rw [if_pos h, if_pos h, ad1_eq]
      have hv : (pt 0 n).val = n := by change (6 * 0 + n) % 48 = n; omega
      have h' : 3 ≤ (pt 0 n).val % 6 := by rw [hv]; exact h
      refine (dist_sum_form _ _).trans (congrArg (_ + ·) ?_)
      have e := part_of R hF (pt 0 n) h' (fun b p => if A.pos b p then A.dist b p else 0) (fun j => dist1 (pos1 (tile (grid0.coords (pt 0 n))) (OV2 V c (pt 0 n).val) (IA2 V c (pt 0 n).val)) (pz V c (pt 0 n)) (dz V c (pt 0 n))
          (cor1 0 (tile (grid0.coords (pt 0 n))) (bblk V c (pt 0 n)) (OB2 V c (pt 0 n).val) (IA2 V c (pt 0 n).val)) (cor1 1 (tile (grid0.coords (pt 0 n))) (bblk V c (pt 0 n)) (OB2 V c (pt 0 n).val) (IA2 V c (pt 0 n).val))
          (cor1 2 (tile (grid0.coords (pt 0 n))) (bblk V c (pt 0 n)) (OB2 V c (pt 0 n).val) (IA2 V c (pt 0 n).val)) (cor1 3 (tile (grid0.coords (pt 0 n))) (bblk V c (pt 0 n)) (OB2 V c (pt 0 n).val) (IA2 V c (pt 0 n).val)) (ix2 0 j))
        (fun b j p hb hp L hl => lane_dist L hl _ _ _ (fun k => pz_read R (pt 0 n) k j p hp) (fun k => dz_read R (pt 0 n) h' b hb k j p hp) (bblk_read R (pt 0 n) b hb))
        (fun j hl => out_dist hl _ _ _ _ _ _)
      rw [hv] at e
      exact e
    · rw [if_neg h, if_neg h, add_zero]

/-- The three totals the matching call leaves. -/
theorem am_total : @Eq EReal (AM V c 48 (ix2 0 0)) A.totM := by
  classical
  exact (am_read R hF 48 le_rfl).trans (sum_points6 fun b p => if A.pos b p ∨ A.neg b p then 1 else 0)
theorem ap_total : @Eq EReal (AP V c 48 (ix2 0 0)) A.totP := by
  classical
  exact (ap_read R hF 48 le_rfl).trans (sum_points6 fun b p => if A.pos b p then 1 else 0)
theorem ad_total : @Eq EReal (AD V c 48 (ix2 0 0)) A.totD := by
  classical
  exact (ad_read R hF 48 le_rfl).trans (sum_points6 fun b p => if A.pos b p then A.dist b p else 0)

end Cert.Proof

end
-- ==== Proof.KerArrays.lean ====
/-
  What the matching call leaves in its four arrays, the codes and the three totals, and what the second call reads
  of them.
-/
module

public import proofs.«01_k».proof.Proof.KerTotals
public import proofs.«01_k».proof.Proof.Calls
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
theorem flush_4 : ∀ t : Fin cfg0.N, (cfg0.win 4).flush t = true ↔ 3 ≤ t.val % 6 := by decide +kernel
/-- The first call's last point. -/
abbrev last0 : Fin cfg0.N := ⟨47, by decide⟩
theorem flush_5 : (cfg0.win 5).flush last0 = true := by decide +kernel
theorem flush_6 : (cfg0.win 6).flush last0 = true := by decide +kernel
theorem flush_7 : (cfg0.win 7).flush last0 = true := by decide +kernel

/-- The second call's blocks. -/
theorem index1_0 : ∀ t : Fin grid1.N, win1_0.index t 0 = t.val / 3 ∧ win1_0.index t 1 = t.val % 3 ∧ win1_0.index t 2 = 0 := by decide +kernel
theorem index1_1 : ∀ t : Fin grid1.N, win1_1.index t 0 = t.val / 3 ∧ win1_1.index t 1 = 0 ∧ win1_1.index t 2 = t.val % 3 := by decide +kernel
theorem xsize1_0 : ∀ t : Fin grid1.N, win1_0.xsize (grid1.coords t) 0 = 1 ∧ min 8192 (22536 - 8192 * (t.val % 3)) ≤ win1_0.xsize (grid1.coords t) 1
    ∧ win1_0.xsize (grid1.coords t) 2 = 81 := by decide +kernel

/-- The codes over all images and tiles. -/
def Args.codes (A : Args) : S8x8x24576.Idx → EReal := fun i => pad (A.code (i 0)) (i 2).val

/-- An index of the codes' block inside its array. -/
theorem code_emb (t : Fin cfg0.N) (ht : 3 ≤ t.val % 6) (b : Fin 8) (hb : t.val / 6 = b.val) (r : Fin 8) (j : Fin 8192) (n : Fin 24576) (hn : n.val = 8192 * (t.val % 3) + j.val) :
    ((win0_4.blk t).view.emb (ix3 0 r j) : S8x8x24576.Idx) = ix3 b r n := by
  obtain ⟨h0, h1, h2⟩ := index0_4 t ht
  refine funext fun a => Fin.ext ?_
  match a with
  | 0 => change win0_4.index t 0 * 1 + 1 * 0 = b.val; rw [h0]; omega
  | 1 => change win0_4.index t 1 * 8 + 1 * r.val = r.val; rw [h1]; omega
  | 2 => change win0_4.index t 2 * 8192 + 1 * j.val = n.val; rw [h2]; omega

/-- The codes' array after the matching call. -/
theorem code_array (V : (c : Dev nD) → (b : Ref sig .tc) → Buf (Elt Ideal) ((c : Thread nD τ).loc b)) (c : Dev nD) {A : Args} (R : Reads V c A) (hF : A.Fit) : @Eq (S8x8x24576.Idx → EReal) ((dat0 V c).arrAt 4 48) A.codes := by
  refine (dat0 V c).arrAt_eq_of_cover (4 : Fin 8) A.codes ?_ ?_
  · intro t hf
    have ht := (flush_4 t).mp hf
    have hN : t.val < 48 := N_0 ▸ t.isLt
    funext x
    obtain ⟨z, r, j, rfl⟩ : ∃ (z : Fin 1) (r : Fin 8) (j : Fin 8192), x = ix3 z r j := ⟨x 0, x 1, x 2, eq_ix3 x⟩
    obtain rfl : z = 0 := Subsingleton.elim _ _
    have hb : t.val / 6 = (img (t.val / 6)).val := by change t.val / 6 = t.val / 6 % 8; omega
    have hj := j.isLt
    have e := code_emb t ht (img (t.val / 6)) hb r j ⟨8192 * (t.val % 3) + j.val, by omega⟩ rfl
    refine (code_read R hF t ht (img (t.val / 6)) hb r j).trans ?_
    exact (congrArg A.codes e).symm
  · intro i
    obtain ⟨b, r, n, rfl⟩ : ∃ (b : Fin 8) (r : Fin 8) (n : Fin 24576), i = ix3 b r n := ⟨i 0, i 1, i 2, eq_ix3 i⟩
    have hb := b.isLt
    have hn := n.isLt
    have hk : n.val / 8192 < 3 := by omega
    have hv : (pt b.val (3 + n.val / 8192)).val = 6 * b.val + (3 + n.val / 8192) := pt_val b _ (by omega)
    have ht : 3 ≤ (pt b.val (3 + n.val / 8192)).val % 6 := by omega
    refine ⟨pt b.val (3 + n.val / 8192), (flush_4 _).mpr ht, ?_⟩
    have e := code_emb (pt b.val (3 + n.val / 8192)) ht b (by omega) r ⟨n.val % 8192, Nat.mod_lt _ (by decide)⟩ n (by
      change n.val = 8192 * ((pt b.val (3 + n.val / 8192)).val % 3) + n.val % 8192; omega)
    rw [← e]
    exact (win0_4.blk (pt b.val (3 + n.val / 8192))).view.emb_mem_set _

section Gen
variable (V : (c : Dev nD) → (b : Ref sig .tc) → Buf (Elt Ideal) ((c : Thread nD τ).loc b)) (c : Dev nD) (G : S1x1.Idx → EReal)
/-- An array of one entry, written last at the call's last point, holds what every point leaves. -/
theorem sm_gen (e : ∀ t, @Eq (S1x1.Idx → EReal) ((dat0 V c).after (5 : Fin 8) t) G) (i : S1x1.Idx) : @Eq EReal ((dat0 V c).arrAt 5 48 i) (G i) := by
  refine (dat0 V c).arrAt_apply_of_mem (5 : Fin 8) G (fun t _ => ?_) 48 last0 i (by decide) flush_5 ?_
  · funext x
    exact (congrFun (e t) _).trans (congrArg G (one_eq _ _))
  · have hx : ((cfg0.win (5 : Fin 8)).blk last0).view.emb (ix2 0 0 : S1x1.Idx) = i := one_eq _ _
    rw [← hx]
    exact ((cfg0.win (5 : Fin 8)).blk last0).view.emb_mem_set _
theorem sp_gen (e : ∀ t, @Eq (S1x1.Idx → EReal) ((dat0 V c).after (6 : Fin 8) t) G) (i : S1x1.Idx) : @Eq EReal ((dat0 V c).arrAt 6 48 i) (G i) := by
  refine (dat0 V c).arrAt_apply_of_mem (6 : Fin 8) G (fun t _ => ?_) 48 last0 i (by decide) flush_6 ?_
  · funext x
    exact (congrFun (e t) _).trans (congrArg G (one_eq _ _))
  · have hx : ((cfg0.win (6 : Fin 8)).blk last0).view.emb (ix2 0 0 : S1x1.Idx) = i := one_eq _ _
    rw [← hx]
    exact ((cfg0.win (6 : Fin 8)).blk last0).view.emb_mem_set _
theorem sd_gen (e : ∀ t, @Eq (S1x1.Idx → EReal) ((dat0 V c).after (7 : Fin 8) t) G) (i : S1x1.Idx) : @Eq EReal ((dat0 V c).arrAt 7 48 i) (G i) := by
  refine (dat0 V c).arrAt_apply_of_mem (7 : Fin 8) G (fun t _ => ?_) 48 last0 i (by decide) flush_7 ?_
  · funext x
    exact (congrFun (e t) _).trans (congrArg G (one_eq _ _))
  · have hx : ((cfg0.win (7 : Fin 8)).blk last0).view.emb (ix2 0 0 : S1x1.Idx) = i := one_eq _ _
    rw [← hx]
    exact ((cfg0.win (7 : Fin 8)).blk last0).view.emb_mem_set _

/-- The second call's block of codes is a run of the array. -/
theorem kblk_gen (t : Fin cfg1.N) (b : Fin 8) (hb : t.val / 3 = b.val) (r : Fin 8) (j : Fin 8192) (n : Fin 24576) (hn : n.val = 8192 * (t.val % 3) + j.val) :
    kblk V c t (ix3 0 r j) = V c main_v3_0 (ix3 b r n) := by
  obtain ⟨h0, h1, h2⟩ := index1_1 t
  refine congrArg (V c main_v3_0) ?_
  refine funext fun a => Fin.ext ?_
  match a with
  | 0 => change win1_1.index t 0 * 1 + 1 * 0 = b.val; rw [h0]; omega
  | 1 => change win1_1.index t 1 * 8 + 1 * r.val = r.val; rw [h1]; omega
  | 2 => change win1_1.index t 2 * 8192 + 1 * j.val = n.val; rw [h2]; omega

/-- Each total is read whole. -/
theorem tot2_gen (t : Fin cfg1.N) (i : S1x1.Idx) : tot2 V c t i = V c main_v3_1 (ix2 0 0) := congrArg (V c main_v3_1) (one_eq _ _)
theorem tot3_gen (t : Fin cfg1.N) (i : S1x1.Idx) : tot3 V c t i = V c main_v3_2 (ix2 0 0) := congrArg (V c main_v3_2) (one_eq _ _)
theorem tot4_gen (t : Fin cfg1.N) (i : S1x1.Idx) : tot4 V c t i = V c main_v3_3 (ix2 0 0) := congrArg (V c main_v3_3) (one_eq _ _)

variable {V c} {A : Args} (R : Reads V c A) (hF : A.Fit)
include R hF

/-- The three totals the matching call leaves. -/
theorem sm_array (i : S1x1.Idx) : @Eq EReal ((dat0 V c).arrAt 5 48 i) A.totM :=
  (sm_gen V c (AM V c 48) (fun _ => rfl) i).trans ((congrArg (AM V c 48) (one_eq i (ix2 0 0))).trans (am_total R hF))
theorem sp_array (i : S1x1.Idx) : @Eq EReal ((dat0 V c).arrAt 6 48 i) A.totP :=
  (sp_gen V c (AP V c 48) (fun _ => rfl) i).trans ((congrArg (AP V c 48) (one_eq i (ix2 0 0))).trans (ap_total R hF))
theorem sd_array (i : S1x1.Idx) : @Eq EReal ((dat0 V c).arrAt 7 48 i) A.totD :=
  (sd_gen V c (AD V c 48) (fun _ => rfl) i).trans ((congrArg (AD V c 48) (one_eq i (ix2 0 0))).trans (ad_total R hF))
end Gen

/-- What the second call is entered with: the codes, the totals and the scores. -/
structure Reads2 (V : (c : Dev nD) → (b : Ref sig .tc) → Buf (Elt Ideal) ((c : Thread nD τ).loc b)) (c : Dev nD) (A : Args) : Prop where
  codes : @Eq (S8x8x24576.Idx → EReal) (V c main_v3_0) A.codes
  totM : @Eq EReal (V c main_v3_1 (ix2 0 0)) A.totM
  totP : @Eq EReal (V c main_v3_2 (ix2 0 0)) A.totP
  totD : @Eq EReal (V c main_v3_3 (ix2 0 0)) A.totD
  sc : ∀ (b : Fin 8) (p : Fin 22536) (k : Fin 81), @Eq EReal (V c main_arg1 (ix3 b p k)) (A.sc (ix3 b p k))

variable {V : (c : Dev nD) → (b : Ref sig .tc) → Buf (Elt Ideal) ((c : Thread nD τ).loc b)} {c : Dev nD} {A : Args} (R2 : Reads2 V c A)
include R2

/-- The totals as the second call reads them. -/
theorem tot2_read (t : Fin cfg1.N) (i : S1x1.Idx) : @Eq EReal (tot2 V c t i) A.totM := (tot2_gen V c t i).trans R2.totM
theorem tot3_read (t : Fin cfg1.N) (i : S1x1.Idx) : @Eq EReal (tot3 V c t i) A.totP := (tot3_gen V c t i).trans R2.totP
theorem tot4_read (t : Fin cfg1.N) (i : S1x1.Idx) : @Eq EReal (tot4 V c t i) A.totD := (tot4_gen V c t i).trans R2.totD

/-- The codes as the second call reads them. -/
theorem kblk_read (t : Fin cfg1.N) (b : Fin 8) (hb : t.val / 3 = b.val) (r : Fin 8) (j : Fin 8192) :
    @Eq EReal (kblk V c t (ix3 0 r j)) (pad (A.code b) (8192 * (t.val % 3) + j.val)) := by
  have hj := j.isLt
  exact (kblk_gen V c t b hb r j ⟨8192 * (t.val % 3) + j.val, by omega⟩ rfl).trans (congrFun R2.codes _)

/-- The scores as the second call reads them, inside the array. -/
theorem sblk_read (t : Fin cfg1.N) (d : S1x8192x81.Idx → Elt Ideal .f32) (b : Fin 8) (hb : t.val / 3 = b.val) (j : Fin 8192) (p : Fin 22536)
    (hp : p.val = 8192 * (t.val % 3) + j.val) (k : Fin 81) : @Eq EReal (sblk V c t d (ix3 0 j k)) (A.sc (ix3 b p k)) := by
  have hm : win1_0.moved (grid1.coords t) (ix3 0 j k) = true := (win1_0.moved_iff _ _).mpr fun a => by
    obtain ⟨h0, h1, h2⟩ := xsize1_0 t
    have hj := j.isLt
    have hk := k.isLt
    have hp' := p.isLt
    match a with
    | 0 => rw [h0]; exact Nat.one_pos
    | 1 => exact lt_of_lt_of_le (by change j.val < _; omega) h1
    | 2 => rw [h2]; exact hk
  rw [← R2.sc b p k]
  unfold sblk sx Pipeline.Window.fill
  rw [dif_pos hm]
  refine congrArg (V c main_arg1) ?_
  obtain ⟨h0, h1, h2⟩ := index1_0 t
  refine funext fun a => Fin.ext ?_
  match a with
  | 0 => change win1_0.index t 0 * 1 + 1 * 0 = b.val; rw [h0]; omega
  | 1 => change win1_0.index t 1 * 8192 + 1 * j.val = p.val; rw [h1]; omega
  | 2 => change win1_0.index t 2 * 81 + 1 * k.val = k.val; rw [h2]; omega

end Cert.Proof

end
-- ==== Proof.KerFocal.lean ====
/-
  A lane of the second call: the class its code holds, and its focal term.
-/
module

public import proofs.«01_k».proof.Proof.KerTile
public import proofs.«01_k».proof.Proof.R1
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
section Forms

variable (s : Vec Ideal S1x8192x81 .f32) (k : Vec Ideal S1x8x8192 .f32) (j : Fin 8192)

theorem pay4_form : (k1_pay4 k (ix2 j 0) : EReal) = k (ix3 0 0 j) := by pointwise [k1_pay4]

theorem pay5_form1 : (k1_pay5 s k (ix2 j 0) : EReal)
    = ∑ x : Fin 81, Scalar.select (IntOp.cmpi .eq (BitVec.ofNat 32 x.val) (FloatOps.fptosi (F := Ideal) (φ := .f32) 32 (Ideal.liftRound Int.floor (0 - k (ix3 0 0 j)))))
        (s (ix3 0 j x) - top (fun x => s (ix3 0 j x)) : EReal) 0 - Ideal.log (∑ x : Fin 81, Ideal.exp (s (ix3 0 j x) - top (fun x => s (ix3 0 j x)))) := by
  unfold top
  pointwise [k1_pay5, k1_pay4]

theorem pay6_form1 : (k1_pay6 s k (ix2 j 0) : EReal) = (if (k (ix3 0 0 j) : EReal) < Ideal.ofBits .f32 0xBF800000#32 then Ideal.ofBits .f32 0xBE800000#32 else k (ix3 0 0 j))
      * ((1 - Ideal.exp (k1_pay5 s k (ix2 j 0))) * (1 - Ideal.exp (k1_pay5 s k (ix2 j 0)))) := by
  pointwise [k1_pay6, k1_pay4]

theorem fl_form (a : Vec Ideal S1x1 .f32) : (fl1 s k a (ix2 0 0) : EReal) = a (ix2 0 0) + ∑ j : Fin 8192, if (k (ix3 0 0 j) : EReal) < 0 then (k1_pay6 s k (ix2 j 0) : EReal) * k1_pay5 s k (ix2 j 0) else 0 := by
  have h : (fl1 s k a (ix2 0 0) : EReal) = a (ix2 0 0) + ∑ j : Fin 8192, ∑ _i : Fin 1, if (k1_pay4 k (ix2 j 0) : EReal) < 0 then (k1_pay6 s k (ix2 j 0) : EReal) * k1_pay5 s k (ix2 j 0) else 0 := by
    unfold fl1
    pointwise [k1_pay1]
  rw [h]
  refine congrArg (_ + ·) (Finset.sum_congr rfl fun j _ => ?_)
  rw [Fin.sum_univ_one, pay4_form]

end Forms

/-- The whole part of a class and a fraction, as a class word. -/
theorem class_word (z : ℤ) (h0 : 0 ≤ z) (h1 : z < 81) (r : ℝ) (hr0 : 0 ≤ r) (hr1 : r < 1) :
    FloatOps.fptosi (F := Ideal) (φ := .f32) 32 (Ideal.liftRound Int.floor ((((z : ℝ) + r : ℝ)) : EReal)) = BitVec.ofInt 32 z := by
  have hf : ⌊(z : ℝ) + r⌋ = z := by
    rw [Int.floor_eq_iff]; constructor <;> linarith
  change Ideal.fptosi 32 (Ideal.liftRound Int.floor ((((z : ℝ) + r : ℝ)) : EReal)) = _
  rw [Ideal.liftRound_coe, hf]
  unfold Ideal.fptosi
  rw [Ideal.toIntClamped_coe, if_pos (by exact_mod_cast h0), Int.floor_intCast]
  congr 1
  norm_num
  omega

/-- A lane's log-probability, by the class its code holds. -/
theorem lane_logp (s : Vec Ideal S1x8192x81 .f32) (k : Vec Ideal S1x8x8192 .f32) (j : Fin 8192) (q : Fin 81)
    (h : FloatOps.fptosi (F := Ideal) (φ := .f32) 32 (Ideal.liftRound Int.floor (0 - k (ix3 0 0 j))) = BitVec.ofNat 32 q.val) :
    (k1_pay5 s k (ix2 j 0) : EReal) = logp (fun x => s (ix3 0 j x)) q := by
  have hq := q.isLt
  refine (pay5_form1 s k j).trans ?_
  rw [h]
  unfold logp
  rw [sum_one (fun x : Fin 81 => IntOp.cmpi .eq (BitVec.ofNat 32 x.val) (BitVec.ofNat 32 q.val)) (fun x => s (ix3 0 j x) - top (fun x => s (ix3 0 j x))) q fun r => ?_]
  have hr := r.isLt
  rw [cmpi_eq_one]
  exact ⟨fun e => Fin.ext (ofNat_inj (by omega) (by omega) e), fun e => by rw [e]⟩

theorem lane_focal (s : Vec Ideal S1x8192x81 .f32) (k : Vec Ideal S1x8x8192 .f32) (j : Fin 8192) (a : EReal) (q : Fin 81)
    (h : FloatOps.fptosi (F := Ideal) (φ := .f32) 32 (Ideal.liftRound Int.floor (0 - k (ix3 0 0 j))) = BitVec.ofNat 32 q.val)
    (ha : (if (k (ix3 0 0 j) : EReal) < Ideal.ofBits .f32 0xBF800000#32 then Ideal.ofBits .f32 0xBE800000#32 else k (ix3 0 0 j)) = a) (hn : (k (ix3 0 0 j) : EReal) < 0) :
    (if (k (ix3 0 0 j) : EReal) < 0 then (k1_pay6 s k (ix2 j 0) : EReal) * k1_pay5 s k (ix2 j 0) else 0) = focalS a (logp (fun x => s (ix3 0 j x)) q) := by
  rw [if_pos hn, pay6_form1, lane_logp s k j q h, ha]
  rfl

variable {A : Args} (hF : A.Fit) (b : Fin 8) (p : Fin 22536)

include hF in
/-- A lane's focal term, by its code. -/
theorem code_focal (s : Vec Ideal S1x8192x81 .f32) (k : Vec Ideal S1x8x8192 .f32) (j : Fin 8192) (hk : @Eq EReal (k (ix3 0 0 j)) (A.code b p))
    (hs : (fun x : Fin 81 => (s (ix3 0 j x) : EReal)) = fun x => A.sc (ix3 b p x)) :
    (if (k (ix3 0 0 j) : EReal) < 0 then (k1_pay6 s k (ix2 j 0) : EReal) * k1_pay5 s k (ix2 j 0) else 0) = A.focal b p := by
  have hl : (1 : ℤ) ≤ (A.cls b p).toInt := hF.lo b _
  have hh : (A.cls b p).toInt < 81 := hF.hi b _
  unfold Args.focal
  unfold Args.code at hk
  rw [← hs]
  by_cases hp : A.pos b p
  · rw [if_pos hp] at hk ⊢
    have hz : (1 : ℝ) ≤ ((A.cls b p).toInt : ℝ) := by exact_mod_cast hl
    have hc : (0 - ((((A.cls b p).toInt : ℝ) : EReal) + Ideal.ofBits .f32 0x3E800000#32)) = ((-(((A.cls b p).toInt : ℝ) + 1 / 4) : ℝ) : EReal) := by
      rw [Consts.of_quarter, ← EReal.coe_add, zero_sub, ← EReal.coe_neg]
    rw [hc] at hk
    have hnat : (A.cls b p).toNat < 81 ∧ ((A.cls b p).toInt) = ((A.cls b p).toNat : ℤ) := by
      have h1 := BitVec.toInt_eq_toNat_cond (A.cls b p)
      have h2 := (A.cls b p).isLt
      rw [h1] at hl hh ⊢
      split at hl <;> split <;> constructor <;> omega
    refine lane_focal s k j _ (toClass (A.cls b p)) ?_ ?_ ?_
    · rw [hk, zero_sub, ← EReal.coe_neg, neg_neg, class_word _ (by omega) hh _ (by norm_num) (by norm_num), hnat.2]
      unfold toClass
      rw [dif_pos hnat.1, BitVec.ofInt_natCast]
    · rw [hk, if_pos]
      rw [Consts.of_neg_one]
      exact EReal.coe_lt_coe_iff.mpr (by linarith)
    · rw [hk]
      exact EReal.coe_neg'.mpr (by linarith)
  · rw [if_neg hp] at hk ⊢
    by_cases hn : A.neg b p
    · rw [if_pos hn] at hk ⊢
      refine lane_focal s k j _ 0 ?_ ?_ ?_
      · rw [hk, Consts.of_neg_three_quarters, zero_sub, ← EReal.coe_neg]
        have := class_word 0 le_rfl (by decide) (3 / 4) (by norm_num) (by norm_num)
        rw [Int.cast_zero, zero_add] at this
        rw [neg_neg, this]
        rfl
      · rw [hk, if_neg]
        rw [Consts.of_neg_three_quarters, Consts.of_neg_one]
        exact not_lt.mpr (EReal.coe_le_coe_iff.mpr (by norm_num))
      · rw [hk, Consts.of_neg_three_quarters]
        exact EReal.coe_neg'.mpr (by norm_num)
    · rw [if_neg hn] at hk ⊢
      rw [hk, if_neg (lt_irrefl _)]

theorem out_focal (s : Vec Ideal S1x8192x81 .f32) (k : Vec Ideal S1x8x8192 .f32) (j : Fin 8192) (hk : @Eq EReal (k (ix3 0 0 j)) 0) :
    (if (k (ix3 0 0 j) : EReal) < 0 then (k1_pay6 s k (ix2 j 0) : EReal) * k1_pay5 s k (ix2 j 0) else 0) = 0 := by
  rw [hk, if_neg (lt_irrefl _)]

end Cert.Proof

end
-- ==== Proof.KerLoss.lean ====
/-
  The second call: each point adds its tile of focal terms to the accumulator, and the last turns the sum and the three
  totals into the loss.
-/
module

public import proofs.«01_k».proof.Proof.KerArrays
public import proofs.«01_k».proof.Proof.KerFocal
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- The predicate the accumulator keeps: after `t` points, the parts of the first `t` tiles. -/
def Inv (A : Args) (t : ℕ) (a : Vec Ideal S1x1 .f32) : Prop :=
  @Eq EReal (a (ix2 0 0)) (∑ i ∈ Finset.range t, tilePart (A.focal (img (i / 3))) (i % 3))

theorem zero_form : @Eq EReal (k1_pay3 (F := Ideal) (ix2 0 0)) 0 := by pointwise [k1_pay3]

theorem loss_form (a b c d : Vec Ideal S1x1 .f32) : (k1_pay2 a b c d (ix2 0 0) : EReal)
    = Ideal.div (a (ix2 0 0)) (max (b (ix2 0 0)) 1) + Ideal.div (c (ix2 0 0)) (max ((d (ix2 0 0) : EReal) * Ideal.ofBits .f32 0x40800000#32) 1) := by
  pointwise [k1_pay2]

variable {V : (c : Dev nD) → (b : Ref sig .tc) → Buf (Elt Ideal) ((c : Thread nD τ).loc b)} {c : Dev nD} {A : Args} (R2 : Reads2 V c A) (hF : A.Fit)
include R2 hF

/-- A point adds its tile's part, whatever lies past the scores' end. -/
theorem tile_sum (t : Fin cfg1.N) (d : S1x8192x81.Idx → Elt Ideal .f32) :
    (∑ j : Fin 8192, if (kblk V c t (ix3 0 0 j) : EReal) < 0 then (k1_pay6 (sblk V c t d) (kblk V c t) (ix2 j 0) : EReal) * k1_pay5 (sblk V c t d) (kblk V c t) (ix2 j 0) else 0)
      = tilePart (A.focal (img (t.val / 3))) (t.val % 3) := by
  have hN : t.val < 24 := N_1 ▸ t.isLt
  have hb : t.val / 3 = (img (t.val / 3)).val := by change t.val / 3 = t.val / 3 % 8; omega
  unfold tilePart
  refine Finset.sum_congr rfl fun j _ => ?_
  have hk := kblk_read R2 t (img (t.val / 3)) hb 0 j
  unfold pad at hk ⊢
  by_cases h : 8192 * (t.val % 3) + j.val < 22536
  · rw [dif_pos h] at hk ⊢
    exact code_focal hF _ _ (sblk V c t d) (kblk V c t) j hk (funext fun x => sblk_read R2 t d _ hb j ⟨_, h⟩ rfl x)
  · rw [dif_neg h] at hk ⊢
    exact out_focal (sblk V c t d) (kblk V c t) j hk

/-- The predicate holds at the start and is kept. -/
theorem keeps : Keeps V (Inv A) c where
  zero := by unfold Inv; rw [Finset.range_zero, Finset.sum_empty]; exact zero_form
  step t d a ha := by
    unfold Inv at ha ⊢
    rw [Finset.sum_range_succ]
    exact (fl_form _ _ _).trans (congrArg₂ (fun x y : EReal => x + y) ha (tile_sum R2 hF t d))

/-- An accumulator that has kept it makes the loss. -/
theorem loss_of_inv (a : Vec Ideal S1x1 .f32) (ha : Inv A 24 a) (t : Fin cfg1.N) (i : S1x1.Idx) :
    @Eq EReal (k1_pay2 a (tot2 V c t) (tot4 V c t) (tot3 V c t) i) A.loss := by
  obtain rfl : i = ix2 0 0 := one_eq _ _
  unfold Inv at ha
  rw [sum_points3] at ha
  refine (loss_form _ _ _ _).trans ?_
  unfold Args.loss Args.totF
  exact congrArg₂ (fun x y : EReal => x + y) (congrArg₂ (fun x y : EReal => Ideal.div x (max y 1)) ha (tot2_read R2 t _))
    (congrArg₂ (fun x y : EReal => Ideal.div x (max (y * Ideal.ofBits .f32 0x40800000#32) 1)) (tot4_read R2 t _) (tot3_read R2 t _))

end Cert.Proof

end
-- ==== Proof.KerArgs.lean ====
/-
  The two calls on the program's arguments: what the first is entered with, what the second finds, and the loss that the
  result holds.
-/
module

public import proofs.«01_k».proof.Proof.KerLoss
public import proofs.«01_k».proof.Proof.Run
public import Idealize.ShloMosaic.Lib.StableHlo.RunRead
public import Idealize.ShloMosaic.Lib.StableHlo.ReadAt
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
variable (m : (ℓ : Loc nD τ sig) → Buf (Elt Ideal) ℓ) (c : Dev nD)

/-- The kernel's arguments. -/
def argsK : Args where
  loc := m ((c : Thread nD τ).loc main_arg0)
  sc := m ((c : Thread nD τ).loc main_arg1)
  box := m ((c : Thread nD τ).loc main_arg2)
  pri := m ((c : Thread nD τ).loc main_arg3)
  lab := m ((c : Thread nD τ).loc main_arg4)

section Host
variable (V : Valuation τ sig (Elt Ideal))

theorem host_pri (k : Fin 4) (p : Fin 22536) : @Eq EReal (StableHlo.after hostOps0 V (Proc.devRef .tc main_v0) (ix2 k p)) (V (Proc.devRef .tc main_arg3) (ix2 p k)) := by
  after_reads_simp
  pointwise
theorem host_lab (b : Fin 8) (o : Fin 20) : @Eq (BitVec 32) (StableHlo.after hostOps0 V (Proc.devRef .tc main_v1) (ix3 b o 0)) (V (Proc.devRef .tc main_arg4) (ix2 b o)) := by
  after_reads_simp
  pointwise
theorem host_loc (b : Fin 8) (k : Fin 4) (p : Fin 22536) : @Eq EReal (StableHlo.after hostOps0 V (Proc.devRef .tc main_v2) (ix3 b k p)) (V (Proc.devRef .tc main_arg0) (ix3 b p k)) := by
  after_reads_simp
  pointwise
theorem host_out (i : S_.Idx) : @Eq EReal (StableHlo.after hostOps2 V (Proc.devRef .tc main_v5) i) (V (Proc.devRef .tc main_v4) (ix2 0 0)) := by
  after_reads_simp
  pointwise
end Host

/-- The first call is entered with the arguments, laid out for it, -/
theorem reads1 : Reads (W1 m) c (argsK m c) where
  pri k p := host_pri (V0 m c) k p
  box b o k := congrFun (V1_of m c main_arg2 (by decide)) _
  lab b o := host_lab (V0 m c) b o
  loc b k p := host_loc (V0 m c) b k p

variable {m : (ℓ : Loc nD τ sig) → Buf (Elt Ideal) ℓ} (c : Dev nD) (hF : (argsK m c).Fit)
include hF

/-- and the second with what the first leaves. -/
theorem reads2 : Reads2 (W2 m) c (argsK m c) where
  codes := (U2_code m c).trans (code_array (W1 m) c (reads1 m c) hF)
  totM := (congrFun (U2_sm m c) _).trans (sm_array (reads1 m c) hF _)
  totP := (congrFun (U2_sp m c) _).trans (sp_array (reads1 m c) hF _)
  totD := (congrFun (U2_sd m c) _).trans (sd_array (reads1 m c) hF _)
  sc b p k := congrFun ((U2_of m c main_arg1 (by decide) (by decide) (by decide) (by decide)).trans (V1_of m c main_arg1 (by decide))) _

/-- The result holds the loss. -/
theorem out_loss (I : (c : Dev nD) → ℕ → Vec Ideal S1x1 .f32 → Prop) (hI : I c = Inv (argsK m c)) (X : { X // Loss m I c X }) (i : S_.Idx) :
    @Eq EReal (U4 m I c X main_v5 i) (argsK m c).loss := by
  refine (host_out (U3 m I c X) i).trans ((congrFun (U3_out m I c X) _).trans ?_)
  obtain ⟨a, ha, e⟩ := X.2
  rw [hI] at ha
  exact (congrFun e _).trans (loss_of_inv (reads2 c hF) hF a ha _ _)

end Cert.Proof

end
-- ==== Proof.RefIou.lean ====
/-
  The reference's arguments, and its overlaps of objects with priors read at an index.
-/
module

public import proofs.«01_k».proof.Proof.Gen.ReferenceIdeal.Run
public import proofs.«01_k».proof.Proof.Spec
public import Idealize.ShloMosaic.Lib.Pointwise
public import Idealize.ShloMosaic.PureOps.Ideal.Laws
public import Idealize.ShloMosaic.Lib.IdealHost
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The reference's arguments. -/
def argsR (V0 : Valuation τ sig (Elt Ideal)) : Args where
  loc := V0 (Proc.devRef .tc main_arg0)
  sc := V0 (Proc.devRef .tc main_arg1)
  box := V0 (Proc.devRef .tc main_arg2)
  pri := V0 (Proc.devRef .tc main_arg3)
  lab := V0 (Proc.devRef .tc main_arg4)

/-- Halving is the division by two. -/
theorem div_two (x : EReal) : Ideal.div x (Ideal.ofBits .f32 0x40000000#32) = x * Ideal.ofBits .f32 0x3F000000#32 := by
  rw [Consts.of_two, Consts.of_half]
  unfold Ideal.div
  rw [if_neg (by exact_mod_cast (by norm_num : (2 : ℝ) ≠ 0)), ← EReal.coe_inv]
  norm_num

/-- The overlap as the reference writes it. -/
theorem iouS_ref (p0 p1 p2 p3 b0 b1 b2 b3 : EReal) :
    Ideal.div
      (max (Ideal.ofBits .f32 0#32) (min b2 (p0 + Ideal.div p2 (Ideal.ofBits .f32 0x40000000#32)) - max b0 (p0 - Ideal.div p2 (Ideal.ofBits .f32 0x40000000#32)))
        * max (Ideal.ofBits .f32 0#32) (min b3 (p1 + Ideal.div p3 (Ideal.ofBits .f32 0x40000000#32)) - max b1 (p1 - Ideal.div p3 (Ideal.ofBits .f32 0x40000000#32))))
      ((b2 - b0) * (b3 - b1)
        + (p0 + Ideal.div p2 (Ideal.ofBits .f32 0x40000000#32) - (p0 - Ideal.div p2 (Ideal.ofBits .f32 0x40000000#32)))
          * (p1 + Ideal.div p3 (Ideal.ofBits .f32 0x40000000#32) - (p1 - Ideal.div p3 (Ideal.ofBits .f32 0x40000000#32)))
        - max (Ideal.ofBits .f32 0#32) (min b2 (p0 + Ideal.div p2 (Ideal.ofBits .f32 0x40000000#32)) - max b0 (p0 - Ideal.div p2 (Ideal.ofBits .f32 0x40000000#32)))
          * max (Ideal.ofBits .f32 0#32) (min b3 (p1 + Ideal.div p3 (Ideal.ofBits .f32 0x40000000#32)) - max b1 (p1 - Ideal.div p3 (Ideal.ofBits .f32 0x40000000#32))))
      = iouS (F := Ideal) p0 p1 p2 p3 b0 b1 b2 b3 := by
  simp only [div_two]
  rw [min_comm b2, min_comm b3, max_comm b0, max_comm b1, add_comm ((b2 - b0) * (b3 - b1)), max_comm (Ideal.ofBits .f32 0#32),
    max_comm (Ideal.ofBits .f32 0#32)]
  rfl

variable (V0 : Valuation τ sig (Elt Ideal))

theorem ref_iou (b : Fin 8) (o : Fin 20) (p : Fin 22536) : (res_main_v57 V0 (ix3 b o p) : EReal) = (argsR V0).iou b o p := by
  pointwise [res_main_v57, res_main_v28, res_main_v23, res_main_v9, res_main_v6, res_main_v3, res_main_v2, res_main_v1]
  exact iouS_ref _ _ _ _ _ _ _ _

end Cert.Proof

end
-- ==== Proof.RefMatch.lean ====
/-
  The reference's matching: the best prior of each object and the best object of each prior are the first places of the
  greatest overlap, and a scatter to the best priors keeps the last object's value.
-/
module

public import proofs.«01_k».proof.Proof.RefIou
public import Idealize.ShloMosaic.Lib.Routing.OpsPair
public import Idealize.ShloMosaic.Lib.Routing.OpsSet
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem lift_prior (h : S8x20x22536.Reduces [2] S8x20) (b : Fin 8) (o : Fin 20) (p : Fin 22536) : h.lift (ix2 b o) p = ix3 b o p := by
  funext a; fin_cases a <;> rfl
theorem lift_object (h : S8x20x22536.Reduces [1] S8x22536) (b : Fin 8) (o : Fin 20) (p : Fin 22536) : h.lift (ix2 b p) o = ix3 b o p := by
  funext a; fin_cases a <;> rfl

theorem reduces_prior : S8x20x22536.Reduces [2] S8x20 := by decide
theorem reduces_object : S8x20x22536.Reduces [1] S8x22536 := by decide

section Overlaps

variable (v : FVec Ideal S8x20x22536 .f32) (f : Fin 8 → Fin 20 → Fin 22536 → EReal) (hv : ∀ b o p, v (ix3 b o p) = f b o p)
include hv

/-- The greatest overlap of an object, and of a prior. -/
theorem rowmax_eq (b : Fin 8) (o : Fin 20) :
    Host.reduce FloatOps.maximumf v (constant S_ .f32 0xFF800000#32) reducesTo_S8x20x22536_S8x20_d2 h_S_ (ix2 b o)
      = f b o (first (f b o)) := by
  refine (Host.reduce_eq_fold_single (FloatOps.maximumf (F := Ideal) (φ := .f32)) _ _ _ reduces_prior _ _).trans ?_
  refine Eq.trans (Finset.fold_congr (g := fun p => f b o p) fun p _ => ?_) (First.fold_max (first_spec _))
  exact (congrArg v (lift_prior _ b o p)).trans (hv b o p)

theorem colmax_eq (b : Fin 8) (p : Fin 22536) :
    Host.reduce FloatOps.maximumf v (constant S_ .f32 0xFF800000#32) reducesTo_S8x20x22536_S8x22536_d1 h_S_ (ix2 b p)
      = f b (first fun o => f b o p) p := by
  refine (Host.reduce_eq_fold_single (FloatOps.maximumf (F := Ideal) (φ := .f32)) _ _ _ reduces_object _ _).trans ?_
  refine Eq.trans (Finset.fold_congr (g := fun o => f b o p) fun o _ => ?_) (First.fold_max (first_spec fun o => f b o p))
  exact (congrArg v (lift_object _ b o p)).trans (hv b o p)

/-- The best prior of an object, and the best object of a prior. -/
theorem rowarg_eq (b : Fin 8) (o : Fin 20) :
    Host.reduce IntOp.minsi (select (cmpf .oeq v (broadcastInDim S8x20x22536 ![0, 1, 2] bcast_S8x20x1_S8x20x22536_0_1_2 (broadcastInDim S8x20x1 ![0, 1] bcast_S8x20_S8x20x1_0_1 (Host.reduce FloatOps.maximumf v (constant S_ .f32 0xFF800000#32) reducesTo_S8x20x22536_S8x20_d2 h_S_)))) (iotaInDim S8x20x22536 32 2) (broadcastInDim S8x20x22536 ![] bcast_S_S8x20x22536 (id (constantI S_ 32 22536#32)))) (constantI S_ 32 2147483647#32) reducesTo_S8x20x22536_S8x20_d2 h_S_ (ix2 b o)
      = BitVec.ofNat 32 (first (f b o)).val := by
  refine (Host.reduce_eq_fold_single IntOp.minsi _ _ _ reduces_prior _ _).trans ?_
  refine Eq.trans ?_ (congrArg (BitVec.ofNat 32) (Nat.zero_add _))
  refine First.fold_minsi (first_spec (f b o)) 0 22536#32 _ (by decide) (by decide) (by decide) _ fun p => ?_
  have hr := rowmax_eq v f hv b o
  refine Eq.trans (congrArg (select _ _ _) (lift_prior reduces_prior b o p)) ?_
  generalize Host.reduce FloatOps.maximumf v (constant S_ .f32 0xFF800000#32) reducesTo_S8x20x22536_S8x20_d2 h_S_ = R at hr ⊢
  pointwise []
  rw [hr, hv]
  rfl

theorem colarg_eq (b : Fin 8) (p : Fin 22536) :
    Host.reduce IntOp.minsi (select (cmpf .oeq v (broadcastInDim S8x20x22536 ![0, 1, 2] bcast_S8x1x22536_S8x20x22536_0_1_2 (broadcastInDim S8x1x22536 ![0, 2] bcast_S8x22536_S8x1x22536_0_2 (Host.reduce FloatOps.maximumf v (constant S_ .f32 0xFF800000#32) reducesTo_S8x20x22536_S8x22536_d1 h_S_)))) (iotaInDim S8x20x22536 32 1) (broadcastInDim S8x20x22536 ![] bcast_S_S8x20x22536 (id (constantI S_ 32 20#32)))) (constantI S_ 32 2147483647#32) reducesTo_S8x20x22536_S8x22536_d1 h_S_ (ix2 b p)
      = BitVec.ofNat 32 (first fun o => f b o p).val := by
  refine (Host.reduce_eq_fold_single IntOp.minsi _ _ _ reduces_object _ _).trans ?_
  refine Eq.trans ?_ (congrArg (BitVec.ofNat 32) (Nat.zero_add _))
  refine First.fold_minsi (first_spec fun o => f b o p) 0 20#32 _ (by decide) (by decide) (by decide) _ fun o => ?_
  have hr := colmax_eq v f hv b p
  refine Eq.trans (congrArg (select _ _ _) (lift_object reduces_object b o p)) ?_
  generalize Host.reduce FloatOps.maximumf v (constant S_ .f32 0xFF800000#32) reducesTo_S8x20x22536_S8x22536_d1 h_S_ = R at hr ⊢
  pointwise []
  rw [hr, hv]
  rfl

end Overlaps

/-- A fold in which each selected place overwrites is the last selected place's value. -/
theorem foldl_last {α : Type} {N : ℕ} (P : Fin N → Prop) [DecidablePred P] (u : Fin N → α) :
    ∀ (l : List (Fin N)) (_ : l.Pairwise (· < ·)) (n : Fin N), n ∈ l → P n → (∀ m ∈ l, n < m → ¬ P m) → ∀ a : α,
      l.foldl (fun a n => if P n then u n else a) a = u n
  | [], _, _, h, _, _, _ => absurd h List.not_mem_nil
  | x :: xs, hs, n, hn, hP, hl, a => by
    obtain ⟨hx, hxs⟩ := List.pairwise_cons.mp hs
    rw [List.foldl_cons]
    rcases List.mem_cons.mp hn with rfl | hn
    · rw [if_pos hP]
      have : ∀ (l : List (Fin N)), (∀ m ∈ l, ¬ P m) → l.foldl (fun a n => if P n then u n else a) (u n) = u n := by
        intro l
        induction l with
        | nil => intro _; rfl
        | cons y ys ih =>
          intro h
          rw [List.foldl_cons, if_neg (h y (List.mem_cons.mpr (Or.inl rfl)))]
          exact ih fun m hm => h m (List.mem_cons.mpr (Or.inr hm))
      exact this xs fun m hm => hl m (List.mem_cons.mpr (Or.inr hm)) (hx m hm)
    · exact foldl_last P u xs hxs n hn hP (fun m hm => hl m (List.mem_cons.mpr (Or.inr hm))) _

theorem foldl_none {α : Type} {N : ℕ} (P : Fin N → Prop) [DecidablePred P] (u : Fin N → α) (a : α) (l : List (Fin N)) (h : ∀ m ∈ l, ¬ P m) :
    l.foldl (fun a n => if P n then u n else a) a = a := by
  induction l with
  | nil => rfl
  | cons y ys ih =>
    rw [List.foldl_cons, if_neg (h y (List.mem_cons.mpr (Or.inl rfl)))]
    exact ih fun m hm => h m (List.mem_cons.mpr (Or.inr hm))

/-- The scatter of one value per object at its best prior: the last object's at a prior that is some object's best. -/
theorem scatter_last {α : Type} (x0 : S8x22536.Idx → α) (idx : IVec S8x20x2 32) (upd : S8x20.Idx → α) (best : Fin 8 → Fin 20 → Fin 22536)
    (h0 : ∀ b o, (idx (ix3 b o 0)).toInt = b.val) (h1 : ∀ b o, (idx (ix3 b o 1)).toInt = (best b o).val) (b : Fin 8) (p : Fin 22536) :
    Host.scatter scatter_S8x22536_S8x20x2_S8x20_n_01_01_2 (fun _ b => b) x0 idx upd (ix2 b p)
      = if h : (Finset.univ.filter fun o => best b o = p).Nonempty then upd (ix2 b ((Finset.univ.filter fun o => best b o = p).max' h))
        else x0 (ix2 b p) := by
  rw [Routing.scatter_at]
  have hs : ∀ n : Fin S8x20.numel, ∃ (b' : Fin 8) (o : Fin 20), n.val = 20 * b'.val + o.val ∧ S8x20.rowMajor.symm n = ix2 b' o := by
    intro n
    have hn : n.val < 160 := n.isLt
    exact ⟨⟨n.val / 20, by omega⟩, ⟨n.val % 20, by omega⟩, by change n.val = 20 * (n.val / 20) + n.val % 20; omega, Routing.symm22 (A := 8) (B := 20) n _ _⟩
  have hl : ∀ (b' : Fin 8) (o : Fin 20), scatter_S8x22536_S8x20x2_S8x20_n_01_01_2.resultIdx? (ix2 b' o) idx = some (ix2 b p) ↔ b' = b ∧ best b o = p := by
    intro b' o
    refine (Routing.scatter_lands2 (R := 8) (C := 22536) (A := 8) (B := 20) scatter_S8x22536_S8x20x2_S8x20_n_01_01_2 rfl rfl rfl idx b' o b p).trans ?_
    have e0 := h0 b' o
    have e1 := h1 b' o
    constructor
    · rintro ⟨e, e'⟩
      have e := e0.symm.trans e
      have e' := e1.symm.trans e'
      have : b' = b := Fin.ext (by exact_mod_cast e)
      subst this
      exact ⟨rfl, Fin.ext (by exact_mod_cast e')⟩
    · rintro ⟨rfl, rfl⟩; exact ⟨e0, e1⟩
  by_cases h : (Finset.univ.filter fun o => best b o = p).Nonempty
  · rw [dif_pos h]
    have hm := (Finset.mem_filter.mp (Finset.max'_mem _ h)).2
    set o := (Finset.univ.filter fun o => best b o = p).max' h with ho
    have hb := b.isLt
    have ho' := o.isLt
    have en : S8x20.rowMajor.symm (⟨20 * b.val + o.val, by change _ < 160; omega⟩ : Fin S8x20.numel) = ix2 b o := by
      obtain ⟨b', o', e, e'⟩ := hs ⟨20 * b.val + o.val, by change _ < 160; omega⟩
      have h1 := o'.isLt
      have h2 := b'.isLt
      change 20 * b.val + o.val = _ at e
      rw [e', show b' = b from Fin.ext (by omega), show o' = o from Fin.ext (by omega)]
    refine (foldl_last (fun n => scatter_S8x22536_S8x20x2_S8x20_n_01_01_2.resultIdx? (S8x20.rowMajor.symm n) idx = some (ix2 b p))
      (fun n => upd (S8x20.rowMajor.symm n)) _ (List.pairwise_lt_finRange _) ⟨20 * b.val + o.val, by change _ < 160; omega⟩ (List.mem_finRange _) ?_ ?_ _).trans ?_
    · rw [en]; exact (hl b o).mpr ⟨rfl, hm⟩
    · intro m _ hlt hP
      obtain ⟨b', o', e, e'⟩ := hs m
      rw [e'] at hP
      obtain ⟨hb', hq⟩ := (hl b' o').mp hP
      subst hb'
      have : o' ≤ o := Finset.le_max' (Finset.univ.filter fun o => best b' o = p) o' (Finset.mem_filter.mpr ⟨Finset.mem_univ _, hq⟩)
      have h3 : o'.val ≤ o.val := this
      have h4 : 20 * b'.val + o.val < m.val := hlt
      omega
    · rw [en]
  · rw [dif_neg h]
    refine foldl_none (fun n => scatter_S8x22536_S8x20x2_S8x20_n_01_01_2.resultIdx? (S8x20.rowMajor.symm n) idx = some (ix2 b p)) _ _ _ fun m _ hP => ?_
    obtain ⟨b', o', e, e'⟩ := hs m
    rw [e'] at hP
    exact h ⟨o', Finset.mem_filter.mpr ⟨Finset.mem_univ _, ((hl b' o').mp hP).2⟩⟩

end Cert.Proof

end
-- ==== Proof.RefGather.lean ====
/-
  The three gathers of the reference, read at an index: the start read of the indices, already within range.
-/
module

public import proofs.«01_k».proof.Proof.RefIou
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The gather of the matched objects' boxes. -/
abbrev gBox := gather_S8x20x4_S8x22536x2_S8x22536x4_2_01_n_n_01_2_114

theorem gather_box (x : S8x20x4.Idx → EReal) (idx : IVec S8x22536x2 32) (i : Fin 20) (b : Fin 8) (p : Fin 22536) (k : Fin 4)
    (h0 : (idx (ix3 b p 0)).toInt = b.val) (h1 : (idx (ix3 b p 1)).toInt = i.val) :
    Host.gather gBox x idx (ix3 b p k) = x (ix3 b i k) := by
  have hb := b.isLt
  have hi := i.isLt
  unfold Host.gather
  congr 1
  have e0 : gBox.start (ix3 b p k) idx (0 : Fin 3) + gBox.batchCoord (ix3 b p k) (0 : Fin 3) + gBox.offCoord (ix3 b p k) (0 : Fin 3) = b.val := by
    rw [GatherDims.batchCoord_eq_zero _ _ _ List.not_mem_nil, GatherDims.offCoord_eq_zero _ _ _ (fun h => ((GatherDims.mem_sKept _ _).mp h).1 (by decide))]
    unfold GatherDims.start
    rw [dif_pos (by decide)]
    have hsi : ∀ h, gBox.siIdx (ix3 b p k) ⟨0, h⟩ = ix3 b p 0 := by
      intro h; funext c; refine Fin.ext ?_
      match c with
      | ⟨0, _⟩ => rfl
      | ⟨1, _⟩ => rfl
      | ⟨2, _⟩ => rfl
    refine (congrArg (fun s => min (idx s).toInt.toNat 7) (hsi _)).trans ?_
    rw [h0]
    omega
  have e1 : gBox.start (ix3 b p k) idx (1 : Fin 3) + gBox.batchCoord (ix3 b p k) (1 : Fin 3) + gBox.offCoord (ix3 b p k) (1 : Fin 3) = i.val := by
    rw [GatherDims.batchCoord_eq_zero _ _ _ List.not_mem_nil, GatherDims.offCoord_eq_zero _ _ _ (fun h => ((GatherDims.mem_sKept _ _).mp h).1 (by decide))]
    unfold GatherDims.start
    rw [dif_pos (by decide)]
    have hsi : ∀ h, gBox.siIdx (ix3 b p k) ⟨1, h⟩ = ix3 b p 1 := by
      intro h; funext c; refine Fin.ext ?_
      match c with
      | ⟨0, _⟩ => rfl
      | ⟨1, _⟩ => rfl
      | ⟨2, _⟩ => rfl
    refine (congrArg (fun s => min (idx s).toInt.toNat 19) (hsi _)).trans ?_
    rw [h1]
    omega
  have e2 : gBox.start (ix3 b p k) idx (2 : Fin 3) + gBox.batchCoord (ix3 b p k) (2 : Fin 3) + gBox.offCoord (ix3 b p k) (2 : Fin 3) = k.val := by
    rw [GatherDims.batchCoord_eq_zero _ _ _ List.not_mem_nil]
    unfold GatherDims.start
    rw [dif_neg (by decide)]
    unfold GatherDims.offCoord
    rw [dif_pos (by decide)]
    simp only [Nat.zero_add]
    rfl
  funext a
  refine Fin.ext ?_
  fin_cases a
  · exact e0
  · exact e1
  · exact e2
/-- The gather of the matched objects' labels. -/
abbrev gLab := gather_S8x20_S8x22536x2_S8x22536_n_01_n_n_01_2_11

theorem gather_lab (x : S8x20.Idx → BitVec 32) (idx : IVec S8x22536x2 32) (i : Fin 20) (b : Fin 8) (p : Fin 22536)
    (h0 : (idx (ix3 b p 0)).toInt = b.val) (h1 : (idx (ix3 b p 1)).toInt = i.val) :
    Host.gather gLab x idx (ix2 b p) = x (ix2 b i) := by
  have hb := b.isLt
  have hi := i.isLt
  unfold Host.gather
  congr 1
  have e0 : gLab.start (ix2 b p) idx (0 : Fin 2) + gLab.batchCoord (ix2 b p) (0 : Fin 2) + gLab.offCoord (ix2 b p) (0 : Fin 2) = b.val := by
    rw [GatherDims.batchCoord_eq_zero _ _ _ List.not_mem_nil, GatherDims.offCoord_eq_zero _ _ _ (fun h => ((GatherDims.mem_sKept _ _).mp h).1 (by decide))]
    unfold GatherDims.start
    rw [dif_pos (by decide)]
    have hsi : ∀ h, gLab.siIdx (ix2 b p) ⟨0, h⟩ = ix3 b p 0 := by
      intro h; funext c; refine Fin.ext ?_
      match c with
      | ⟨0, _⟩ => rfl
      | ⟨1, _⟩ => rfl
      | ⟨2, _⟩ => rfl
    refine (congrArg (fun s => min (idx s).toInt.toNat 7) (hsi _)).trans ?_
    rw [h0]
    omega
  have e1 : gLab.start (ix2 b p) idx (1 : Fin 2) + gLab.batchCoord (ix2 b p) (1 : Fin 2) + gLab.offCoord (ix2 b p) (1 : Fin 2) = i.val := by
    rw [GatherDims.batchCoord_eq_zero _ _ _ List.not_mem_nil, GatherDims.offCoord_eq_zero _ _ _ (fun h => ((GatherDims.mem_sKept _ _).mp h).1 (by decide))]
    unfold GatherDims.start
    rw [dif_pos (by decide)]
    have hsi : ∀ h, gLab.siIdx (ix2 b p) ⟨1, h⟩ = ix3 b p 1 := by
      intro h; funext c; refine Fin.ext ?_
      match c with
      | ⟨0, _⟩ => rfl
      | ⟨1, _⟩ => rfl
      | ⟨2, _⟩ => rfl
    refine (congrArg (fun s => min (idx s).toInt.toNat 19) (hsi _)).trans ?_
    rw [h1]
    omega
  funext a
  refine Fin.ext ?_
  fin_cases a
  · exact e0
  · exact e1
/-- The gather of the log-probabilities of the priors' classes. -/
abbrev gScore := gather_S8x22536x81_S8x22536x1x1_S8x22536x1_n_2_01_01_2_3_111

theorem gather_score (x : S8x22536x81.Idx → EReal) (idx : IVec S8x22536x1x1 32) (i : Fin 81) (b : Fin 8) (p : Fin 22536)
    (h0 : (idx (ix4 b p 0 0)).toInt = i.val) :
    Host.gather gScore x idx (ix3 b p 0) = x (ix3 b p i) := by
  have hb := b.isLt
  have hi := i.isLt
  unfold Host.gather
  congr 1
  have e0 : gScore.start (ix3 b p 0) idx (0 : Fin 3) + gScore.batchCoord (ix3 b p 0) (0 : Fin 3) + gScore.offCoord (ix3 b p 0) (0 : Fin 3) = b.val := by
    rw [GatherDims.offCoord_eq_zero _ _ _ (fun h => ((GatherDims.mem_sKept _ _).mp h).2 (by decide))]
    unfold GatherDims.start
    rw [dif_neg (by decide)]
    simp only [Nat.zero_add, Nat.add_zero]
    unfold GatherDims.batchCoord
    rw [dif_pos (by decide)]
    rfl
  have e1 : gScore.start (ix3 b p 0) idx (1 : Fin 3) + gScore.batchCoord (ix3 b p 0) (1 : Fin 3) + gScore.offCoord (ix3 b p 0) (1 : Fin 3) = p.val := by
    rw [GatherDims.offCoord_eq_zero _ _ _ (fun h => ((GatherDims.mem_sKept _ _).mp h).2 (by decide))]
    unfold GatherDims.start
    rw [dif_neg (by decide)]
    simp only [Nat.zero_add, Nat.add_zero]
    unfold GatherDims.batchCoord
    rw [dif_pos (by decide)]
    rfl
  have e2 : gScore.start (ix3 b p 0) idx (2 : Fin 3) + gScore.batchCoord (ix3 b p 0) (2 : Fin 3) + gScore.offCoord (ix3 b p 0) (2 : Fin 3) = i.val := by
    rw [GatherDims.batchCoord_eq_zero _ _ _ (by decide), GatherDims.offCoord_eq_zero _ _ _ (fun h => ((GatherDims.mem_sKept _ _).mp h).1 (by decide))]
    unfold GatherDims.start
    rw [dif_pos (by decide)]
    have hsi : ∀ h, gScore.siIdx (ix3 b p 0) ⟨0, h⟩ = ix4 b p 0 0 := by
      intro h; funext c; refine Fin.ext ?_
      match c with
      | ⟨0, _⟩ => rfl
      | ⟨1, _⟩ => rfl
      | ⟨2, _⟩ => rfl
      | ⟨3, _⟩ => rfl
    refine (congrArg (fun s => min (idx s).toInt.toNat 80) (hsi _)).trans ?_
    rw [h0]
    omega
  funext a
  refine Fin.ext ?_
  fin_cases a
  · exact e0
  · exact e1
  · exact e2

end Cert.Proof

end
-- ==== Proof.RefPrior.lean ====
/-
  What the reference makes of each prior: its object, its overlap, its class, and whether it counts as positive or as
  negative.
-/
module

public import proofs.«01_k».proof.Proof.RefMatch
public import proofs.«01_k».proof.Proof.RefGather
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A small word read signed, and left alone by the wrapping of negative indices. -/
theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by simp; omega)

open Classical in
/-- A prior's class: its object's where it overlaps it enough, the background elsewhere. -/
theorem cls_form (v : FVec Ideal S8x22536 .f32) (l : IVec S8x22536 32) (b : Fin 8) (p : Fin 22536) :
    select (cmpf .olt v (broadcastInDim S8x22536 ![] bcast_S_S8x22536 (constant S_ .f32 0x3F000000#32))) (broadcastInDim S8x22536 ![] bcast_S_S8x22536 (id (constantI S_ 32 0#32))) l (ix2 b p)
      = if Ideal.ofBits .f32 0x3F000000#32 ≤ v (ix2 b p) then l (ix2 b p) else 0#32 := by
  pointwise []
  by_cases h : v (ix2 b p) < Ideal.ofBits .f32 0x3F000000#32
  · rw [if_pos h, if_neg (not_le.mpr h)]; rfl
  · rw [if_neg h, if_pos (not_lt.mp h)]

open Classical in
theorem cls_congr (A : Args) (b : Fin 8) (p : Fin 22536) {x : EReal} {k : BitVec 32} (h : x = A.ov b p) (h' : k = A.cls b p) :
    (if Ideal.ofBits .f32 0x3F000000#32 ≤ x then k else 0#32) = if A.pos b p then A.cls b p else 0#32 := by
  subst h h'
  exact if_congr Iff.rfl rfl rfl

theorem zero_not_pos : ¬ IntOp.cmpi .sgt 0#32 0#32 = 1#1 := fun h => by
  simp [IntOp.cmpi] at h

variable (V0 : Valuation τ sig (Elt Ideal))

theorem ref_bestP (b : Fin 8) (o : Fin 20) : res_main_v72 V0 (ix2 b o) = BitVec.ofNat 32 ((argsR V0).bestP b o).val := by
  unfold res_main_v72
  exact rowarg_eq _ _ (ref_iou V0) b o

/-- The indices of the two scatters, and of the two gathers by a prior's object. -/
theorem ref_image (b : Fin 8) (o : Fin 20) : (broadcastInDim S8x20x1 ![0, 1] bcast_S8x20_S8x20x1_0_1 (broadcastInDim S8x20 ![0, 1] bcast_S8x1_S8x20_0_1 (select (cmpi .slt (res_main_v74 V0) (broadcastInDim S8x1 ![] bcast_S_S8x1 (constantI S_ 32 0#32))) (addi (res_main_v74 V0) (broadcastInDim S8x1 ![] bcast_S_S8x1 (constantI S_ 32 8#32))) (res_main_v74 V0)))) (ix3 b o 0) = BitVec.ofNat 32 b.val := by
  have hb := b.isLt
  pointwise [res_main_v74]
  exact wrap_small _ (by omega) _
theorem ref_image' (b : Fin 8) (p : Fin 22536) : (broadcastInDim S8x22536x1 ![0, 1] bcast_S8x22536_S8x22536x1_0_1 (broadcastInDim S8x22536 ![0, 1] bcast_S8x1_S8x22536_0_1 (select (cmpi .slt (res_main_v74 V0) (broadcastInDim S8x1 ![] bcast_S_S8x1 (constantI S_ 32 0#32))) (addi (res_main_v74 V0) (broadcastInDim S8x1 ![] bcast_S_S8x1 (constantI S_ 32 8#32))) (res_main_v74 V0)))) (ix3 b p 0) = BitVec.ofNat 32 b.val := by
  have hb := b.isLt
  pointwise [res_main_v74]
  exact wrap_small _ (by omega) _
theorem ref_prior (b : Fin 8) (o : Fin 20) : (broadcastInDim S8x20x1 ![0, 1] bcast_S8x20_S8x20x1_0_1 (select (cmpi .slt (res_main_v72 V0) (broadcastInDim S8x20 ![] bcast_S_S8x20 (constantI S_ 32 0#32))) (addi (res_main_v72 V0) (broadcastInDim S8x20 ![] bcast_S_S8x20 (constantI S_ 32 22536#32))) (res_main_v72 V0))) (ix3 b o 0) = BitVec.ofNat 32 ((argsR V0).bestP b o).val := by
  have hp := ((argsR V0).bestP b o).isLt
  pointwise []
  rw [ref_bestP]
  exact wrap_small _ (by omega) _

/-- A value scattered to the objects' best priors. -/
theorem scatter_pair {α : Type} (best : Fin 8 → Fin 20 → Fin 22536) (x0 : S8x22536.Idx → α) (upd : S8x20.Idx → α) (i0 i1 : IVec S8x20x1 32)
    (e0 : ∀ b o, i0 (ix3 b o 0) = BitVec.ofNat 32 b.val) (e1 : ∀ b o, i1 (ix3 b o 0) = BitVec.ofNat 32 (best b o).val) (b : Fin 8) (p : Fin 22536) :
    Host.scatter scatter_S8x22536_S8x20x2_S8x20_n_01_01_2 (fun _ b => b) x0 (concatenate S8x20x2 2 [⟨S8x20x1, i0⟩, ⟨S8x20x1, i1⟩] concatenates_S8x20x1_S8x20x1_S8x20x2_d2) upd (ix2 b p)
      = if h : (Finset.univ.filter fun o => best b o = p).Nonempty then upd (ix2 b ((Finset.univ.filter fun o => best b o = p).max' h)) else x0 (ix2 b p) := by
  refine scatter_last x0 _ upd best (fun b o => ?_) (fun b o => ?_) b p
  · have hb := b.isLt
    refine (congrArg BitVec.toInt (?_ : _ = i0 (ix3 b o 0))).trans ?_
    · pointwise []
    · rw [e0]; exact toInt_ofNat _ (by omega)
  · have hp := (best b o).isLt
    refine (congrArg BitVec.toInt (?_ : _ = i1 (ix3 b o 0))).trans ?_
    · pointwise []
    · rw [e1]; exact toInt_ofNat _ (by omega)

theorem ref_obj (b : Fin 8) (p : Fin 22536) : res_main_v92 V0 (ix2 b p) = BitVec.ofNat 32 ((argsR V0).obj b p).val := by
  unfold res_main_v92
  refine (scatter_pair (argsR V0).bestP _ _ _ _ (ref_image V0) (ref_prior V0) b p).trans ?_
  unfold Args.obj
  by_cases h : ((argsR V0).hits b p).Nonempty
  · refine (dif_pos h).trans ?_
    rw [dif_pos h]
    pointwise []
    rfl
  · refine (dif_neg h).trans ?_
    rw [dif_neg h]
    exact colarg_eq _ _ (ref_iou V0) b p

theorem ref_ov (b : Fin 8) (p : Fin 22536) : (res_main_v108 V0 (ix2 b p) : EReal) = (argsR V0).ov b p := by
  unfold res_main_v108
  refine (scatter_pair (argsR V0).bestP _ _ _ _ (ref_image V0) (ref_prior V0) b p).trans ?_
  unfold Args.ov
  by_cases h : ((argsR V0).hits b p).Nonempty
  · refine (dif_pos h).trans ?_
    rw [if_pos h]
    exact Consts.of_one
  · refine (dif_neg h).trans ?_
    rw [if_neg h]
    exact colmax_eq _ _ (ref_iou V0) b p

/-- The second index of the two gathers. -/
theorem ref_object (b : Fin 8) (p : Fin 22536) : (broadcastInDim S8x22536x1 ![0, 1] bcast_S8x22536_S8x22536x1_0_1 (select (cmpi .slt (res_main_v92 V0) (broadcastInDim S8x22536 ![] bcast_S_S8x22536 (constantI S_ 32 0#32))) (addi (res_main_v92 V0) (broadcastInDim S8x22536 ![] bcast_S_S8x22536 (constantI S_ 32 20#32))) (res_main_v92 V0))) (ix3 b p 0) = BitVec.ofNat 32 ((argsR V0).obj b p).val := by
  have hp := ((argsR V0).obj b p).isLt
  pointwise []
  rw [ref_obj]
  exact wrap_small _ (by omega) _

theorem pair0 (i0 i1 : IVec S8x22536x1 32) (b : Fin 8) (p : Fin 22536) (n : ℕ) (hn : n < 2 ^ 31) (h : i0 (ix3 b p 0) = BitVec.ofNat 32 n) :
    ((concatenate S8x22536x2 2 [⟨S8x22536x1, i0⟩, ⟨S8x22536x1, i1⟩] concatenates_S8x22536x1_S8x22536x1_S8x22536x2_d2) (ix3 b p 0)).toInt = n := by
  refine (congrArg BitVec.toInt (?_ : _ = i0 (ix3 b p 0))).trans ?_
  · pointwise []
  · rw [h]; exact toInt_ofNat _ hn
theorem pair1 (i0 i1 : IVec S8x22536x1 32) (b : Fin 8) (p : Fin 22536) (n : ℕ) (hn : n < 2 ^ 31) (h : i1 (ix3 b p 0) = BitVec.ofNat 32 n) :
    ((concatenate S8x22536x2 2 [⟨S8x22536x1, i0⟩, ⟨S8x22536x1, i1⟩] concatenates_S8x22536x1_S8x22536x1_S8x22536x2_d2) (ix3 b p 1)).toInt = n := by
  refine (congrArg BitVec.toInt (?_ : _ = i1 (ix3 b p 0))).trans ?_
  · pointwise []
  · rw [h]; exact toInt_ofNat _ hn

theorem ref_lab (b : Fin 8) (p : Fin 22536) : res_main_v123 V0 (ix2 b p) = (argsR V0).cls b p := by
  have hb := b.isLt
  have hp := ((argsR V0).obj b p).isLt
  unfold res_main_v123
  exact gather_lab _ _ ((argsR V0).obj b p) b p (pair0 _ _ b p _ (by omega) (ref_image' V0 b p)) (pair1 _ _ b p _ (by omega) (ref_object V0 b p))

theorem ref_box (b : Fin 8) (p : Fin 22536) (k : Fin 4) : (res_main_v144 V0 (ix3 b p k) : EReal) = (argsR V0).box (ix3 b ((argsR V0).obj b p) k) := by
  have hb := b.isLt
  have hp := ((argsR V0).obj b p).isLt
  unfold res_main_v144
  exact gather_box _ _ ((argsR V0).obj b p) b p k (pair0 _ _ b p _ (by omega) (ref_image' V0 b p)) (pair1 _ _ b p _ (by omega) (ref_object V0 b p))

variable (hF : (argsR V0).Fit)
include hF

open Classical in
theorem ref_cls (b : Fin 8) (p : Fin 22536) : res_main_v126 V0 (ix2 b p) = if (argsR V0).pos b p then (argsR V0).cls b p else 0#32 :=
  (cls_form (res_main_v108 V0) (res_main_v123 V0) b p).trans (cls_congr _ b p (ref_ov V0 b p) (ref_lab V0 b p))

theorem ref_pos (b : Fin 8) (p : Fin 22536) : res_main_v169 V0 (ix2 b p) = 1#1 ↔ (argsR V0).pos b p := by
  have hl : (1 : ℤ) ≤ ((argsR V0).cls b p).toInt := hF.lo b _
  pointwise [res_main_v169]
  rw [ref_cls V0 hF]
  by_cases h : (argsR V0).pos b p
  · rw [if_pos h]
    refine ⟨fun _ => h, fun _ => ?_⟩
    simp only [IntOp.cmpi, BitVec.slt]
    rw [show (0#32 : BitVec 32).toInt = 0 from rfl, decide_eq_true (by omega)]; rfl
  · rw [if_neg h]
    exact ⟨fun e => absurd e zero_not_pos, fun e => absurd e h⟩

end Cert.Proof

end
-- ==== Proof.RefLogp.lean ====
/-
  The reference's log-probabilities, and the one of each prior's class.
-/
module

public import proofs.«01_k».proof.Proof.RefPrior
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem reduces_class : S8x22536x81.Reduces [2] S8x22536 := by decide
theorem reduces_unit : S8x22536x1x1.Reduces [3] S8x22536x1 := by decide
theorem lift_class (h : S8x22536x81.Reduces [2] S8x22536) (b : Fin 8) (p : Fin 22536) (k : Fin 81) : h.lift (ix2 b p) k = ix3 b p k := by
  funext a; fin_cases a <;> rfl
theorem lift_unit (h : S8x22536x1x1.Reduces [3] S8x22536x1) (b : Fin 8) (p : Fin 22536) (k : Fin 1) : h.lift (ix3 b p 0) k = ix4 b p 0 k := by
  funext a; fin_cases a <;> rfl

/-- The scores of all priors less their rows' greatest. -/
def shifted (x : FVec Ideal S8x22536x81 .f32) : FVec Ideal S8x22536x81 .f32 :=
  subf x (broadcastInDim S8x22536x81 ![0, 1, 2] bcast_S8x22536x1_S8x22536x81_0_1_2 (broadcastInDim S8x22536x1 ![0, 1] bcast_S8x22536_S8x22536x1_0_1 (maximumf (broadcastInDim S8x22536 ![] bcast_S_S8x22536 (constant S_ .f32 0xFF800000#32)) (Host.reduce FloatOps.maximumf x (constant S_ .f32 0xFF800000#32) reducesTo_S8x22536x81_S8x22536_d2 h_S_))))

theorem shift_form (x : FVec Ideal S8x22536x81 .f32) (R : FVec Ideal S8x22536 .f32) (b : Fin 8) (p : Fin 22536) (k : Fin 81) :
    subf x (broadcastInDim S8x22536x81 ![0, 1, 2] bcast_S8x22536x1_S8x22536x81_0_1_2 (broadcastInDim S8x22536x1 ![0, 1] bcast_S8x22536_S8x22536x1_0_1 (maximumf (broadcastInDim S8x22536 ![] bcast_S_S8x22536 (constant S_ .f32 0xFF800000#32)) R))) (ix3 b p k)
      = FloatOps.subf (x (ix3 b p k)) (FloatOps.maximumf (FloatOps.ofBits .f32 0xFF800000#32) (R (ix2 b p))) := by
  pointwise []

theorem shifted_apply (x : FVec Ideal S8x22536x81 .f32) (b : Fin 8) (p : Fin 22536) (k : Fin 81) :
    (shifted x (ix3 b p k) : EReal) = x (ix3 b p k) - top fun i => x (ix3 b p i) := by
  have hr : Host.reduce FloatOps.maximumf x (constant S_ .f32 0xFF800000#32) reducesTo_S8x22536x81_S8x22536_d2 h_S_ (ix2 b p) = top fun i => x (ix3 b p i) := by
    refine (Host.reduce_eq_fold_single (FloatOps.maximumf (F := Ideal) (φ := .f32)) _ _ _ reduces_class _ _).trans ?_
    refine (Finset.fold_congr (g := fun i => x (ix3 b p i)) fun i _ => congrArg x (lift_class _ b p i)).trans ?_
    unfold top
    rfl
  refine (shift_form x _ b p k).trans ?_
  rw [hr]
  change x (ix3 b p k) - max (Ideal.ofBits .f32 0xFF800000#32) _ = _
  rw [Consts.of_ninf, max_eq_right bot_le]

/-- The log-probabilities of all priors. -/
theorem logsoftmax_apply (x : FVec Ideal S8x22536x81 .f32) (b : Fin 8) (p : Fin 22536) (k : Fin 81) :
    (subf (shifted x) (broadcastInDim S8x22536x81 ![0, 1, 2] bcast_S8x22536x1_S8x22536x81_0_1_2 (Host.log (broadcastInDim S8x22536x1 ![0, 1] bcast_S8x22536_S8x22536x1_0_1 (Host.reduceAdd (Host.exp (shifted x)) (constant S_ .f32 0x00000000#32) reducesTo_S8x22536x81_S8x22536_d2 h_S_)))) (ix3 b p k) : EReal)
      = logp (fun i => x (ix3 b p i)) k := by
  have hs := shifted_apply x b p
  generalize shifted x = s at hs ⊢
  pointwise []
  unfold logp
  simp only [hs]

/-- The class index of a prior, as the gather's start. -/
def clsIdx (k : IVec S8x22536 32) : IVec S8x22536x1x1 32 :=
  shapeCast _ (select (cmpi .slt (broadcastInDim S8x22536x1 ![0, 1] bcast_S8x22536_S8x22536x1_0_1 k) (broadcastInDim S8x22536x1 ![] bcast_S_S8x22536x1 (constantI S_ 32 0#32))) (addi (broadcastInDim S8x22536x1 ![0, 1] bcast_S8x22536_S8x22536x1_0_1 k) (broadcastInDim S8x22536x1 ![] bcast_S_S8x22536x1 (constantI S_ 32 81#32))) (broadcastInDim S8x22536x1 ![0, 1] bcast_S8x22536_S8x22536x1_0_1 k)) shapeCasts_S8x22536x1_S8x22536x1x1

theorem clsIdx_apply (k : IVec S8x22536 32) (b : Fin 8) (p : Fin 22536) (h : (k (ix2 b p)).toNat < 81) : clsIdx k (ix4 b p 0 0) = k (ix2 b p) := by
  unfold clsIdx
  pointwise []
  exact Routing.wrap_of_lt _ _ (by omega)

/-- The log-probability of a prior's class. -/
theorem logp_form (x : FVec Ideal S8x22536x81 .f32) (k : IVec S8x22536 32) (b : Fin 8) (p : Fin 22536) (h : (k (ix2 b p)).toNat < 81) :
    (shapeCast S8x22536 (select (Host.reduce IntOp.andi (andi (cmpi .sge (clsIdx k) (broadcastInDim S8x22536x1x1 ![] bcast_S_S8x22536x1x1 (constantI S_ 32 0#32))) (cmpi .sle (clsIdx k) (broadcastInDim S8x22536x1x1 ![0, 1, 2, 3] bcast_S1x1x1x1_S8x22536x1x1_0_1_2_3 (broadcastInDim S1x1x1x1 ![3] bcast_S1_S1x1x1x1_3 (constantI S1 32 80#32))))) (constantI S_ 1 1#1) reducesTo_S8x22536x1x1_S8x22536x1_d3 h_S_) (Host.gather gather_S8x22536x81_S8x22536x1x1_S8x22536x1_n_2_01_01_2_3_111 (subf (shifted x) (broadcastInDim S8x22536x81 ![0, 1, 2] bcast_S8x22536x1_S8x22536x81_0_1_2 (Host.log (broadcastInDim S8x22536x1 ![0, 1] bcast_S8x22536_S8x22536x1_0_1 (Host.reduceAdd (Host.exp (shifted x)) (constant S_ .f32 0x00000000#32) reducesTo_S8x22536x81_S8x22536_d2 h_S_))))) (clsIdx k)) (broadcastInDim S8x22536x1 ![] bcast_S_S8x22536x1 (constant (F := Ideal) S_ .f32 0x7FC00000#32 : S_.Idx → EReal))) shapeCasts_S8x22536x1_S8x22536 (ix2 b p) : EReal)
      = logp (fun i => x (ix3 b p i)) (toClass (k (ix2 b p))) := by
  have hk := clsIdx_apply k b p h
  have hi : (k (ix2 b p)).toInt = (k (ix2 b p)).toNat := BitVec.toInt_eq_toNat_of_lt (by omega)
  have hr : Host.reduce IntOp.andi (andi (cmpi .sge (clsIdx k) (broadcastInDim S8x22536x1x1 ![] bcast_S_S8x22536x1x1 (constantI S_ 32 0#32))) (cmpi .sle (clsIdx k) (broadcastInDim S8x22536x1x1 ![0, 1, 2, 3] bcast_S1x1x1x1_S8x22536x1x1_0_1_2_3 (broadcastInDim S1x1x1x1 ![3] bcast_S1_S1x1x1x1_3 (constantI S1 32 80#32))))) (constantI S_ 1 1#1) reducesTo_S8x22536x1x1_S8x22536x1_d3 h_S_ (ix3 b p 0) = 1#1 := by
    refine (Host.reduce_eq_fold_single IntOp.andi _ _ _ reduces_unit _ _).trans ?_
    refine (Finset.fold_congr (g := fun _ => 1#1) fun i _ => ?_).trans (by decide)
    obtain rfl : i = (0 : Fin 1) := Subsingleton.elim (α := Fin 1) _ _
    refine (congrArg (andi _ _) (lift_unit reduces_unit b p 0)).trans ?_
    pointwise []
    rw [hk]
    simp only [IntOp.cmpi, IntOp.andi, BitVec.sle]
    rw [hi, show (0#32 : BitVec 32).toInt = 0 from rfl, show (80#32 : BitVec 32).toInt = 80 from rfl, decide_eq_true (by omega), decide_eq_true (by omega)]
    rfl
  have hl := logsoftmax_apply x b p
  generalize Host.reduce IntOp.andi _ (constantI S_ 1 1#1) reducesTo_S8x22536x1x1_S8x22536x1_d3 h_S_ = R at hr ⊢
  generalize subf (shifted x) _ = y at hl ⊢
  have hg := gather_score y (clsIdx k) ⟨(k (ix2 b p)).toNat, h⟩ b p (by rw [hk, hi])
  generalize Host.gather gScore y (clsIdx k) = G at hg ⊢
  unfold toClass
  rw [dif_pos h, ← hl, ← hg]
  pointwise []
  rw [hr, sel_pos rfl]

variable (V0 : Valuation τ sig (Elt Ideal)) (hF : (argsR V0).Fit)
include hF

theorem cls_lt (b : Fin 8) (p : Fin 22536) : (res_main_v126 V0 (ix2 b p)).toNat < 81 := by
  have h1 : (1 : ℤ) ≤ ((argsR V0).cls b p).toInt := hF.lo b _
  have h2 : ((argsR V0).cls b p).toInt < 81 := hF.hi b _
  rw [ref_cls V0 hF]
  split
  · have := BitVec.toInt_eq_toNat_cond ((argsR V0).cls b p)
    have := ((argsR V0).cls b p).isLt
    split at * <;> omega
  · decide

theorem ref_logp (b : Fin 8) (p : Fin 22536) : (res_main_v186 V0 (ix2 b p) : EReal)
    = logp (fun i => (argsR V0).sc (ix3 b p i)) (toClass (res_main_v126 V0 (ix2 b p))) :=
  logp_form (V0 (Proc.devRef .tc main_arg1)) (res_main_v126 V0) b p (cls_lt V0 hF b p)

end Cert.Proof

end
-- ==== Proof.FocalMath.lean ====
/-
  The arithmetic of the loss over the extended reals: log-probabilities, the square of a probability's complement, the
  focal term in the kernel's and in the reference's form, and the tenth.
-/
module

public import proofs.«01_k».proof.Proof.Spec
public import Idealize.ShloMosaic.Lib.Pointwise
public import Idealize.ShloMosaic.PureOps.Ideal.Laws
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
theorem exp_bot : Ideal.exp ⊥ = 0 := rfl
theorem exp_coe (r : ℝ) : Ideal.exp (r : EReal) = (Real.exp r : EReal) := rfl
theorem log_top : Ideal.log ⊤ = ⊤ := rfl
theorem log_coe (r : ℝ) : Ideal.log (r : EReal) = if r ≤ 0 then ⊥ else (Real.log r : EReal) := rfl
theorem pow_coe (r q : ℝ) : Ideal.pow (r : EReal) (q : EReal) = (Real.rpow r q : EReal) := rfl

theorem log_ne_bot {y : EReal} (h : 0 < y) : Ideal.log y ≠ ⊥ := by
  induction y with
  | bot => exact absurd h (by simp)
  | top => rw [log_top]; simp
  | coe r =>
    have hr : (0 : ℝ) < r := by exact_mod_cast h
    rw [log_coe, if_neg (not_le.mpr hr)]
    exact EReal.coe_ne_bot _

theorem exp_nonneg (x : EReal) : 0 ≤ Ideal.exp x := by
  induction x with
  | bot => exact le_rfl
  | top => exact le_top
  | coe r => rw [exp_coe]; exact_mod_cast (Real.exp_pos r).le

theorem sub_top_le (x : Fin 81 → EReal) (k : Fin 81) : x k - top x ≤ 0 := by
  have h : x k ≤ top x := (Finset.le_fold_max _).mpr (Or.inr ⟨k, Finset.mem_univ _, le_rfl⟩)
  generalize top x = m at h
  induction m with
  | bot => rw [le_bot_iff.mp h]; simp
  | top => simp
  | coe r =>
    refine (EReal.sub_le_sub h le_rfl).trans ?_
    rw [← EReal.coe_sub]; simp

/-- A log-probability is not `+∞`. -/
theorem logp_ne_top (x : Fin 81 → EReal) (k : Fin 81) : logp x k ≠ ⊤ := by
  unfold logp
  have hs := sub_top_le x k
  have hsum : 0 ≤ ∑ i, Ideal.exp (x i - top x) := Finset.sum_nonneg fun i _ => exp_nonneg _
  have hle : Ideal.exp (x k - top x) ≤ ∑ i, Ideal.exp (x i - top x) :=
    Finset.single_le_sum (f := fun i => Ideal.exp (x i - top x)) (fun i _ => exp_nonneg _) (Finset.mem_univ k)
  generalize (∑ i, Ideal.exp (x i - top x)) = S at hsum hle
  generalize x k - top x = s at hs hle
  induction s with
  | bot => simp
  | top => exact absurd hs (by simp)
  | coe r =>
    have hp : 0 < S := lt_of_lt_of_le (by rw [exp_coe]; exact_mod_cast Real.exp_pos r) hle
    have hl := log_ne_bot hp
    generalize Ideal.log S = L at hl
    induction L with
    | bot => exact absurd rfl hl
    | top => simp
    | coe q => rw [← EReal.coe_sub]; exact EReal.coe_ne_top _

/-- The square of the complement of a probability. -/
theorem pow_two_exp {l : EReal} (h : l ≠ ⊤) :
    Ideal.pow (1 - Ideal.exp l) (Ideal.ofBits .f32 0x40000000#32) = (1 - Ideal.exp l) * (1 - Ideal.exp l) := by
  obtain ⟨r, hr⟩ : ∃ r : ℝ, 1 - Ideal.exp l = (r : EReal) := by
    induction l with
    | bot => exact ⟨1, by rw [exp_bot]; simp⟩
    | top => exact absurd rfl h
    | coe q => exact ⟨1 - Real.exp q, by rw [exp_coe, EReal.coe_sub]; rfl⟩
  rw [hr, Consts.of_two, ← EReal.coe_mul, pow_coe]
  have : Real.rpow r 2 = r * r := by
    exact (Real.rpow_two r).trans (pow_two r)
  rw [this]

theorem neg_quarter : -(Ideal.ofBits .f32 0x3E800000#32) = Ideal.ofBits .f32 0xBE800000#32 := by
  rw [Consts.of_quarter, Consts.of_neg_quarter, EReal.coe_neg]
theorem neg_three_quarters : -(Ideal.ofBits .f32 0x3F400000#32) = Ideal.ofBits .f32 0xBF400000#32 := by
  rw [Consts.of_three_quarters, Consts.of_neg_three_quarters, EReal.coe_neg]

/-- Division by ten is the product with a tenth. -/
theorem div_ten (x : EReal) : Ideal.div x (Ideal.ofBits .f32 0x41200000#32) = x * (Named.named (F := Ideal) (φ := .f32) κ "tenth" 0x3DCCCCCD#32 : EReal) := by
  have : (Named.named (F := Ideal) (φ := .f32) κ "tenth" 0x3DCCCCCD#32 : EReal) = ((1 / 10 : ℝ) : EReal) := rfl
  rw [this, Consts.of_ten]
  unfold Ideal.div
  rw [if_neg (by exact_mod_cast (by norm_num : (10 : ℝ) ≠ 0)), ← EReal.coe_inv]
  norm_num

end Cert.Proof

end
-- ==== Proof.RefTotals.lean ====
/-
The reference's last sums read at one place: the box distance's terms, the focal terms, the mask of
the counted priors, and the totals over all priors.
-/
module

public import proofs.«01_k».proof.Proof.RefLogp
public import proofs.«01_k».proof.Proof.FocalMath
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The box distance's terms as the reference writes them. -/
def offs (bx : FVec Ideal S8x22536x4 .f32) (pri : FVec Ideal S22536x4 .f32) (wh : FVec Ideal S22536x2 .f32) : FVec Ideal S8x22536x4 .f32 :=
  concatenate S8x22536x4 2 [⟨S8x22536x2, (Host.divf (subf (Host.divf (addf (extractStridedSlice S8x22536x2 ![0, 0, 0] bx slices_S8x22536x4_S8x22536x2_0_0_0) (extractStridedSlice S8x22536x2 ![0, 0, 2] bx slices_S8x22536x4_S8x22536x2_0_0_2)) (broadcastInDim S8x22536x2 ![] bcast_S_S8x22536x2 (constant S_ .f32 0x40000000#32))) (broadcastInDim S8x22536x2 ![0, 1, 2] bcast_S1x22536x2_S8x22536x2_0_1_2 (broadcastInDim S1x22536x2 ![1, 2] bcast_S22536x2_S1x22536x2_1_2 (extractStridedSlice S22536x2 ![0, 0] pri slices_S22536x4_S22536x2_0_0)))) (broadcastInDim S8x22536x2 ![0, 1, 2] bcast_S1x22536x2_S8x22536x2_0_1_2 (broadcastInDim S1x22536x2 ![1, 2] bcast_S22536x2_S1x22536x2_1_2 (Host.divf wh (broadcastInDim S22536x2 ![] bcast_S_S22536x2 (constant S_ .f32 0x41200000#32))))))⟩, ⟨S8x22536x2, (mulf (Host.log (Host.divf (subf (extractStridedSlice S8x22536x2 ![0, 0, 2] bx slices_S8x22536x4_S8x22536x2_0_0_2) (extractStridedSlice S8x22536x2 ![0, 0, 0] bx slices_S8x22536x4_S8x22536x2_0_0_0)) (broadcastInDim S8x22536x2 ![0, 1, 2] bcast_S1x22536x2_S8x22536x2_0_1_2 (broadcastInDim S1x22536x2 ![1, 2] bcast_S22536x2_S1x22536x2_1_2 wh)))) (broadcastInDim S8x22536x2 ![] bcast_S_S8x22536x2 (constant S_ .f32 0x40A00000#32)))⟩] concatenates_S8x22536x2_S8x22536x2_S8x22536x4_d2

section Offsets

variable (bx : FVec Ideal S8x22536x4 .f32) (pri : FVec Ideal S22536x4 .f32) (wh : FVec Ideal S22536x2 .f32) (b : Fin 8) (p : Fin 22536)

theorem offs0 : (offs bx pri wh (ix3 b p 0) : EReal) = Ideal.div (Ideal.div (bx (ix3 b p 0) + bx (ix3 b p 2)) (Ideal.ofBits .f32 0x40000000#32) - pri (ix2 p 0))
    (Ideal.div (wh (ix2 p 0)) (Ideal.ofBits .f32 0x41200000#32)) := by unfold offs; pointwise []
theorem offs1 : (offs bx pri wh (ix3 b p 1) : EReal) = Ideal.div (Ideal.div (bx (ix3 b p 1) + bx (ix3 b p 3)) (Ideal.ofBits .f32 0x40000000#32) - pri (ix2 p 1))
    (Ideal.div (wh (ix2 p 1)) (Ideal.ofBits .f32 0x41200000#32)) := by unfold offs; pointwise []
theorem offs2 : (offs bx pri wh (ix3 b p 2) : EReal) = Ideal.log (Ideal.div (bx (ix3 b p 2) - bx (ix3 b p 0)) (wh (ix2 p 0))) * Ideal.ofBits .f32 0x40A00000#32 := by
  unfold offs; pointwise []
theorem offs3 : (offs bx pri wh (ix3 b p 3) : EReal) = Ideal.log (Ideal.div (bx (ix3 b p 3) - bx (ix3 b p 1)) (wh (ix2 p 1))) * Ideal.ofBits .f32 0x40A00000#32 := by
  unfold offs; pointwise []

/-- The sum of a prior's four terms is its box distance. -/
theorem dist_form (loc : FVec Ideal S8x22536x4 .f32) (hw0 : (wh (ix2 p 0) : EReal) = pri (ix2 p 2)) (hw1 : (wh (ix2 p 1) : EReal) = pri (ix2 p 3)) :
    (∑ k : Fin 4, FloatOps.absf (F := Ideal) (φ := .f32) (subf loc (offs bx pri wh) (ix3 b p k)) : EReal)
      = distS (F := Ideal) (pri (ix2 p 0)) (pri (ix2 p 1)) (pri (ix2 p 2)) (pri (ix2 p 3)) (loc (ix3 b p 0)) (loc (ix3 b p 1)) (loc (ix3 b p 2)) (loc (ix3 b p 3))
          (bx (ix3 b p 0)) (bx (ix3 b p 1)) (bx (ix3 b p 2)) (bx (ix3 b p 3)) := by
  have e0 := offs0 bx pri wh b p
  have e1 := offs1 bx pri wh b p
  have e2 := offs2 bx pri wh b p
  have e3 := offs3 bx pri wh b p
  rw [hw0, div_two, div_ten] at e0
  rw [hw1, div_two, div_ten] at e1
  rw [hw0] at e2
  rw [hw1] at e3
  have hs : ∀ k, subf loc (offs bx pri wh) (ix3 b p k) = FloatOps.subf (loc (ix3 b p k)) (offs bx pri wh (ix3 b p k)) := fun _ => rfl
  rw [Fin.sum_univ_four, hs, hs, hs, hs, e0, e1, e2, e3]
  rfl

end Offsets

section Sums

/-- The total of the distances' terms, where the mask is on. -/
theorem totD_form (x : FVec Ideal S8x22536x4 .f32) (m : FVec Ideal S8x22536 .f32) :
    (Host.reduceAdd (mulf (Host.absf x) (broadcastInDim S8x22536x4 ![0, 1, 2] bcast_S8x22536x1_S8x22536x4_0_1_2 (broadcastInDim S8x22536x1 ![0, 1] bcast_S8x22536_S8x22536x1_0_1 m))) (constant S_ .f32 0x00000000#32) reducesTo_S8x22536x4_S_d0_1_2 h_S_ ix0 : EReal)
      = ∑ b, ∑ p, ∑ k, FloatOps.absf (F := Ideal) (φ := .f32) (x (ix3 b p k)) * m (ix2 b p) := by
  pointwise []

theorem tot_form (x : FVec Ideal S8x22536 .f32) :
    (Host.reduceAdd x (constant S_ .f32 0x00000000#32) reducesTo_S8x22536_S_d0_1 h_S_ ix0 : EReal) = ∑ b, ∑ p, x (ix2 b p) := by
  pointwise []

/-- The focal terms as the reference writes them. -/
theorem focal_form (x : FVec Ideal S8x22536 .f32) (q : IVec S8x22536 1) (m : FVec Ideal S8x22536 .f32) (b : Fin 8) (p : Fin 22536) :
    (mulf (mulf (mulf (Host.negf (select q (broadcastInDim S8x22536 ![] bcast_S_S8x22536 (constant S_ .f32 0x3E800000#32)) (broadcastInDim S8x22536 ![] bcast_S_S8x22536 (constant S_ .f32 0x3F400000#32)))) (Host.powf (subf (broadcastInDim S8x22536 ![] bcast_S_S8x22536 (constant S_ .f32 0x3F800000#32)) (Host.exp x)) (broadcastInDim S8x22536 ![] bcast_S_S8x22536 (constant S_ .f32 0x40000000#32)))) x) m (ix2 b p) : EReal)
      = -(Scalar.select (q (ix2 b p)) (Ideal.ofBits .f32 0x3E800000#32) (Ideal.ofBits .f32 0x3F400000#32)) * Ideal.pow (1 - Ideal.exp (x (ix2 b p))) (Ideal.ofBits .f32 0x40000000#32) * x (ix2 b p) * m (ix2 b p) := by
  pointwise []

/-- The counted priors as the reference finds them. -/
theorem mask_form (v : FVec Ideal S8x22536 .f32) (l : IVec S8x22536 32) (q : IVec S8x22536 1) (b : Fin 8) (p : Fin 22536) :
    (uitofp (F := Ideal) .f32 (ori q (cmpi .eq (select (cmpf .olt v (broadcastInDim S8x22536 ![] bcast_S_S8x22536 (constant S_ .f32 0x3ECCCCCD#32))) (broadcastInDim S8x22536 ![] bcast_S_S8x22536 (constantI S_ 32 4294967295#32)) l) (broadcastInDim S8x22536 ![] bcast_S_S8x22536 (constantI S_ 32 4294967295#32)))) (ix2 b p) : EReal)
      = FloatOps.uitofp (F := Ideal) .f32 (IntOp.ori (q (ix2 b p)) (IntOp.cmpi .eq (if v (ix2 b p) < Ideal.ofBits .f32 0x3ECCCCCD#32 then 4294967295#32 else l (ix2 b p)) 4294967295#32)) := by
  pointwise []

end Sums

end Cert.Proof

end
-- ==== Proof.RefLoss.lean ====
/-
  The reference's result is the loss.
-/
module

public import proofs.«01_k».proof.Proof.RefTotals
@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem bit_of_not {b : BitVec 1} (h : ¬ b = 1#1) : b = 0#1 := by
  revert b; decide
theorem select_one {α : Type} (a b : α) : Scalar.select 1#1 a b = a := rfl
theorem select_zero {α : Type} (a b : α) : Scalar.select 0#1 a b = b := rfl
theorem uitofp_one : @Eq EReal (FloatOps.uitofp (F := Ideal) .f32 1#1) 1 := by
  change ((((1#1 : BitVec 1).toNat : ℕ) : ℝ) : EReal) = 1
  norm_num
theorem uitofp_zero : @Eq EReal (FloatOps.uitofp (F := Ideal) .f32 0#1) 0 := by
  change ((((0#1 : BitVec 1).toNat : ℕ) : ℝ) : EReal) = 0
  norm_num

/-- The two ratios of four totals. -/
theorem ratios (a b c d : FVec Ideal S_ .f32) {tf tm td tp : EReal} (ha : @Eq EReal (a ix0) tf) (hb : @Eq EReal (b ix0) tm) (hc : @Eq EReal (c ix0) td) (hd : @Eq EReal (d ix0) tp) :
    @Eq EReal (addf (Host.divf a (maximumf b (constant S_ .f32 0x3F800000#32))) (mulf (constant S_ .f32 0x3F800000#32) (Host.divf c (maximumf (mulf d (constant S_ .f32 0x40800000#32)) (constant S_ .f32 0x3F800000#32)))) ix0)
      (Ideal.div tf (max tm 1) + Ideal.div td (max (tp * Ideal.ofBits .f32 0x40800000#32) 1)) := by
  subst ha hb hc hd
  pointwise []

variable (V0 : Valuation τ sig (Elt Ideal)) (hF : (argsR V0).Fit)

include hF

open Classical in
/-- The mask of the positive priors. -/
theorem ref_mask_pos (b : Fin 8) (p : Fin 22536) : @Eq EReal (res_main_v172 V0 (ix2 b p)) (if (argsR V0).pos b p then 1 else 0) := by
  have h : @Eq EReal (res_main_v172 V0 (ix2 b p)) (FloatOps.uitofp (F := Ideal) .f32 (res_main_v169 V0 (ix2 b p))) := rfl
  rw [h]
  by_cases hp : (argsR V0).pos b p
  · rw [if_pos hp, (ref_pos V0 hF b p).mpr hp]
    exact uitofp_one
  · rw [if_neg hp, bit_of_not (fun e => hp ((ref_pos V0 hF b p).mp e))]
    exact uitofp_zero

open Classical in
/-- The mask of the counted priors. -/
theorem ref_mask (b : Fin 8) (p : Fin 22536) : @Eq EReal (res_main_v198 V0 (ix2 b p)) (if (argsR V0).pos b p ∨ (argsR V0).neg b p then 1 else 0) := by
  refine (mask_form (res_main_v108 V0) (res_main_v123 V0) (res_main_v169 V0) b p).trans ?_
  have hl : (1 : ℤ) ≤ ((argsR V0).cls b p).toInt := hF.lo b _
  have hv : (@LT.lt EReal _ (res_main_v108 V0 (ix2 b p)) (Ideal.ofBits .f32 0x3ECCCCCD#32)) ↔ (argsR V0).neg b p := by
    rw [ref_ov V0 b p]; exact Iff.rfl
  rw [ref_lab V0 b p]
  have hne : (argsR V0).cls b p ≠ 4294967295#32 := fun e => by
    rw [e] at hl; exact absurd hl (by decide)
  by_cases hp : (argsR V0).pos b p
  · rw [if_pos (Or.inl hp), (ref_pos V0 hF b p).mpr hp]
    have : ∀ x : BitVec 1, IntOp.ori 1#1 x = 1#1 := by decide
    rw [this]
    exact uitofp_one
  · rw [bit_of_not (fun e => hp ((ref_pos V0 hF b p).mp e))]
    by_cases hn : (argsR V0).neg b p
    · rw [if_pos (Or.inr hn), if_pos (hv.mpr hn)]
      exact uitofp_one
    · rw [if_neg (not_or.mpr ⟨hp, hn⟩), if_neg (fun e => hn (hv.mp e))]
      have : IntOp.cmpi .eq ((argsR V0).cls b p) 4294967295#32 = 0#1 := by
        change BitVec.ofBool ((argsR V0).cls b p == 4294967295#32) = 0#1
        rw [beq_eq_false_iff_ne.mpr hne]
        rfl
      rw [this]
      exact uitofp_zero

/-- The focal terms. -/
theorem ref_focal (b : Fin 8) (p : Fin 22536) :
    (-(Scalar.select (res_main_v169 V0 (ix2 b p)) (Ideal.ofBits .f32 0x3E800000#32) (Ideal.ofBits .f32 0x3F400000#32)) * Ideal.pow (1 - Ideal.exp (res_main_v186 V0 (ix2 b p))) (Ideal.ofBits .f32 0x40000000#32) * res_main_v186 V0 (ix2 b p) * res_main_v198 V0 (ix2 b p) : EReal)
      = (argsR V0).focal b p := by
  rw [ref_logp V0 hF b p, ref_mask V0 hF b p, pow_two_exp (logp_ne_top _ _), ref_cls V0 hF b p]
  unfold Args.focal focalS
  by_cases hp : (argsR V0).pos b p
  · rw [if_pos (Or.inl hp), if_pos hp, if_pos hp, mul_one, (ref_pos V0 hF b p).mpr hp, select_one, neg_quarter]
  · rw [if_neg hp, if_neg hp, bit_of_not (fun e => hp ((ref_pos V0 hF b p).mp e)), select_zero, neg_three_quarters]
    by_cases hn : (argsR V0).neg b p
    · rw [if_pos (Or.inr hn), if_pos hn, mul_one]
      rfl
    · rw [if_neg (not_or.mpr ⟨hp, hn⟩), if_neg hn, mul_zero]

open Classical in
/-- The distances. -/
theorem ref_dist (b : Fin 8) (p : Fin 22536) :
    (∑ k : Fin 4, FloatOps.absf (F := Ideal) (φ := .f32) (subf (V0 (Proc.devRef .tc main_arg0)) (offs (res_main_v144 V0) (V0 (Proc.devRef .tc main_arg3)) (res_main_v1 V0)) (ix3 b p k)) * res_main_v172 V0 (ix2 b p) : EReal)
      = if (argsR V0).pos b p then (argsR V0).dist b p else 0 := by
  have hd := dist_form (res_main_v144 V0) (V0 (Proc.devRef .tc main_arg3)) (res_main_v1 V0) b p (V0 (Proc.devRef .tc main_arg0))
    (by unfold res_main_v1; pointwise []) (by unfold res_main_v1; pointwise [])
  have hb := ref_box V0 b p
  rw [hb 0, hb 1, hb 2, hb 3] at hd
  rw [ref_mask_pos V0 hF b p]
  by_cases hp : (argsR V0).pos b p
  · rw [if_pos hp, if_pos hp]
    refine (Finset.sum_congr rfl fun k _ => mul_one (M := EReal) _).trans ?_
    exact hd
  · rw [if_neg hp, if_neg hp]
    exact Finset.sum_eq_zero fun k _ => mul_zero (M₀ := EReal) _

/-- The reference's result. -/
theorem ref_loss (i : S_.Idx) :
    (addf (Host.divf (Host.reduceAdd (mulf (mulf (mulf (id (Host.negf (select (res_main_v169 V0) (broadcastInDim S8x22536 ![] bcast_S_S8x22536 (constant S_ .f32 0x3E800000#32)) (broadcastInDim S8x22536 ![] bcast_S_S8x22536 (constant S_ .f32 0x3F400000#32))))) (Host.powf (subf (broadcastInDim S8x22536 ![] bcast_S_S8x22536 (constant S_ .f32 0x3F800000#32)) (Host.exp (res_main_v186 V0))) (broadcastInDim S8x22536 ![] bcast_S_S8x22536 (constant S_ .f32 0x40000000#32)))) (res_main_v186 V0)) (res_main_v198 V0)) (constant S_ .f32 0x00000000#32) reducesTo_S8x22536_S_d0_1 h_S_) (maximumf (Host.reduceAdd (res_main_v198 V0) (constant S_ .f32 0x00000000#32) reducesTo_S8x22536_S_d0_1 h_S_) (constant S_ .f32 0x3F800000#32))) (mulf (constant S_ .f32 0x3F800000#32) (Host.divf (Host.reduceAdd (mulf (Host.absf (subf (V0 (Proc.devRef .tc main_arg0)) (offs (res_main_v144 V0) (V0 (Proc.devRef .tc main_arg3)) (res_main_v1 V0)))) (broadcastInDim S8x22536x4 ![0, 1, 2] bcast_S8x22536x1_S8x22536x4_0_1_2 (broadcastInDim S8x22536x1 ![0, 1] bcast_S8x22536_S8x22536x1_0_1 (res_main_v172 V0)))) (constant S_ .f32 0x00000000#32) reducesTo_S8x22536x4_S_d0_1_2 h_S_) (maximumf (mulf (Host.reduceAdd (res_main_v172 V0) (constant S_ .f32 0x00000000#32) reducesTo_S8x22536_S_d0_1 h_S_) (constant S_ .f32 0x40800000#32)) (constant S_ .f32 0x3F800000#32)))) i : EReal)
      = (argsR V0).loss := by
  obtain rfl : i = ix0 := Subsingleton.elim _ _
  have eF := (tot_form _).trans (Finset.sum_congr rfl fun b _ => Finset.sum_congr rfl fun p _ =>
    (focal_form (res_main_v186 V0) (res_main_v169 V0) (res_main_v198 V0) b p).trans (ref_focal V0 hF b p))
  have eM := (tot_form (res_main_v198 V0)).trans (Finset.sum_congr rfl fun b _ => Finset.sum_congr rfl fun p _ => ref_mask V0 hF b p)
  have eP := (tot_form (res_main_v172 V0)).trans (Finset.sum_congr rfl fun b _ => Finset.sum_congr rfl fun p _ => ref_mask_pos V0 hF b p)
  have eD := (totD_form (subf (V0 (Proc.devRef .tc main_arg0)) (offs (res_main_v144 V0) (V0 (Proc.devRef .tc main_arg3)) (res_main_v1 V0))) (res_main_v172 V0)).trans
    (Finset.sum_congr rfl fun b _ => Finset.sum_congr rfl fun p _ => ref_dist V0 hF b p)
  exact ratios _ _ _ _ eF eM eD eP

end Cert.Proof

end
-- ==== Proof.PreFit.lean ====
/-
  What the precondition gives: every label is a class other than the background, and every object has a prior whose
  overlap with it is at least zero.
-/
module

public import proofs.«01_k».proof.Proof.RefIou
public import proofs.«01_k».proof.Pre_well_posed
public import Idealize.ShloMosaic.Lib.ReduceAll
@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- A left fold by `or` over bits that came out 1 started at 1 or met a 1. -/
theorem foldl_or {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_or f l _ h with h | ⟨n, hn, e⟩
    · rcases IntOp.ori_eq_one.1 h with h | h
      · exact .inl h
      · exact .inr ⟨a, List.mem_cons_self .., h⟩
    · exact .inr ⟨n, List.mem_cons_of_mem _ hn, e⟩

/-- A reduction by `or` from 0 that is 1 somewhere met a 1 at an index that reduces there. -/
theorem reduce_or {s t u : Shape} {axes : List (Fin s.rank)} (x : s.Idx → BitVec 1) (init : u.Idx → BitVec 1) (h : s.ReducesTo axes t) (hu : 0 < u.numel)
    (h0 : init (Shape.Idx.first hu) = 0#1) (j : t.Idx) (e : Host.reduce IntOp.ori x init h hu j = 1#1) : ∃ i, h.drop i = j ∧ x i = 1#1 := by
  rw [Host.reduce_eq_foldl] at e
  rcases foldl_or x _ _ e with e | ⟨i, hi, e⟩
  · rw [h0] at e; exact absurd e (by decide)
  · exact ⟨i, by simpa using (List.mem_filter.1 hi).2, e⟩

open Cert.Pre_well_posed in
/-- What the precondition says of the arguments. -/
theorem fit_of_pre [Cert.Pre_well_posed.Facts] (A : Args) (a0 : FVec Ideal Pre_well_posed.S8x22536x4 .f32)
    (h : Cert.Pre_well_posed.fn (F := Ideal) a0 A.sc A.box A.pri A.lab = fun _ => 1#1) : A.Fit := by
  have h := congrFun h ix0
  unfold Cert.Pre_well_posed.fn Cert.Pre_well_posed.fn_part1 Cert.Pre_well_posed.fn_part2 Cert.Pre_well_posed.fn_part3 at h
  dsimp only at h
  obtain ⟨hl, hj⟩ := IntOp.andi_eq_one.1 h
  have hl := fun i => IntOp.andi_eq_one.1 (Host.reduce_andi_all _ _ _ _ _ hl i)
  have hj := fun i => reduce_or _ _ _ _ rfl _ (Host.reduce_andi_all _ _ _ _ _ hj i)
  refine ⟨fun b o => ?_, fun b o => ?_, fun b o => ?_⟩
  · have e := IntOp.cmpi_sge.1 (hl (ix2 b o)).1
    exact e
  · have e := IntOp.cmpi_slt.1 (hl (ix2 b o)).2
    exact e
  · obtain ⟨i, hd, e⟩ := hj (ix2 b o)
    obtain ⟨b', o', p, rfl⟩ : ∃ (b : Fin 8) (o : Fin 20) (p : Fin 22536), i = ix3 b o p := ⟨i 0, i 1, i 2, eq_ix3 i⟩
    have hb : b' = b := congrFun hd 0
    have ho : o' = o := congrFun hd 1
    subst hb ho
    refine ⟨p, ?_⟩
    have e2 := (Ideal.cmp_oge_eq_one _ _).1 e
    refine (le_of_eq ?_).trans (e2.trans (le_of_eq ?_))
    · change (0 : EReal) = Ideal.ofBits .f32 0#32
      pointwise
    · simp only [Cert.Pre_well_posed.fn_clip, id_eq]
      refine Eq.trans ?_ (iouS_ref _ _ _ _ _ _ _ _)
      pointwise

end Cert.Proof

end
-- ==== Proof.Value.lean ====
/-
  Kernel and reference compute the same loss: each run's result is the loss of its arguments, and the arguments agree.
-/
module

public import proofs.«01_k».proof.Defs
public import proofs.«01_k».proof.Proof.KerArgs
public import proofs.«01_k».proof.Proof.RefLoss
public import proofs.«01_k».proof.Proof.PreFit
public import proofs.«01_k».proof.Proof.Gen.Pre_well_posed

@[expose] public section

set_option maxRecDepth 16384

noncomputable section

namespace Cert.Proof

open Idealize.ShloMosaic Idealize.ShloMosaic.TcCoe Idealize.SL.Sem

/-- The reference's arguments are the kernel's where the two memories agree on them. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    argsR (StableHlo.launchContents m' c) = argsK m c := by
  obtain ⟨h0, h1, h2, h3, h4⟩ := h
  have e : argsR (StableHlo.launchContents m' c) = ⟨m' ((c.tc : Thread Cert.ReferenceIdeal.nD Cert.ReferenceIdeal.τ).loc Cert.ReferenceIdeal.main_arg0),
    m' ((c.tc : Thread Cert.ReferenceIdeal.nD Cert.ReferenceIdeal.τ).loc Cert.ReferenceIdeal.main_arg1),
    m' ((c.tc : Thread Cert.ReferenceIdeal.nD Cert.ReferenceIdeal.τ).loc Cert.ReferenceIdeal.main_arg2),
    m' ((c.tc : Thread Cert.ReferenceIdeal.nD Cert.ReferenceIdeal.τ).loc Cert.ReferenceIdeal.main_arg3),
    m' ((c.tc : Thread Cert.ReferenceIdeal.nD Cert.ReferenceIdeal.τ).loc Cert.ReferenceIdeal.main_arg4)⟩ := rfl
  rw [e, h0, h1, h2, h3, h4]
  rfl

theorem algebraic : Cert.algebraic_KernelIdeal_ReferenceIdeal_pre_well_posed := by
  intro m g m' g' hpre hargs
  have hF : ∀ c, (argsK m c).Fit := fun c => fit_of_pre (argsK m c) _ (hpre c)
  refine ⟨fun c _ => (argsK m c).loss, ?_, ?_⟩
  · refine (θ_run Cert.KernelIdeal.defs _ _).mono (fun r h c => ?_)
      (run m (fun c => Inv (argsK m c)) g fun c => keeps (reads2 c (hF c)) (hF c))
    obtain ⟨a0, a1, a2, a3, a4, X, hX⟩ := h.1 c
    refine ⟨?_, a0, a1, a2, a3, a4⟩
    rw [hX]
    exact funext fun i => out_loss c (hF c) _ rfl X i
  · refine (θ_run Cert.ReferenceIdeal.defs _ _).mono (fun r h c => ⟨?_, (h c).2⟩) (Cert.ReferenceIdeal.Value.run (F := Ideal) m' g')
    have e := args_agree m m' c (hargs c)
    refine (h c).1.trans (funext fun i => ?_)
    exact (ref_loss (StableHlo.launchContents m' c) (e ▸ hF c) i).trans (congrArg Args.loss e)

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_well_posed
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_well_posed.Gen.facts,
    frame_p, frame_pi, fun m g _ => frame_pi m g trivial, frame_ri, fun m g _ => frame_ri m g trivial, preserves, algebraic⟩

end Cert.Proof

end
